-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![16, 512, 64, 64]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![16, 512, 64, 64]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .f32) (main_arg1 : FVec F S768x512 .f32) (main_arg2 : FVec F S2x512x64x64 .f32) (main_arg3 : FVec F S2x512x64x64 .f32) (main_arg4 : FVec F S512x768 .f32) : IVec S2x512x768 1 × IVec S768x512 1 × IVec S2x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Pre_finite_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  bcast_S_S768x4096 : S_.BroadcastsInDim S768x4096 (![] : Fin 0 → Fin S768x4096.rank)
  bcast_S_S16x512x64x64 : S_.BroadcastsInDim S16x512x64x64 (![] : Fin 0 → Fin S16x512x64x64.rank)

variable [Facts]

def fn {F : FTy → Type} [FloatOps F] (main_arg0 : FVec F S16x512x768 .f32) (main_arg1 : FVec F S768x4096 .f32) (main_arg2 : FVec F S16x512x64x64 .f32) (main_arg3 : FVec F S16x512x64x64 .f32) (main_arg4 : FVec F S4096x768 .f32) : IVec S16x512x768 1 × IVec S768x4096 1 × IVec S16x512x64x64 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S16x512x64x64 .f32 := Host.absf main_arg2
  let main_cst_1 : FVec F S_ .f32 := constant S_ .f32 0x7F800000#32
  let main_v7 : FVec F S16x512x64x64 .f32 := broadcastInDim S16x512x64x64 ![] bcast_S_S16x512x64x64 main_cst_1
  let main_v8 : IVec S16x512x64x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S2x768x512 : Shape := ⟨3, ![2, 768, 512]⟩
abbrev S2x2x2x8x512x64 : Shape := ⟨6, ![2, 2, 2, 8, 512, 64]⟩
abbrev S2x8x512x64 : Shape := ⟨4, ![2, 8, 512, 64]⟩
abbrev S2 : Shape := ⟨1, ![2]⟩
abbrev S2x2 : Shape := ⟨2, ![2, 2]⟩
abbrev S_ : Shape := ⟨0, ![]⟩
abbrev S1 : Shape := ⟨1, ![1]⟩
abbrev S1x768x512 : Shape := ⟨3, ![1, 768, 512]⟩
abbrev S1x512x768 : Shape := ⟨3, ![1, 512, 768]⟩
abbrev S1x1 : Shape := ⟨2, ![1, 1]⟩
abbrev S1x1x2x1x512x64 : Shape := ⟨6, ![1, 1, 2, 1, 512, 64]⟩
abbrev S2x512x64 : Shape := ⟨3, ![2, 512, 64]⟩
abbrev S2x512x1x64 : Shape := ⟨4, ![2, 512, 1, 64]⟩
abbrev S512x512 : Shape := ⟨2, ![512, 512]⟩
abbrev S512x64 : Shape := ⟨2, ![512, 64]⟩
abbrev S1x1x512x64 : Shape := ⟨4, ![1, 1, 512, 64]⟩
abbrev S1x1x1x1x512x64 : Shape := ⟨6, ![1, 1, 1, 1, 512, 64]⟩
abbrev S64x64 : Shape := ⟨2, ![64, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1x1x64x64 : Shape := ⟨4, ![1, 1, 64, 64]⟩

abbrev nBuf : Space → Nat
  | .hbm => 6
  | .vmem => 15
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S768x512, .bf16⟩
  | .local _ .vmem, ⟨5, _⟩ => ⟨S512x768, .bf16⟩
  | .local _ .vmem, ⟨6, _⟩ => ⟨S2x512x768, .bf16⟩
  | .local _ .vmem, ⟨7, _⟩ => ⟨S2x768x512, .bf16⟩
  | .local _ .vmem, ⟨8, _⟩ => ⟨S2x512x768, .bf16⟩
  | .local _ .vmem, ⟨9, _⟩ => ⟨S2x768x512, .bf16⟩
  | .local _ .vmem, ⟨10, _⟩ => ⟨S2x512x768, .bf16⟩
  | .local _ .vmem, ⟨11, _⟩ => ⟨S2x2x2x8x512x64, .f32⟩
  | .local _ .vmem, ⟨12, _⟩ => ⟨S2x2x2x8x512x64, .f32⟩
  | .local _ .vmem, ⟨13, _⟩ => ⟨S2x8x512x64, .f32⟩
  | .local _ .vmem, ⟨14, _⟩ => ⟨S2x8x512x64, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 5 28 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_36 : BitVec 32 := 1#32
  let v49 : BitVec 32 := Scalar.muli v25 c1_i32_36
  let v50 : BitVec 32 := Scalar.addi c0_i32_37 v49
  v50.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v57 : BitVec 32 := Scalar.muli v25 c1_i32_43
  let v58 : BitVec 32 := Scalar.addi c0_i32_44 v57
  v58.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_50 : BitVec 32 := 1#32
  let v65 : BitVec 32 := Scalar.muli v14 c1_i32_50
  let v66 : BitVec 32 := Scalar.addi c0_i32_51 v65
  v66.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_57 : BitVec 32 := 1#32
  let v73 : BitVec 32 := Scalar.muli v14 c1_i32_57
  let v74 : BitVec 32 := Scalar.addi c0_i32_58 v73
  v74.toNat
def k0_off1 (d0 : Dev nD) (c0_i32_62 : BitVec 32) : Fin 4 → Nat :=
  let c0_i32_96 : BitVec 32 := 0#32
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_61 : BitVec 32 := 8#32
  let v81 : BitVec 32 := Scalar.muli v2 c8_i32_61
  let v82 : BitVec 32 := Scalar.addi v81 c0_i32_62
  let c0_i32_98 : BitVec 32 := 0#32
  ![0, 0, v82.toNat, 0]
def k0_off2 (d0 : Dev nD) (c1_i32_265 : BitVec 32) (c0_i32_273 : BitVec 32) : Fin 4 → Nat :=
  let c0_i32_312 : BitVec 32 := 0#32
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_264 : BitVec 32 := 8#32
  let v209 : BitVec 32 := Scalar.addi v2 c8_i32_264
  let v210 : BitVec 32 := Scalar.subi v209 c1_i32_265
  let c8_i32_266 : BitVec 32 := 8#32
  let c0_i32_267 : BitVec 32 := 0#32
  let v211 : BitVec 1 := Scalar.cmpi .eq c8_i32_266 c0_i32_267
  let c1_i32_268 : BitVec 32 := 1#32
  let v212 : BitVec 32 := Scalar.select v211 c1_i32_268 c8_i32_266
  let v213 : BitVec 32 := Scalar.remsi v210 v212
  let c0_i32_270 : BitVec 32 := 0#32
  let v215 : BitVec 1 := Scalar.cmpi .slt v213 c0_i32_270
  let c0_i32_271 : BitVec 32 := 0#32
  let v216 : BitVec 1 := Scalar.cmpi .slt v212 c0_i32_271
  let v217 : BitVec 1 := Scalar.xori v215 v216
  let c0_i32_269 : BitVec 32 := 0#32
  let v214 : BitVec 1 := Scalar.cmpi .ne v213 c0_i32_269
  let v218 : BitVec 1 := Scalar.andi v217 v214
  let v219 : BitVec 32 := Scalar.addi v213 v212
  let v220 : BitVec 32 := Scalar.select v218 v219 v213
  let c8_i32_272 : BitVec 32 := 8#32
  let v221 : BitVec 32 := Scalar.muli v220 c8_i32_272
  let v222 : BitVec 32 := Scalar.addi v221 c0_i32_273
  let c0_i32_314 : BitVec 32 := 0#32
  ![0, 0, v222.toNat, 0]
def k0_off3 (d0 : Dev nD) (c0_i32_488 : BitVec 32) : Fin 4 → Nat :=
  let c0_i32_527 : BitVec 32 := 0#32
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_480 : BitVec 32 := 1#32
  let v349 : BitVec 32 := Scalar.addi v2 c1_i32_480
  let c8_i32_481 : BitVec 32 := 8#32
  let c0_i32_482 : BitVec 32 := 0#32
  let v350 : BitVec 1 := Scalar.cmpi .eq c8_i32_481 c0_i32_482
  let c1_i32_483 : BitVec 32 := 1#32
  let v351 : BitVec 32 := Scalar.select v350 c1_i32_483 c8_i32_481
  let v352 : BitVec 32 := Scalar.remsi v349 v351
  let c0_i32_485 : BitVec 32 := 0#32
  let v354 : BitVec 1 := Scalar.cmpi .slt v352 c0_i32_485
  let c0_i32_486 : BitVec 32 := 0#32
  let v355 : BitVec 1 := Scalar.cmpi .slt v351 c0_i32_486
  let v356 : BitVec 1 := Scalar.xori v354 v355
  let c0_i32_484 : BitVec 32 := 0#32
  let v353 : BitVec 1 := Scalar.cmpi .ne v352 c0_i32_484
  let v357 : BitVec 1 := Scalar.andi v356 v353
  let v358 : BitVec 32 := Scalar.addi v352 v351
  let v359 : BitVec 32 := Scalar.select v357 v358 v352
  let c8_i32_487 : BitVec 32 := 8#32
  let v360 : BitVec 32 := Scalar.muli v359 c8_i32_487
  let v361 : BitVec 32 := Scalar.addi v360 c0_i32_488
  let c0_i32_529 : BitVec 32 := 0#32
  ![0, 0, v361.toNat, 0]
@[reducible] def k0_t1_loop : Scf.Loop 32 :=
  let c0_i32_939 : BitVec 32 := 0#32
  let c16_i32 : BitVec 32 := 16#32
  let v656 : BitVec 32 := Scalar.addi c0_i32_939 c16_i32
  let c1_i32_940 : BitVec 32 := 1#32
  ⟨c0_i32_939, v656, c1_i32_940⟩
def k0_off4 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off5 (k0_t1 : Fin k0_t1_loop.trips) : Fin 6 → Nat :=
  let c0_4882 : Index := 0#32
  let c0_4883 : Index := 0#32
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![0, 0, v3315.toNat, v3316.toNat, 0, 0]
def k0_off6 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off7 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off8 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off9 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off10 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off11 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off12 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off13 (k0_t1 : Fin k0_t1_loop.trips) : Fin 4 → Nat :=
  let c0_i32_939 : BitVec 32 := 0#32
  let c1_i32_940 : BitVec 32 := 1#32
  let arg29 : BitVec 32 := Scf.iv c0_i32_939 c1_i32_940 k0_t1
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
def k0_off14 (d0 : Dev nD) (c1_i32_1258 : BitVec 32) (c0_i32_1267 : BitVec 32) : Fin 4 → Nat :=
  let c0_i32_1306 : BitVec 32 := 0#32
  let c0_i32_1307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v859 : BitVec 32 := Scalar.addi v2 c1_i32_1258
  let c1_i32_1259 : BitVec 32 := 1#32
  let v860 : BitVec 32 := Scalar.addi v859 c1_i32_1259
  let c8_i32_1260 : BitVec 32 := 8#32
  let c0_i32_1261 : BitVec 32 := 0#32
  let v861 : BitVec 1 := Scalar.cmpi .eq c8_i32_1260 c0_i32_1261
  let c1_i32_1262 : BitVec 32 := 1#32
  let v862 : BitVec 32 := Scalar.select v861 c1_i32_1262 c8_i32_1260
  let v863 : BitVec 32 := Scalar.remsi v860 v862
  let c0_i32_1264 : BitVec 32 := 0#32
  let v865 : BitVec 1 := Scalar.cmpi .slt v863 c0_i32_1264
  let c0_i32_1265 : BitVec 32 := 0#32
  let v866 : BitVec 1 := Scalar.cmpi .slt v862 c0_i32_1265
  let v867 : BitVec 1 := Scalar.xori v865 v866
  let c0_i32_1263 : BitVec 32 := 0#32
  let v864 : BitVec 1 := Scalar.cmpi .ne v863 c0_i32_1263
  let v868 : BitVec 1 := Scalar.andi v867 v864
  let v869 : BitVec 32 := Scalar.addi v863 v862
  let v870 : BitVec 32 := Scalar.select v868 v869 v863
  let c8_i32_1266 : BitVec 32 := 8#32
  let v871 : BitVec 32 := Scalar.muli v870 c8_i32_1266
  let v872 : BitVec 32 := Scalar.addi v871 c0_i32_1267
  let c0_i32_1308 : BitVec 32 := 0#32
  ![0, 0, v872.toNat, 0]
def k0_dev7 (d0 : Dev nD) : Nat :=
  let c0_i32_1499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1498 : BitVec 32 := 1#32
  let v1015 : BitVec 32 := Scalar.muli v25 c1_i32_1498
  let v1016 : BitVec 32 := Scalar.addi c0_i32_1499 v1015
  v1016.toNat
def k0_dev8 (d0 : Dev nD) : Nat :=
  let c0_i32_1509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1508 : BitVec 32 := 1#32
  let v1025 : BitVec 32 := Scalar.muli v25 c1_i32_1508
  let v1026 : BitVec 32 := Scalar.addi c0_i32_1509 v1025
  v1026.toNat
def k0_dev9 (d0 : Dev nD) : Nat :=
  let c0_i32_1539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1538 : BitVec 32 := 1#32
  let v1051 : BitVec 32 := Scalar.muli v14 c1_i32_1538
  let v1052 : BitVec 32 := Scalar.addi c0_i32_1539 v1051
  v1052.toNat
def k0_dev10 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1548 : BitVec 32 := 1#32
  let v1061 : BitVec 32 := Scalar.muli v14 c1_i32_1548
  let v1062 : BitVec 32 := Scalar.addi c0_i32_1549 v1061
  v1062.toNat
@[reducible] def k0_t2_loop : Scf.Loop 32 :=
  let c0_i32_1808 : BitVec 32 := 0#32
  let c16_i32_1809 : BitVec 32 := 16#32
  let v1241 : BitVec 32 := Scalar.addi c0_i32_1808 c16_i32_1809
  let c1_i32_1810 : BitVec 32 := 1#32
  ⟨c0_i32_1808, v1241, c1_i32_1810⟩
def k0_off15 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off16 (k0_t2 : Fin k0_t2_loop.trips) : Fin 6 → Nat :=
  let c1_4882 : Index := 1#32
  let c0_4883 : Index := 0#32
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![1, 0, v3315.toNat, v3316.toNat, 0, 0]
def k0_off17 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off18 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off19 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off20 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off21 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off22 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off23 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off24 (k0_t2 : Fin k0_t2_loop.trips) : Fin 4 → Nat :=
  let c0_i32_1808 : BitVec 32 := 0#32
  let c1_i32_1810 : BitVec 32 := 1#32
  let arg29 : BitVec 32 := Scf.iv c0_i32_1808 c1_i32_1810 k0_t2
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
@[reducible] def k0_t3_loop : Scf.Loop 32 :=
  let c0_i32_2150 : BitVec 32 := 0#32
  let c16_i32_2151 : BitVec 32 := 16#32
  let v1466 : BitVec 32 := Scalar.addi c0_i32_2150 c16_i32_2151
  let c1_i32_2152 : BitVec 32 := 1#32
  ⟨c0_i32_2150, v1466, c1_i32_2152⟩
def k0_off25 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off26 (k0_t3 : Fin k0_t3_loop.trips) : Fin 6 → Nat :=
  let c1_4882 : Index := 1#32
  let c1_4883 : Index := 1#32
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![1, 1, v3315.toNat, v3316.toNat, 0, 0]
def k0_off27 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off28 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off29 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off30 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off31 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off32 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off33 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off34 (k0_t3 : Fin k0_t3_loop.trips) : Fin 4 → Nat :=
  let c0_i32_2150 : BitVec 32 := 0#32
  let c1_i32_2152 : BitVec 32 := 1#32
  let arg29 : BitVec 32 := Scf.iv c0_i32_2150 c1_i32_2152 k0_t3
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
def k0_dev11 (d0 : Dev nD) : Nat :=
  let c0_i32_2277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2276 : BitVec 32 := 1#32
  let v1547 : BitVec 32 := Scalar.muli v14 c1_i32_2276
  let v1548 : BitVec 32 := Scalar.addi c0_i32_2277 v1547
  v1548.toNat
def k0_dev12 (d0 : Dev nD) : Nat :=
  let c0_i32_2281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2280 : BitVec 32 := 1#32
  let v1551 : BitVec 32 := Scalar.muli v25 c1_i32_2280
  let v1552 : BitVec 32 := Scalar.addi c0_i32_2281 v1551
  v1552.toNat
def k0_dev13 (d0 : Dev nD) : Nat :=
  let c0_i32_2742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2741 : BitVec 32 := 1#32
  let v1851 : BitVec 32 := Scalar.muli v25 c1_i32_2741
  let v1852 : BitVec 32 := Scalar.addi c0_i32_2742 v1851
  v1852.toNat
def k0_dev14 (d0 : Dev nD) : Nat :=
  let c0_i32_2752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2751 : BitVec 32 := 1#32
  let v1861 : BitVec 32 := Scalar.muli v25 c1_i32_2751
  let v1862 : BitVec 32 := Scalar.addi c0_i32_2752 v1861
  v1862.toNat
def k0_dev15 (d0 : Dev nD) : Nat :=
  let c0_i32_2785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2784 : BitVec 32 := 1#32
  let v1889 : BitVec 32 := Scalar.muli v14 c1_i32_2784
  let v1890 : BitVec 32 := Scalar.addi c0_i32_2785 v1889
  v1890.toNat
def k0_dev16 (d0 : Dev nD) : Nat :=
  let c0_i32_2795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2794 : BitVec 32 := 1#32
  let v1899 : BitVec 32 := Scalar.muli v14 c1_i32_2794
  let v1900 : BitVec 32 := Scalar.addi c0_i32_2795 v1899
  v1900.toNat
@[reducible] def k0_t4_loop : Scf.Loop 32 :=
  let c0_i32_3054 : BitVec 32 := 0#32
  let c16_i32_3055 : BitVec 32 := 16#32
  let v2079 : BitVec 32 := Scalar.addi c0_i32_3054 c16_i32_3055
  let c1_i32_3056 : BitVec 32 := 1#32
  ⟨c0_i32_3054, v2079, c1_i32_3056⟩
def k0_off35 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off36 (k0_t4 : Fin k0_t4_loop.trips) : Fin 6 → Nat :=
  let c0_4882 : Index := 0#32
  let c0_4883 : Index := 0#32
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![0, 0, v3315.toNat, v3316.toNat, 0, 0]
def k0_off37 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off38 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off39 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off40 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off41 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off42 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off43 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off44 (k0_t4 : Fin k0_t4_loop.trips) : Fin 4 → Nat :=
  let c0_i32_3054 : BitVec 32 := 0#32
  let c1_i32_3056 : BitVec 32 := 1#32
  let arg29 : BitVec 32 := Scf.iv c0_i32_3054 c1_i32_3056 k0_t4
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
@[reducible] def k0_t5_loop : Scf.Loop 32 :=
  let c0_i32_3396 : BitVec 32 := 0#32
  let c16_i32_3397 : BitVec 32 := 16#32
  let v2304 : BitVec 32 := Scalar.addi c0_i32_3396 c16_i32_3397
  let c1_i32_3398 : BitVec 32 := 1#32
  ⟨c0_i32_3396, v2304, c1_i32_3398⟩
def k0_off45 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off46 (k0_t5 : Fin k0_t5_loop.trips) : Fin 6 → Nat :=
  let c0_4882 : Index := 0#32
  let c1_4883 : Index := 1#32
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![0, 1, v3315.toNat, v3316.toNat, 0, 0]
def k0_off47 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off48 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off49 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off50 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off51 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off52 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off53 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off54 (k0_t5 : Fin k0_t5_loop.trips) : Fin 4 → Nat :=
  let c0_i32_3396 : BitVec 32 := 0#32
  let c1_i32_3398 : BitVec 32 := 1#32
  let arg29 : BitVec 32 := Scf.iv c0_i32_3396 c1_i32_3398 k0_t5
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
def k0_dev17 (d0 : Dev nD) : Nat :=
  let c0_i32_3523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3522 : BitVec 32 := 1#32
  let v2385 : BitVec 32 := Scalar.muli v14 c1_i32_3522
  let v2386 : BitVec 32 := Scalar.addi c0_i32_3523 v2385
  v2386.toNat
def k0_dev18 (d0 : Dev nD) : Nat :=
  let c0_i32_3768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3767 : BitVec 32 := 1#32
  let v2545 : BitVec 32 := Scalar.muli v25 c1_i32_3767
  let v2546 : BitVec 32 := Scalar.addi c0_i32_3768 v2545
  v2546.toNat
def k0_dev19 (d0 : Dev nD) : Nat :=
  let c0_i32_3778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3777 : BitVec 32 := 1#32
  let v2555 : BitVec 32 := Scalar.muli v25 c1_i32_3777
  let v2556 : BitVec 32 := Scalar.addi c0_i32_3778 v2555
  v2556.toNat
@[reducible] def k0_t6_loop : Scf.Loop 32 :=
  let c0_i32_4057 : BitVec 32 := 0#32
  let c16_i32_4058 : BitVec 32 := 16#32
  let v2751 : BitVec 32 := Scalar.addi c0_i32_4057 c16_i32_4058
  let c1_i32_4059 : BitVec 32 := 1#32
  ⟨c0_i32_4057, v2751, c1_i32_4059⟩
def k0_off55 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off56 (k0_t6 : Fin k0_t6_loop.trips) : Fin 6 → Nat :=
  let c1_4882 : Index := 1#32
  let c0_4883 : Index := 0#32
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![1, 0, v3315.toNat, v3316.toNat, 0, 0]
def k0_off57 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off58 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off59 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off60 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off61 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off62 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off63 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off64 (k0_t6 : Fin k0_t6_loop.trips) : Fin 4 → Nat :=
  let c0_i32_4057 : BitVec 32 := 0#32
  let c1_i32_4059 : BitVec 32 := 1#32
  let arg29 : BitVec 32 := Scf.iv c0_i32_4057 c1_i32_4059 k0_t6
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
@[reducible] def k0_t7_loop : Scf.Loop 32 :=
  let c0_i32_4399 : BitVec 32 := 0#32
  let c16_i32_4400 : BitVec 32 := 16#32
  let v2976 : BitVec 32 := Scalar.addi c0_i32_4399 c16_i32_4400
  let c1_i32_4401 : BitVec 32 := 1#32
  ⟨c0_i32_4399, v2976, c1_i32_4401⟩
def k0_off65 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off66 (k0_t7 : Fin k0_t7_loop.trips) : Fin 6 → Nat :=
  let c1_4882 : Index := 1#32
  let c1_4883 : Index := 1#32
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![1, 1, v3315.toNat, v3316.toNat, 0, 0]
def k0_off67 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off68 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off69 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off70 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off71 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off72 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off73 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off74 (k0_t7 : Fin k0_t7_loop.trips) : Fin 4 → Nat :=
  let c0_i32_4399 : BitVec 32 := 0#32
  let c1_i32_4401 : BitVec 32 := 1#32
  let arg29 : BitVec 32 := Scf.iv c0_i32_4399 c1_i32_4401 k0_t7
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
@[reducible] def k0_t8_loop : Scf.Loop 32 :=
  let c0_i32_4779 : BitVec 32 := 0#32
  let c16_i32_4780 : BitVec 32 := 16#32
  let v3229 : BitVec 32 := Scalar.addi c0_i32_4779 c16_i32_4780
  let c1_i32_4781 : BitVec 32 := 1#32
  ⟨c0_i32_4779, v3229, c1_i32_4781⟩
def k0_off75 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3311 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3312 : Index := Scalar.indexCast v3310
  let c0_4880 : Index := 0#32
  let c0_4881 : Index := 0#32
  ![v3311.toNat, v3312.toNat, 0, 0]
def k0_off76 (k0_t8 : Fin k0_t8_loop.trips) : Fin 6 → Nat :=
  let c0_4882 : Index := 0#32
  let c0_4883 : Index := 0#32
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3315 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3316 : Index := Scalar.indexCast v3310
  let c0_4884 : Index := 0#32
  let c0_4885 : Index := 0#32
  ![0, 0, v3315.toNat, v3316.toNat, 0, 0]
def k0_off77 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3346 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3347 : Index := Scalar.indexCast v3310
  let c0_4895 : Index := 0#32
  let c0_4896 : Index := 0#32
  ![v3346.toNat, v3347.toNat, 0, 0]
def k0_off78 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3352 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3353 : Index := Scalar.indexCast v3310
  let c256 : Index := 256#32
  let c0_4897 : Index := 0#32
  ![v3352.toNat, v3353.toNat, 256, 0]
def k0_off79 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3380 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3381 : Index := Scalar.indexCast v3310
  let c64 : Index := 64#32
  let c0_4903 : Index := 0#32
  ![v3380.toNat, v3381.toNat, 64, 0]
def k0_off80 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3386 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3387 : Index := Scalar.indexCast v3310
  let c320 : Index := 320#32
  let c0_4904 : Index := 0#32
  ![v3386.toNat, v3387.toNat, 320, 0]
def k0_off81 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3414 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3415 : Index := Scalar.indexCast v3310
  let c128 : Index := 128#32
  let c0_4910 : Index := 0#32
  ![v3414.toNat, v3415.toNat, 128, 0]
def k0_off82 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3420 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3421 : Index := Scalar.indexCast v3310
  let c384 : Index := 384#32
  let c0_4911 : Index := 0#32
  ![v3420.toNat, v3421.toNat, 384, 0]
def k0_off83 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3448 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3449 : Index := Scalar.indexCast v3310
  let c192 : Index := 192#32
  let c0_4917 : Index := 0#32
  ![v3448.toNat, v3449.toNat, 192, 0]
def k0_off84 (k0_t8 : Fin k0_t8_loop.trips) : Fin 4 → Nat :=
  let c0_i32_4779 : BitVec 32 := 0#32
  let c1_i32_4781 : BitVec 32 := 1#32
  let arg29 : BitVec 32 := Scf.iv c0_i32_4779 c1_i32_4781 k0_t8
  let c0_i32_4868 : BitVec 32 := 0#32
  let v3285 : BitVec 1 := Scalar.cmpi .sgt arg29 c0_i32_4868
  let v3286 : BitVec 32 := Scalar.extui v3285
  let c0_i32_4869 : BitVec 32 := 0#32
  let v3287 : BitVec 1 := Scalar.cmpi .slt arg29 c0_i32_4869
  let v3288 : BitVec 32 := Scalar.extui v3287
  let v3289 : BitVec 32 := Scalar.subi v3286 v3288
  let c8_i32_4867 : BitVec 32 := 8#32
  let c0_i32_4870 : BitVec 32 := 0#32
  let v3290 : BitVec 1 := Scalar.cmpi .sgt c8_i32_4867 c0_i32_4870
  let v3291 : BitVec 32 := Scalar.extui v3290
  let c0_i32_4871 : BitVec 32 := 0#32
  let v3292 : BitVec 1 := Scalar.cmpi .slt c8_i32_4867 c0_i32_4871
  let v3293 : BitVec 32 := Scalar.extui v3292
  let v3294 : BitVec 32 := Scalar.subi v3291 v3293
  let v3295 : BitVec 1 := Scalar.cmpi .ne v3289 v3294
  let v3296 : BitVec 32 := Scalar.remsi arg29 c8_i32_4867
  let c0_i32_4872 : BitVec 32 := 0#32
  let v3297 : BitVec 1 := Scalar.cmpi .ne v3296 c0_i32_4872
  let v3298 : BitVec 1 := Scalar.andi v3295 v3297
  let v3284 : BitVec 32 := Scalar.divsi arg29 c8_i32_4867
  let c1_i32_4873 : BitVec 32 := 1#32
  let v3299 : BitVec 32 := Scalar.subi v3284 c1_i32_4873
  let v3300 : BitVec 32 := Scalar.select v3298 v3299 v3284
  let v3454 : Index := Scalar.indexCast v3300
  let c8_i32_4874 : BitVec 32 := 8#32
  let c0_i32_4875 : BitVec 32 := 0#32
  let v3301 : BitVec 1 := Scalar.cmpi .eq c8_i32_4874 c0_i32_4875
  let c1_i32_4876 : BitVec 32 := 1#32
  let v3302 : BitVec 32 := Scalar.select v3301 c1_i32_4876 c8_i32_4874
  let v3303 : BitVec 32 := Scalar.remsi arg29 v3302
  let c0_i32_4878 : BitVec 32 := 0#32
  let v3305 : BitVec 1 := Scalar.cmpi .slt v3303 c0_i32_4878
  let c0_i32_4879 : BitVec 32 := 0#32
  let v3306 : BitVec 1 := Scalar.cmpi .slt v3302 c0_i32_4879
  let v3307 : BitVec 1 := Scalar.xori v3305 v3306
  let c0_i32_4877 : BitVec 32 := 0#32
  let v3304 : BitVec 1 := Scalar.cmpi .ne v3303 c0_i32_4877
  let v3308 : BitVec 1 := Scalar.andi v3307 v3304
  let v3309 : BitVec 32 := Scalar.addi v3303 v3302
  let v3310 : BitVec 32 := Scalar.select v3308 v3309 v3303
  let v3455 : Index := Scalar.indexCast v3310
  let c448 : Index := 448#32
  let c0_4918 : Index := 0#32
  ![v3454.toNat, v3455.toNat, 448, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 137
  | .vmem => 0
  | .smem => 0
  | _ => 0

abbrev hbmTy0_0 (i : Nat) : BufTy := match i % 128 with
  | 0 => ⟨S16x512x768, .f32⟩
  | 1 => ⟨S768x4096, .f32⟩
  | 2 => ⟨S16x512x64x64, .f32⟩
  | 3 => ⟨S16x512x64x64, .f32⟩
  | 4 => ⟨S4096x768, .f32⟩
  | 5 => ⟨S16x512x4096, .f32⟩
  | 6 => ⟨S16x512x64x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S16x64x512x512, .f32⟩
  | 99 => ⟨S_, .f32⟩
  | 100 => ⟨S16x64x512x512, .f32⟩
  | 101 => ⟨S16x64x512x512, .f32⟩
  | 102 => ⟨S1x1x512x512, .i1⟩
  | 103 => ⟨S_, .f32⟩
  | 104 => ⟨S_, .f32⟩
  | 105 => ⟨S16x64x512x512, .i1⟩
  | 106 => ⟨S16x64x512x512, .f32⟩
  | 107 => ⟨S16x64x512x512, .f32⟩
  | 108 => ⟨S_, .f32⟩
  | 109 => ⟨S16x64x512, .f32⟩
  | 110 => ⟨S16x64x512x1, .f32⟩
  | 111 => ⟨S16x64x512x512, .f32⟩
  | 112 => ⟨S16x64x512x512, .f32⟩
  | 113 => ⟨S16x64x512x512, .f32⟩
  | 114 => ⟨S_, .i1⟩
  | 115 => ⟨S512, .i1⟩
  | 116 => ⟨S1x1x512x1, .i1⟩
  | 117 => ⟨S_, .f32⟩
  | 118 => ⟨S16x64x512, .f32⟩
  | 119 => ⟨S16x64x512x1, .f32⟩
  | 120 => ⟨S_, .f32⟩
  | 121 => ⟨S_, .f32⟩
  | 122 => ⟨S16x64x512x1, .i1⟩
  | 123 => ⟨S16x64x512x1, .f32⟩
  | 124 => ⟨S16x64x512x1, .f32⟩
  | 125 => ⟨S16x64x512x512, .f32⟩
  | 126 => ⟨S16x64x512x512, .f32⟩
  | 127 => ⟨S1x1x512x1, .i1⟩
  | _ => ⟨S16x512x768, .f32⟩

abbrev hbmTy0_1 (i : Nat) : BufTy := match i % 128 with
  | 0 => ⟨S_, .f32⟩
  | 1 => ⟨S_, .f32⟩
  | 2 => ⟨S16x64x512x512, .i1⟩
  | 3 => ⟨S16x64x512x512, .f32⟩
  | 4 => ⟨S16x64x512x512, .f32⟩
  | 5 => ⟨S16x64x64x512, .f32⟩
  | 6 => ⟨S16x512x64x64, .f32⟩
  | 7 => ⟨S16x512x4096, .f32⟩
  | 8 => ⟨S16x512x768, .f32⟩
  | _ => ⟨S16x512x768, .f32⟩

abbrev hbmTy (i : Nat) : BufTy := match i / 128 with
  | 0 => hbmTy0_0 i
  | 1 => hbmTy0_1 i
  | _ => ⟨S16x512x768, .f32⟩

abbrev bufTy : (tb : Table) → Fin (tcTables nBuf tb) → BufTy
  | .hbm, ⟨i, _⟩ => hbmTy i
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Softmax.lean ====
/- Attention of one row over the extended reals: masked columns contribute nothing. -/
module

public import Idealize.ShloMosaic.PureOps.Ideal
public import Idealize.ShloMosaic.PureOps.Ideal.Laws

@[expose] public section

noncomputable section

namespace Cert.Proof.Ring

open Idealize.ShloMosaic

/-! ## Real values -/

/-- An extended real that is neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- A value whose magnitude is below infinity. -/
theorem isReal_of_abs_lt {x : EReal} (h : max x (-x) < ⊤) : IsReal x := by
  induction x with
  | bot => simp at h
  | top => simp at h
  | coe r => exact ⟨r, rfl⟩

/-! ## One row -/

variable {ι κ : Type} [Fintype ι] [Fintype κ]

/-- The row's largest score. -/
def top (S : ι → EReal) : EReal := Finset.univ.fold max ⊥ S

/-- A score's exponential over the largest. -/
def grown (S : ι → EReal) (a : ι) : EReal := Ideal.exp (S a - top S)

/-- The values of a row weighted by its softmax. -/
def attendRow (S V : ι → EReal) : EReal := ∑ a, Ideal.div (grown S a) (∑ b, grown S b) * V a

theorem top_eq_sup (S : ι → EReal) : top S = Finset.univ.sup S := rfl

section Sparse
variable (ρ : ι → κ) (hρ : Function.Injective ρ) (S : ι → EReal) (T : κ → EReal) (hT : ∀ a, T (ρ a) = S a)
  (hT' : ∀ j, j ∉ Set.range ρ → T j = ⊥)
include hT hT'

theorem top_sparse : top T = top S := by
  rw [top_eq_sup, top_eq_sup]
  refine le_antisymm (Finset.sup_le fun j _ => ?_) (Finset.sup_le fun a _ => ?_)
  · by_cases h : j ∈ Set.range ρ
    · obtain ⟨a, rfl⟩ := h
      rw [hT]
      exact Finset.le_sup (Finset.mem_univ a)
    · rw [hT' j h]
      exact bot_le
  · rw [← hT]
    exact Finset.le_sup (Finset.mem_univ (ρ a))

theorem grown_sparse (a : ι) : grown T (ρ a) = grown S a := by
  unfold grown
  rw [hT, top_sparse ρ S T hT hT']

omit hT in
theorem grown_masked (j : κ) (h : j ∉ Set.range ρ) : grown T j = 0 := by
  unfold grown
  rw [hT' j h, sub_eq_add_neg, EReal.bot_add]
  rfl

include hρ
theorem sum_grown_sparse : ∑ j, grown T j = ∑ a, grown S a :=
  (Fintype.sum_of_injective ρ hρ _ _ (grown_masked ρ T hT') fun a => (grown_sparse ρ S T hT hT' a).symm).symm

end Sparse

theorem exp_nonneg (x : EReal) : 0 ≤ Ideal.exp x := by
  induction x with
  | bot => exact le_refl _
  | top => exact le_top
  | coe r => exact EReal.coe_nonneg.2 (Real.exp_pos r).le

/-- A row of real scores has a sum that is not zero. -/
theorem sum_grown_ne_zero [Nonempty ι] (S : ι → EReal) (hS : ∀ a, IsReal (S a)) : ∑ a, grown S a ≠ 0 := by
  obtain ⟨a, -, ha⟩ := Finset.exists_mem_eq_sup Finset.univ Finset.univ_nonempty S
  have h1 : grown S a = 1 := by
    unfold grown
    rw [top_eq_sup, ha]
    obtain ⟨r, hr⟩ := hS a
    rw [hr, ← EReal.coe_sub, sub_self]
    show ((Real.exp 0 : ℝ) : EReal) = 1
    rw [Real.exp_zero]
    rfl
  have h2 : grown S a ≤ ∑ b, grown S b :=
    Finset.single_le_sum (f := grown S) (fun b _ => exp_nonneg _) (Finset.mem_univ a)
  rw [h1] at h2
  intro h0
  rw [h0] at h2
  exact absurd h2 (by norm_num)

theorem attendRow_sparse [Nonempty ι] (ρ : ι → κ) (hρ : Function.Injective ρ) (S : ι → EReal) (T : κ → EReal)
    (hT : ∀ a, T (ρ a) = S a) (hT' : ∀ j, j ∉ Set.range ρ → T j = ⊥) (hS : ∀ a, IsReal (S a)) (V : κ → EReal) :
    attendRow T V = attendRow S (V ∘ ρ) := by
  have hs := sum_grown_ne_zero S hS
  unfold attendRow
  rw [sum_grown_sparse ρ hρ S T hT hT']
  refine (Fintype.sum_of_injective ρ hρ _ _ (fun j h => ?_) fun a => ?_).symm
  · rw [grown_masked ρ T hT' j h]
    unfold Ideal.div
    rw [if_neg hs, zero_mul, zero_mul]
  · rw [grown_sparse ρ S T hT hT']
    rfl

end Cert.Proof.Ring
-- ==== Proof.Text.lean ====
/- The kernel body of `KernelIdeal` said once more, in pieces: the head copies of one group, their waits, one group's
   attention, the sends and the waits for what arrives. Each piece is stated once, at the slots and offsets it is run
   at; `body_eq` is that the printed body is these pieces in order. The proofs go by the pieces. -/
module

public import proofs.«01_k».proof.Proof.Gen.KernelIdeal
public import Idealize.ShloMosaic.Lib.Pipeline.Regions

@[expose] public section

noncomputable section

namespace Cert.Proof.Ring

open Cert.KernelIdeal
open Idealize.ShloMosaic Idealize.ShloMosaic.TcCoe
open Idealize.SL Idealize.SL.Sem
open Facts₀ Facts

variable {F : FTy → Type} [FloatOps F]

/-- A stretch of the kernel's body. -/
abbrev Text (F : FTy → Type) (α : Type) := Prog (TpuEff nD τ sig (Elt F) Λ₀ .tc) α

/-! ## The scratch -/

abbrev wqOwn := Memref.whole cc0_scratch0
abbrev woOwn := Memref.whole cc0_scratch1
abbrev xBf := Memref.whole cc0_scratch2
abbrev wqR := Memref.whole cc0_scratch3
abbrev woR := Memref.whole cc0_scratch4
abbrev wqL := Memref.whole cc0_scratch5
abbrev woL := Memref.whole cc0_scratch6
abbrev kScr := Memref.whole cc0_scratch7
abbrev vScr := Memref.whole cc0_scratch8
abbrev qScr := Memref.whole cc0_scratch9
abbrev ctxScr := Memref.whole cc0_scratch10
abbrev kHbm := Memref.whole main_arg2
abbrev vHbm := Memref.whole main_arg3

/-! ## Bounds of the slots -/

theorem inb_wq (k : Fin 2) : ∀ a, (![k.val, 0, 0] : Fin 3 → Nat) a + S1x768x512.size a ≤ S2x768x512.size a := by
  revert k; decide
theorem inb_wo (k : Fin 2) : ∀ a, (![k.val, 0, 0] : Fin 3 → Nat) a + S1x512x768.size a ≤ S2x512x768.size a := by
  revert k; decide
theorem inb_sem (k : Fin 2) : ∀ a, (![k.val] : Fin 1 → Nat) a + S1.size a ≤ S2.size a := by
  revert k; decide
theorem inb_kvsem (p d : Fin 2) : ∀ a, (![p.val, d.val] : Fin 2 → Nat) a + S1x1.size a ≤ S2x2.size a := by
  revert p d; decide
theorem inb_kv (p d : Fin 2) (h : Fin 8) :
    ∀ a, (![p.val, d.val, 0, h.val, 0, 0] : Fin 6 → Nat) a + S1x1x2x1x512x64.size a ≤ S2x2x2x8x512x64.size a := by
  revert p d h; decide
theorem inb_q (b : Fin 2) (h : Fin 8) :
    ∀ a, (![b.val, h.val, 0, 0] : Fin 4 → Nat) a + S1x1x512x64.size a ≤ S2x8x512x64.size a := by
  revert b h; decide
theorem words_wq (k : Fin 2) :
    (Rect.unit (s := S2x768x512) ![k.val, 0, 0] S1x768x512.size (inb_wq k)).WholeWords (EltTy.packing .bf16) := by
  revert k; decide
theorem words_wo (k : Fin 2) :
    (Rect.unit (s := S2x512x768) ![k.val, 0, 0] S1x512x768.size (inb_wo k)).WholeWords (EltTy.packing .bf16) := by
  revert k; decide

/-! ## Slots -/

abbrev slotWq (A : Memref sig .tc .vmem S2x768x512 .bf16) (k : Fin 2) : Memref sig .tc .vmem S768x512 .bf16 :=
  (A.slice (Rect.unit (s := S2x768x512) ![k.val, 0, 0] S1x768x512.size (inb_wq k)) (fun _ => rfl)).squeeze S768x512
    squeezes_S1x768x512_S768x512
abbrev slotWo (A : Memref sig .tc .vmem S2x512x768 .bf16) (k : Fin 2) : Memref sig .tc .vmem S512x768 .bf16 :=
  (A.slice (Rect.unit (s := S2x512x768) ![k.val, 0, 0] S1x512x768.size (inb_wo k)) (fun _ => rfl)).squeeze S512x768
    squeezes_S1x512x768_S512x768
abbrev slotSem (A : DmaSems sig S2) (k : Fin 2) : DmaSem sig :=
  ((A.slice (Rect.unit (s := S2) ![k.val] S1.size (inb_sem k))).squeeze S_ squeezes_S1_S_).sem
abbrev freeSem (A : Sems sig S2) (k : Fin 2) : Sem sig :=
  ((A.slice (Rect.unit (s := S2) ![k.val] S1.size (inb_sem k))).squeeze S_ squeezes_S1_S_).sem
abbrev kvSem (A : DmaSems sig S2x2) (p d : Fin 2) : DmaSem sig :=
  ((A.slice (Rect.unit (s := S2x2) ![p.val, d.val] S1x1.size (inb_kvsem p d))).squeeze S_ squeezes_S1x1_S_).sem
abbrev kvDst (A : Memref sig .tc .vmem S2x2x2x8x512x64 .f32) (p d : Fin 2) (h : Fin 8) :
    Memref sig .tc .vmem S2x512x64 .f32 :=
  (A.slice (Rect.unit (s := S2x2x2x8x512x64) ![p.val, d.val, 0, h.val, 0, 0] S1x1x2x1x512x64.size (inb_kv p d h))
    (fun _ => rfl)).squeeze S2x512x64 squeezes_S1x1x2x1x512x64_S2x512x64

/-- The keys or values of the head that begins at `off`. -/
abbrev kvSrc (A : Memref sig .tc .hbm S2x512x64x64 .f32) (off : Fin 4 → Nat)
    (inb : ∀ a, off a + S2x512x1x64.size a ≤ S2x512x64x64.size a) : Memref sig .tc .hbm S2x512x64 .f32 :=
  (A.slice (Rect.unit (s := S2x512x64x64) off S2x512x1x64.size inb) (fun _ => rfl)).squeeze S2x512x64
    squeezes_S2x512x1x64_S2x512x64

/-- Where the groups' heads begin as the kernel computes it: the device's own, `r` before it, one after, `1 + r` after. -/
def offOwn (d : Dev nD) (h : Fin 8) : Fin 4 → Nat := k0_off1 d (BitVec.ofNat 32 h.val)
def offBefore (d : Dev nD) (r : Fin 4) (h : Fin 8) : Fin 4 → Nat := k0_off2 d (BitVec.ofNat 32 (1 + r.val)) (BitVec.ofNat 32 h.val)
def offNext (d : Dev nD) (h : Fin 8) : Fin 4 → Nat := k0_off3 d (BitVec.ofNat 32 h.val)
def offAfter (d : Dev nD) (r : Fin 2) (h : Fin 8) : Fin 4 → Nat := k0_off14 d (BitVec.ofNat 32 (1 + r.val)) (BitVec.ofNat 32 h.val)

/-- They lie in the operand. -/
abbrev InHeads (off : Fin 8 → Fin 4 → Nat) : Prop := ∀ h a, off h a + S2x512x1x64.size a ≤ S2x512x64x64.size a
theorem inOwn (d : Dev nD) : InHeads (offOwn d) := fun h => k0_off1_inb d h
theorem inBefore (d : Dev nD) (r : Fin 4) : InHeads (offBefore d r) := fun h => k0_off2_inb d r h
theorem inNext (d : Dev nD) : InHeads (offNext d) := fun h => k0_off3_inb d h
theorem inAfter (d : Dev nD) (r : Fin 2) : InHeads (offAfter d r) := fun h => k0_off14_inb d r h

/-! ## The copies of keys and values -/

/-- One head's copies started: keys, then values. -/
def kvStart1 {off : Fin 8 → Fin 4 → Nat} (H : InHeads off) (p d : Fin 2) (h : Fin 8) : Text F PUnit := do
  Prog.lift (.enqueueDma (kvSrc kHbm (off h) (H h)) (.here (kvDst kScr p d h)) (.dma (kvSem cc0_scratch19 p d))
    ((View.wordExact_bits rfl).reshape _ _) ((View.wordExact_bits rfl).reshape _ _) ⟨Or.inl rfl, trivial⟩)
  Prog.lift (.enqueueDma (kvSrc vHbm (off h) (H h)) (.here (kvDst vScr p d h)) (.dma (kvSem cc0_scratch20 p d))
    ((View.wordExact_bits rfl).reshape _ _) ((View.wordExact_bits rfl).reshape _ _) ⟨Or.inl rfl, trivial⟩)

/-- One head's copies waited for. -/
def kWait1 {off : Fin 8 → Fin 4 → Nat} (H : InHeads off) (p d : Fin 2) (h : Fin 8) : Text F PUnit :=
  Prog.lift (.waitDma2 (kvSem cc0_scratch19 p d) (kvSrc kHbm (off h) (H h)) (kvDst kScr p d h)
    ((View.wordExact_bits rfl).reshape _ _) ((View.wordExact_bits rfl).reshape _ _))
def vWait1 {off : Fin 8 → Fin 4 → Nat} (H : InHeads off) (p d : Fin 2) (h : Fin 8) : Text F PUnit :=
  Prog.lift (.waitDma2 (kvSem cc0_scratch20 p d) (kvSrc vHbm (off h) (H h)) (kvDst vScr p d h)
    ((View.wordExact_bits rfl).reshape _ _) ((View.wordExact_bits rfl).reshape _ _))
def kvWait1 {off : Fin 8 → Fin 4 → Nat} (H : InHeads off) (p d : Fin 2) (h : Fin 8) : Text F PUnit := do
  kWait1 H p d h
  vWait1 H p d h

/-- The eight heads in order. -/
def eight (f : Fin 8 → Text F PUnit) : Text F PUnit := do
  f 0; f 1; f 2; f 3; f 4; f 5; f 6; f 7

def kvStart {off : Fin 8 → Fin 4 → Nat} (H : InHeads off) (p d : Fin 2) : Text F PUnit := eight (kvStart1 H p d)
def kvWait {off : Fin 8 → Fin 4 → Nat} (H : InHeads off) (p d : Fin 2) : Text F PUnit := eight (kvWait1 H p d)

/-! ## One group's attention -/

/-- One head's queries stored. -/
def qStore (b : Fin 2) (h : Fin 8) (v : FVec F S512x64 .f32) : Text F PUnit := do
  let _ ← Prog.lift (.load qScr (Rect.unit (s := S2x8x512x64) ![b.val, h.val, 0, 0] S1x1x512x64.size (inb_q b h)).toLoadRect
    (View.loadsAt_vmem h_S1x1x512x64))
  Prog.lift (.store qScr (Rect.unit (s := S2x8x512x64) ![b.val, h.val, 0, 0] S1x1x512x64.size (inb_q b h))
    (shapeCast S1x1x512x64 v shapeCasts_S512x64_S1x1x512x64) Finset.univ
    (View.stores_vmem_bits_univ h_S1x1x512x64 rfl) (.inl rfl))

theorem slices_head (h : Fin 8) : S512x512.Slices ![0, 64 * h.val] S512x64 := by
  revert h; decide

/-- The head's columns of a projection. -/
def headCols (x : FVec F S512x512 .f32) (h : Fin 8) : FVec F S512x64 .f32 :=
  extractStridedSlice S512x64 ![0, 64 * h.val] x (slices_head h)

/-- The projection of one batch row's block. -/
def project (x : Vec F S1x512x768 .bf16) (w : FVec F S768x512 .bf16) : FVec F S512x512 .f32 :=
  matmul dot_S512x768_S768x512_S512x512_1_0_0_1_n_n none (shapeCast S512x768 x shapeCasts_S1x512x768_S512x768) w
    (constant S512x512 .f32 0x00000000#32)

/-- The queries of one batch row, projected and stored. -/
def queries1 (ldQ : Text F (FVec F S768x512 .bf16)) (b : Fin 2) : Text F PUnit := do
  let x ← Prog.lift (.load xBf (Rect.unit (s := S2x512x768) ![b.val, 0, 0] S1x512x768.size (inb_wo b)).toLoadRect
    (View.loadsAt_vmem h_S1x512x768))
  let w ← ldQ
  eight fun h => qStore b h (headCols (project x w) h)

theorem slices_rows (g : Fin 8) : S512x64.Slices ![64 * g.val, 0] S64x64 := by
  revert g; decide
theorem slices_half (g : Fin 2) : S128x64.Slices ![64 * g.val, 0] S64x64 := by
  revert g; decide

/-- Blocks `g` and `g + 4` of the rows, one under the other. -/
def pairRows (x : FVec F S512x64 .f32) (g : Fin 4) : FVec F S128x64 .f32 :=
  concatenate S128x64 0
    [⟨S64x64, extractStridedSlice S64x64 ![64 * g.val, 0] x (slices_rows ⟨g.val, by omega⟩)⟩,
     ⟨S64x64, extractStridedSlice S64x64 ![64 * (g.val + 4), 0] x (slices_rows ⟨g.val + 4, by omega⟩)⟩]
    concatenates_S64x64_S64x64_S128x64_d0

/-- The scaled scores of a pair of blocks. -/
def pairScores (q k : FVec F S128x64 .f32) : FVec F S128x128 .f32 :=
  mulf (matmul dot_S128x64_S128x64_S128x128_1_1_0_0_n_n none q k (constant S128x128 .f32 0x00000000#32))
    (broadcast S128x128 (Scalar.ofBits .f32 0x3E000000#32))

/-- Their exponentials over the row's largest. -/
def pairExp (s : FVec F S128x128 .f32) : FVec F S128x128 .f32 :=
  exp (subf s (broadcastTo S128x128
    (shapeCast S128x1 (multiReduction .maximumf [1] S128 s 0xFF800000#32 reduces_S128x128_S128 (.inl rfl) rfl)
      shapeCasts_S128_S128x1) broadcasts_S128x1_S128x128))

/-- Those over the row's sum. -/
def pairWeights (e : FVec F S128x128 .f32) : FVec F S128x128 .f32 :=
  divf e (broadcastTo S128x128
    (shapeCast S128x1 (multiReduction .add [1] S128 e 0x00000000#32 reduces_S128x128_S128 (.inl rfl) rfl)
      shapeCasts_S128_S128x1) broadcasts_S128x1_S128x128)

/-- A pair of blocks attended. -/
def pairAttend (q k v : FVec F S512x64 .f32) (g : Fin 4) : FVec F S128x64 .f32 :=
  matmul dot_S128x128_S128x64_S128x64_1_0_0_1_n_n none
    (pairWeights (pairExp (pairScores (pairRows q g) (pairRows k g)))) (pairRows v g)
    (constant S128x64 .f32 0x00000000#32)

/-- Where one trip of the loop stores: eight blocks of 64 rows. -/
structure Blocks where
  off : Fin 8 → Fin 4 → Nat
  inb : ∀ g a, off g a + S1x1x64x64.size a ≤ S2x8x512x64.size a

/-- One block of rows stored. -/
def ctxStore (B : Blocks) (g : Fin 8) (half : Fin 2) (v : FVec F S128x64 .f32) : Text F PUnit := do
  let _ ← Prog.lift (.load ctxScr (Rect.unit (s := S2x8x512x64) (B.off g) S1x1x64x64.size (B.inb g)).toLoadRect
    (View.loadsAt_vmem h_S1x1x64x64))
  Prog.lift (.store ctxScr (Rect.unit (s := S2x8x512x64) (B.off g) S1x1x64x64.size (B.inb g))
    (shapeCast S1x1x64x64 (extractStridedSlice S64x64 ![64 * half.val, 0] v (slices_half half)) shapeCasts_S64x64_S1x1x64x64)
    Finset.univ (View.stores_vmem_bits_univ h_S1x1x64x64 rfl) (.inl rfl))

/-- A pair of blocks attended and stored. -/
def pairStore (B : Blocks) (q k v : FVec F S512x64 .f32) (g : Fin 4) : Text F PUnit := do
  ctxStore B ⟨g.val, by omega⟩ 0 (pairAttend q k v g)
  ctxStore B ⟨g.val + 4, by omega⟩ 1 (pairAttend q k v g)

/-- The loop of a group's heads. -/
abbrev trips : Scf.Loop 32 := k0_t1_loop

def blocksAt (t : Fin trips.trips) : Blocks where
  off := ![k0_off6 t, k0_off8 t, k0_off10 t, k0_off12 t, k0_off7 t, k0_off9 t, k0_off11 t, k0_off13 t]
  inb := fun g => match g with
    | 0 => k0_off6_inb t | 1 => k0_off8_inb t | 2 => k0_off10_inb t | 3 => k0_off12_inb t
    | 4 => k0_off7_inb t | 5 => k0_off9_inb t | 6 => k0_off11_inb t | 7 => k0_off13_inb t

/-- The head's keys and values in the slot. -/
def offKv (p d : Fin 2) (t : Fin trips.trips) : Fin 6 → Nat :=
  ![p.val, d.val, k0_off5 t 2, k0_off5 t 3, 0, 0]
theorem inb_offKv (p d : Fin 2) (t : Fin trips.trips) :
    ∀ a, offKv p d t a + S1x1x1x1x512x64.size a ≤ S2x2x2x8x512x64.size a := by
  revert p d t; decide +kernel

/-- One trip: a batch row's head. -/
def trip (p d : Fin 2) (t : Fin trips.trips) : Text F PUnit := do
  let q ← Prog.lift (.load qScr (Rect.unit (s := S2x8x512x64) (k0_off4 t) S1x1x512x64.size (k0_off4_inb t)).toLoadRect
    (View.loadsAt_vmem h_S1x1x512x64))
  let k ← Prog.lift (.load kScr (Rect.unit (s := S2x2x2x8x512x64) (offKv p d t) S1x1x1x1x512x64.size (inb_offKv p d t)).toLoadRect
    (View.loadsAt_vmem h_S1x1x1x1x512x64))
  let v ← Prog.lift (.load vScr (Rect.unit (s := S2x2x2x8x512x64) (offKv p d t) S1x1x1x1x512x64.size (inb_offKv p d t)).toLoadRect
    (View.loadsAt_vmem h_S1x1x1x1x512x64))
  let att := pairStore (blocksAt t) (shapeCast S512x64 q shapeCasts_S1x1x512x64_S512x64)
    (shapeCast S512x64 k shapeCasts_S1x1x1x1x512x64_S512x64) (shapeCast S512x64 v shapeCasts_S1x1x1x1x512x64_S512x64)
  att 0; att 1; att 2; att 3

/-- The heads of one batch row loaded back. -/
def ctxLoad (b : Fin 2) (h : Fin 8) : Text F (FVec F S512x64 .f32) := do
  let x ← Prog.lift (.load ctxScr (Rect.unit (s := S2x8x512x64) ![b.val, h.val, 0, 0] S1x1x512x64.size (inb_q b h)).toLoadRect
    (View.loadsAt_vmem h_S1x1x512x64))
  pure (shapeCast S512x64 x shapeCasts_S1x1x512x64_S512x64)

/-- Eight heads side by side, rounded. -/
def sideBySide (x : Fin 8 → FVec F S512x64 .f32) : FVec F S512x512 .bf16 :=
  truncf .bf16 (concatenate S512x512 1
    [⟨S512x64, x 0⟩, ⟨S512x64, x 1⟩, ⟨S512x64, x 2⟩, ⟨S512x64, x 3⟩, ⟨S512x64, x 4⟩, ⟨S512x64, x 5⟩, ⟨S512x64, x 6⟩, ⟨S512x64, x 7⟩]
    concatenates_S512x64_S512x64_S512x64_S512x64_S512x64_S512x64_S512x64_S512x64_S512x512_d1) bitsLt_bf16_f32

/-- Their product with the output weights. -/
def outBlock (x : FVec F S512x512 .bf16) (w : FVec F S512x768 .bf16) : FVec F S512x768 .f32 :=
  matmul dot_S512x512_S512x768_S512x768_1_0_0_1_n_n none x w (constant S512x768 .f32 0x00000000#32)

/-- One batch row of the output: written by the first group, added to by the others. -/
def outStore (out : Memref sig .tc .vmem S2x512x768 .f32) (first : Bool) (b : Fin 2) (y : FVec F S512x768 .f32) :
    Text F PUnit := do
  let ld : Text F (Vec F S1x512x768 .f32) :=
    Prog.lift (.load out (Rect.unit (s := S2x512x768) ![b.val, 0, 0] S1x512x768.size (inb_wo b)).toLoadRect
      (View.loadsAt_vmem h_S1x512x768))
  let st (z : FVec F S512x768 .f32) : Text F PUnit :=
    Prog.lift (.store out (Rect.unit (s := S2x512x768) ![b.val, 0, 0] S1x512x768.size (inb_wo b))
      (shapeCast S1x512x768 z shapeCasts_S512x768_S1x512x768) Finset.univ
      (View.stores_vmem_bits_univ h_S1x512x768 rfl) (.inl rfl))
  match first with
  | true => let _ ← ld; st y
  | false => let o ← ld; let _ ← ld; st (addf (shapeCast S512x768 o shapeCasts_S1x512x768_S512x768) y)

def outRow (ldO : Text F (FVec F S512x768 .bf16)) (out : Memref sig .tc .vmem S2x512x768 .f32) (first : Bool) (b : Fin 2) :
    Text F PUnit := do
  let x0 ← ctxLoad b 0
  let x1 ← ctxLoad b 1
  let x2 ← ctxLoad b 2
  let x3 ← ctxLoad b 3
  let x4 ← ctxLoad b 4
  let x5 ← ctxLoad b 5
  let x6 ← ctxLoad b 6
  let x7 ← ctxLoad b 7
  let w ← ldO
  outStore out first b (outBlock (sideBySide ![x0, x1, x2, x3, x4, x5, x6, x7]) w)

/-- The loop over the two batch rows' heads. -/
def heads (p d : Fin 2) : Text F PUnit := Scf.Loop.for trips k0_t1_ok ⟨⟩ fun t _ => trip p d t

/-- One group: its queries, its heads' attention, its part of the output. -/
def chunk (ldQ : Text F (FVec F S768x512 .bf16)) (ldO : Text F (FVec F S512x768 .bf16))
    (out : Memref sig .tc .vmem S2x512x768 .f32) (p d : Fin 2) (first : Bool) : Text F PUnit := do
  queries1 ldQ 0
  queries1 ldQ 1
  heads p d
  outRow ldO out first 0
  outRow ldO out first 1

/-- The weights: the device's own rounded copies, or a slot of what has arrived. -/
def ldOwnQ : Text F (FVec F S768x512 .bf16) := do
  let x : Vec F S768x512 .bf16 ← Prog.lift (.load wqOwn (Rect.unit (s := S768x512) ![0, 0] S768x512.size inb_S768x512_S768x512_0_0).toLoadRect
    (View.loadsAt_vmem h_S768x512))
  pure x
def ldOwnO : Text F (FVec F S512x768 .bf16) := do
  let x : Vec F S512x768 .bf16 ← Prog.lift (.load woOwn (Rect.unit (s := S512x768) ![0, 0] S512x768.size inb_S512x768_S512x768_0_0).toLoadRect
    (View.loadsAt_vmem h_S512x768))
  pure x
def ldSlotQ (A : Memref sig .tc .vmem S2x768x512 .bf16) (k : Fin 2) : Text F (FVec F S768x512 .bf16) := do
  let x ← Prog.lift (.load A (Rect.unit (s := S2x768x512) ![k.val, 0, 0] S1x768x512.size (inb_wq k)).toLoadRect
    (View.loadsAt_vmem h_S1x768x512))
  pure (shapeCast S768x512 x shapeCasts_S1x768x512_S768x512)
def ldSlotO (A : Memref sig .tc .vmem S2x512x768 .bf16) (k : Fin 2) : Text F (FVec F S512x768 .bf16) := do
  let x ← Prog.lift (.load A (Rect.unit (s := S2x512x768) ![k.val, 0, 0] S1x512x768.size (inb_wo k)).toLoadRect
    (View.loadsAt_vmem h_S1x512x768))
  pure (shapeCast S512x768 x shapeCasts_S1x512x768_S512x768)

/-! ## The ring -/

/-- The neighbours, as the kernel computes them. -/
abbrev prv (c : Dev nD) : Dev nD := ⟨k0_dev1 c, k0_dev1_lt c⟩
abbrev nxt (c : Dev nD) : Dev nD := ⟨k0_dev2 c, k0_dev2_lt c⟩

/-- The copy of a block of query weights to a neighbour's slot. -/
def sendQ (src : Memref sig .tc .vmem S768x512 .bf16) (hsrc : src.view.WordExact) (A : Memref sig .tc .vmem S2x768x512 .bf16)
    (hA : A.IsWhole) (ss rs : DmaSems sig S2) (k : Fin 2) (n : Dev nD) : Text F PUnit :=
  Prog.lift (.enqueueDma src (.remote (Dev.tc n) (slotWq A k) (.dma (slotSem ss k))) (.dma (slotSem rs k)) hsrc
    ((hA.wordExact_slice rfl _ (words_wq k)).reshape _ _) ⟨⟨rfl, Or.inl rfl⟩, trivial⟩)
def sendO (src : Memref sig .tc .vmem S512x768 .bf16) (hsrc : src.view.WordExact) (A : Memref sig .tc .vmem S2x512x768 .bf16)
    (hA : A.IsWhole) (ss rs : DmaSems sig S2) (k : Fin 2) (n : Dev nD) : Text F PUnit :=
  Prog.lift (.enqueueDma src (.remote (Dev.tc n) (slotWo A k) (.dma (slotSem ss k))) (.dma (slotSem rs k)) hsrc
    ((hA.wordExact_slice rfl _ (words_wo k)).reshape _ _) ⟨⟨rfl, Or.inl rfl⟩, trivial⟩)

/-- The waits for such a copy: that it has left, and that one has arrived. -/
def leftQ (src : Memref sig .tc .vmem S768x512 .bf16) (hsrc : src.view.WordExact) (A : Memref sig .tc .vmem S2x768x512 .bf16)
    (hA : A.IsWhole) (ss : DmaSems sig S2) (k : Fin 2) : Text F PUnit :=
  Prog.lift (.waitDma2 (slotSem ss k) (slotWq A k) src ((hA.wordExact_slice rfl _ (words_wq k)).reshape _ _) hsrc)
def leftO (src : Memref sig .tc .vmem S512x768 .bf16) (hsrc : src.view.WordExact) (A : Memref sig .tc .vmem S2x512x768 .bf16)
    (hA : A.IsWhole) (ss : DmaSems sig S2) (k : Fin 2) : Text F PUnit :=
  Prog.lift (.waitDma2 (slotSem ss k) (slotWo A k) src ((hA.wordExact_slice rfl _ (words_wo k)).reshape _ _) hsrc)
def cameQ (A : Memref sig .tc .vmem S2x768x512 .bf16) (hA : A.IsWhole) (rs : DmaSems sig S2) (k : Fin 2) : Text F PUnit :=
  Prog.lift (.waitDma2 (slotSem rs k) (slotWq A k) (slotWq A k) ((hA.wordExact_slice rfl _ (words_wq k)).reshape _ _)
    ((hA.wordExact_slice rfl _ (words_wq k)).reshape _ _))
def cameO (A : Memref sig .tc .vmem S2x512x768 .bf16) (hA : A.IsWhole) (rs : DmaSems sig S2) (k : Fin 2) : Text F PUnit :=
  Prog.lift (.waitDma2 (slotSem rs k) (slotWo A k) (slotWo A k) ((hA.wordExact_slice rfl _ (words_wo k)).reshape _ _)
    ((hA.wordExact_slice rfl _ (words_wo k)).reshape _ _))

theorem exact_wq (A : Memref sig .tc .vmem S2x768x512 .bf16) (hA : A.IsWhole) (k : Fin 2) : (slotWq A k).view.WordExact :=
  (hA.wordExact_slice rfl _ (words_wq k)).reshape _ _
theorem exact_wo (A : Memref sig .tc .vmem S2x512x768 .bf16) (hA : A.IsWhole) (k : Fin 2) : (slotWo A k).view.WordExact :=
  (hA.wordExact_slice rfl _ (words_wo k)).reshape _ _

/-! ## The rounding of the operands -/

def roundW (x : Memref sig .tc .vmem S768x512 .f32) : Text F PUnit := do
  let v ← Prog.lift (.load x (Rect.unit (s := S768x512) ![0, 0] S768x512.size inb_S768x512_S768x512_0_0).toLoadRect
    (View.loadsAt_vmem h_S768x512))
  let _ ← Prog.lift (.load wqOwn (Rect.unit (s := S768x512) ![0, 0] S768x512.size inb_S768x512_S768x512_0_0).toLoadRect
    (View.loadsAt_vmem h_S768x512))
  Prog.lift (.store wqOwn (Rect.unit (s := S768x512) ![0, 0] S768x512.size inb_S768x512_S768x512_0_0)
    (shapeCast S768x512 (truncf .bf16 (shapeCast S768x512 v shapeCasts_S768x512_S768x512) bitsLt_bf16_f32) shapeCasts_S768x512_S768x512)
    Finset.univ (View.stores_vmem h_S768x512 ((Memref.isWhole_whole _).storeExact_slice rfl _ packedbf16_S768x512_S768x512_0_0)
      (fun _ => rfl)) (.inl rfl))
def roundO (x : Memref sig .tc .vmem S512x768 .f32) : Text F PUnit := do
  let v ← Prog.lift (.load x (Rect.unit (s := S512x768) ![0, 0] S512x768.size inb_S512x768_S512x768_0_0).toLoadRect
    (View.loadsAt_vmem h_S512x768))
  let _ ← Prog.lift (.load woOwn (Rect.unit (s := S512x768) ![0, 0] S512x768.size inb_S512x768_S512x768_0_0).toLoadRect
    (View.loadsAt_vmem h_S512x768))
  Prog.lift (.store woOwn (Rect.unit (s := S512x768) ![0, 0] S512x768.size inb_S512x768_S512x768_0_0)
    (shapeCast S512x768 (truncf .bf16 (shapeCast S512x768 v shapeCasts_S512x768_S512x768) bitsLt_bf16_f32) shapeCasts_S512x768_S512x768)
    Finset.univ (View.stores_vmem h_S512x768 ((Memref.isWhole_whole _).storeExact_slice rfl _ packedbf16_S512x768_S512x768_0_0)
      (fun _ => rfl)) (.inl rfl))
def roundX (x : Memref sig .tc .vmem S2x512x768 .f32) : Text F PUnit := do
  let v ← Prog.lift (.load x (Rect.unit (s := S2x512x768) ![0, 0, 0] S2x512x768.size inb_S2x512x768_S2x512x768_0_0_0).toLoadRect
    (View.loadsAt_vmem h_S2x512x768))
  let _ ← Prog.lift (.load xBf (Rect.unit (s := S2x512x768) ![0, 0, 0] S2x512x768.size inb_S2x512x768_S2x512x768_0_0_0).toLoadRect
    (View.loadsAt_vmem h_S2x512x768))
  Prog.lift (.store xBf (Rect.unit (s := S2x512x768) ![0, 0, 0] S2x512x768.size inb_S2x512x768_S2x512x768_0_0_0)
    (shapeCast S2x512x768 (truncf .bf16 (shapeCast S2x512x768 v shapeCasts_S2x512x768_S2x512x768) bitsLt_bf16_f32) shapeCasts_S2x512x768_S2x512x768)
    Finset.univ (View.stores_vmem h_S2x512x768 ((Memref.isWhole_whole _).storeExact_slice rfl _ packedbf16_S2x512x768_S2x512x768_0_0_0)
      (fun _ => rfl)) (.inl rfl))

/-! ## The body -/

abbrev wR : (wqR).IsWhole := Memref.isWhole_whole _
abbrev wRo : (woR).IsWhole := Memref.isWhole_whole _
abbrev wL : (wqL).IsWhole := Memref.isWhole_whole _
abbrev wLo : (woL).IsWhole := Memref.isWhole_whole _
abbrev wOwn : (wqOwn).view.WordExact := (Memref.isWhole_whole _).wordExact
abbrev wOwnO : (woOwn).view.WordExact := (Memref.isWhole_whole _).wordExact

/-- To the right neighbour: a block of query weights and one of output weights, into its slot `k`. -/
def sendRight (q : Memref sig .tc .vmem S768x512 .bf16) (hq : q.view.WordExact) (o : Memref sig .tc .vmem S512x768 .bf16)
    (ho : o.view.WordExact) (k : Fin 2) (c : Dev nD) : Text F PUnit := do
  sendQ q hq wqR wR cc0_scratch11 cc0_scratch12 k (nxt c)
  sendO o ho woR wRo cc0_scratch13 cc0_scratch14 k (nxt c)
/-- To the left neighbour. -/
def sendLeft (q : Memref sig .tc .vmem S768x512 .bf16) (hq : q.view.WordExact) (o : Memref sig .tc .vmem S512x768 .bf16)
    (ho : o.view.WordExact) (k : Fin 2) (c : Dev nD) : Text F PUnit := do
  sendQ q hq wqL wL cc0_scratch15 cc0_scratch16 k (prv c)
  sendO o ho woL wLo cc0_scratch17 cc0_scratch18 k (prv c)
def leftRight (q : Memref sig .tc .vmem S768x512 .bf16) (hq : q.view.WordExact) (o : Memref sig .tc .vmem S512x768 .bf16)
    (ho : o.view.WordExact) (k : Fin 2) : Text F PUnit := do
  leftQ q hq wqR wR cc0_scratch11 k
  leftO o ho woR wRo cc0_scratch13 k
def leftLeft (q : Memref sig .tc .vmem S768x512 .bf16) (hq : q.view.WordExact) (o : Memref sig .tc .vmem S512x768 .bf16)
    (ho : o.view.WordExact) (k : Fin 2) : Text F PUnit := do
  leftQ q hq wqL wL cc0_scratch15 k
  leftO o ho woL wLo cc0_scratch17 k
def cameRight (k : Fin 2) : Text F PUnit := do
  cameQ wqR wR cc0_scratch12 k
  cameO woR wRo cc0_scratch14 k
def cameLeft (k : Fin 2) : Text F PUnit := do
  cameQ wqL wL cc0_scratch16 k
  cameO woL wLo cc0_scratch18 k

def fwdRight (k k' : Fin 2) (c : Dev nD) : Text F PUnit :=
  sendRight (slotWq wqR k) (exact_wq _ wR k) (slotWo woR k) (exact_wo _ wRo k) k' c
def fwdLeft (k k' : Fin 2) (c : Dev nD) : Text F PUnit :=
  sendLeft (slotWq wqL k) (exact_wq _ wL k) (slotWo woL k) (exact_wo _ wLo k) k' c
def goneRight (k k' : Fin 2) : Text F PUnit :=
  leftRight (slotWq wqR k) (exact_wq _ wR k) (slotWo woR k) (exact_wo _ wRo k) k'
def goneLeft (k k' : Fin 2) : Text F PUnit :=
  leftLeft (slotWq wqL k) (exact_wq _ wL k) (slotWo woL k) (exact_wo _ wLo k) k'

abbrev barSem : Sem sig := (SemArray.scalar (sig.barrier 0 rfl) : Sems sig S_).sem

def chunkR (out : Memref sig .tc .vmem S2x512x768 .f32) (k : Fin 2) : Text F PUnit :=
  chunk (ldSlotQ wqR k) (ldSlotO woR k) out k 0 false
def chunkL (out : Memref sig .tc .vmem S2x512x768 .f32) (k : Fin 2) : Text F PUnit :=
  chunk (ldSlotQ wqL k) (ldSlotO woL k) out k 1 false

/-- The kernel's body in pieces. -/
def pieces (x : Memref sig .tc .vmem S2x512x768 .f32) (wq : Memref sig .tc .vmem S768x512 .f32)
    (wo : Memref sig .tc .vmem S512x768 .f32) (out : Memref sig .tc .vmem S2x512x768 .f32) : Text F PUnit := do
  let c ← Prog.lift .deviceId
  semSignalWord (prv c) barSem 1#32
  semSignalWord (nxt c) barSem 1#32
  semWaitWord barSem 2#32
  roundW wq
  roundO wo
  roundX x
  sendRight wqOwn wOwn woOwn wOwnO 1 c
  sendLeft wqOwn wOwn woOwn wOwnO 1 c
  kvStart (inOwn c) 0 0
  kvStart (inBefore c 0) 1 0
  kvStart (inNext c) 1 1
  kvWait (inOwn c) 0 0
  chunk ldOwnQ ldOwnO out 0 0 true
  leftRight wqOwn wOwn woOwn wOwnO 1
  leftLeft wqOwn wOwn woOwn wOwnO 1
  -- step 1
  kvStart (inBefore c 1) 0 0
  kvStart (inAfter c 0) 0 1
  cameRight 1
  fwdRight 1 0 c
  cameLeft 1
  fwdLeft 1 0 c
  kvWait (inBefore c 0) 1 0
  chunkR out 1
  kvWait (inNext c) 1 1
  chunkL out 1
  goneRight 1 0
  goneLeft 1 0
  semSignalWord (prv c) (freeSem cc0_scratch21 1) 1#32
  semSignalWord (nxt c) (freeSem cc0_scratch22 1) 1#32
  -- step 2
  kvStart (inBefore c 2) 1 0
  kvStart (inAfter c 1) 1 1
  cameRight 0
  semWaitWord (freeSem cc0_scratch21 1) 1#32
  fwdRight 0 1 c
  cameLeft 0
  semWaitWord (freeSem cc0_scratch22 1) 1#32
  fwdLeft 0 1 c
  kvWait (inBefore c 1) 0 0
  chunkR out 0
  kvWait (inAfter c 0) 0 1
  chunkL out 0
  goneRight 0 1
  goneLeft 0 1
  semSignalWord (prv c) (freeSem cc0_scratch21 0) 1#32
  -- step 3
  kvStart (inBefore c 3) 0 0
  cameRight 1
  semWaitWord (freeSem cc0_scratch21 0) 1#32
  fwdRight 1 0 c
  cameLeft 1
  kvWait (inBefore c 2) 1 0
  chunkR out 1
  kvWait (inAfter c 1) 1 1
  chunkL out 1
  goneRight 1 0
  -- step 4
  cameRight 0
  kvWait (inBefore c 3) 0 0
  chunkR out 0

end Cert.Proof.Ring
-- ==== Proof.Base.lean ====
/- The setting of the run: the resources it keeps, and what a stretch of the body's text does. -/
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Batch
public import Idealize.ShloMosaic.Lib.MemrefSat
public import Idealize.ShloMosaic.Lib.Scf
public import Idealize.ShloMosaic.Lib.ValueIdxCore
public import Idealize.ShloMosaic.Lib.ValueIdxRank6
public import Idealize.ShloMosaic.Lib.ValueLayout
public import Idealize.ShloMosaic.Lib.Pipeline.TalkSites
public import Idealize.ShloMosaic.Lib.Tactic

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- The ring's rounds, beside the pipeline's own and the counters of the batches of copies. -/
abbrev UB : Type := URounds (GSem nD τ sig) Bool
abbrev UU : Type := UR sig nD τ × (UB × Counters)

/-- The world's resources. -/
abbrev World (F : FTy → Type) := MT nD τ sig ℕ (Elt F) ℕ UU ℕ

abbrev EP : Emb (UR sig nD τ) (World F) := embL
abbrev ER : Emb UB (World F) := (Emb.inl : Emb UB (UB × Counters)).trans embR
abbrev EC : UEmb Counters (World F) := countersEmb (U := UU)

instance lands_rounds : (ER : Emb UB (World F)).LandsIn (upEmb : UEmb _ (World F)) := by unfold ER; infer_instance

abbrev 𝒱₀ : Variants := Variants.none

/-- What holds of running `p` on device `c`. -/
abbrev runs {α : Type} (c : Dev nD) (p : Text F α) (Q : α → sProp (World F)) : sProp (World F) :=
  wp frame (wpE (defs₀ (F := F)) 𝒱₀ (c : Thread nD τ) none) Set.univ p Q

/-- One stretch of text after another. -/
theorem runs_bind {α β : Type} (c : Dev nD) (p : Text F α) (k : α → Text F β) (Q : β → sProp (World F)) :
    runs c (p >>= k) Q = runs c p fun a => runs c (k a) Q := wp_bind ..

/-- Nothing left to run. -/
theorem runs_pure {α : Type} (c : Dev nD) (a : α) (Q : α → sProp (World F)) : Q a ⊢ runs c (pure a : Text F α) Q := by
  show Q a ⊢ wp frame (wpE (defs₀ (F := F)) 𝒱₀ (c : Thread nD τ) none) Set.univ (Prog.ret a) Q
  rw [wp_ret]; exact fupd_intro

end Cert.Proof.Ring
-- ==== Proof.Chunk.lean ====
/- One group's attention on one device: what its text reads and writes. -/
module

public import proofs.«01_k».proof.Proof.Base

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The values -/

/-- All heads of both batch rows. -/
abbrev Heads (F : FTy → Type) := S2x8x512x64.Idx → F .f32

/-- One head of one batch row. -/
def headOf (f : Heads F) (b : Fin 2) (h : Fin 8) : FVec F S512x64 .f32 := fun j => f (ix4 b h (j 0) (j 1))

/-- One batch row of the rounded input, as loaded. -/
def rowOf {e : EltTy} (x : S2x512x768.Idx → Elt F e) (b : Fin 2) : S1x512x768.Idx → Elt F e := fun j => x (ix3 b (j 1) (j 2))

/-- The queries of all heads. -/
def queriesOf (x : S2x512x768.Idx → F .bf16) (wq : FVec F S768x512 .bf16) : Heads F := fun i =>
  headCols (project (F := F) (rowOf (e := .bf16) x (i 0)) wq) (i 1) (ix2 (i 2) (i 3))

/-- Keys or values: for each head, both batch rows. -/
abbrev KV (F : FTy → Type) := Fin 8 → S2x512x64.Idx → F .f32

def kvHead (K : KV F) (b : Fin 2) (h : Fin 8) : FVec F S512x64 .f32 := fun j => K h (ix3 b (j 0) (j 1))

/-- A head attended: row `r` is in block `r / 64`, and block `g` is paired with block `g + 4`. -/
def attHead (q k v : FVec F S512x64 .f32) : FVec F S512x64 .f32 := fun j =>
  pairAttend q k v ⟨(j 0).val / 64 % 4, Nat.mod_lt _ (by decide)⟩
    (ix2 ⟨64 * ((j 0).val / 256) + (j 0).val % 64, by have := (j 0).isLt; change _ < 512 at this; omega⟩ (j 1))

/-- All heads attended. -/
def attOf (q : Heads F) (K V : KV F) : Heads F := fun i =>
  attHead (headOf q (i 0) (i 1)) (kvHead K (i 0) (i 1)) (kvHead V (i 0) (i 1)) (ix2 (i 2) (i 3))

/-- One group's part of one batch row of the output. -/
def partOf (x : S2x512x768.Idx → F .bf16) (wq : FVec F S768x512 .bf16) (wo : FVec F S512x768 .bf16) (K V : KV F) (b : Fin 2) :
    FVec F S512x768 .f32 :=
  outBlock (sideBySide fun h => headOf (attOf (queriesOf x wq) K V) b h) wo

/-- The output: begun by the first group, added to by the others. -/
def outStep (first : Bool) (y : Fin 2 → FVec F S512x768 .f32) (o : S2x512x768.Idx → F .f32) : S2x512x768.Idx → F .f32 := fun i =>
  (match first with
    | true => y (i 0)
    | false => addf (fun j => o (ix3 (i 0) (j 0) (j 1))) (y (i 0))) (ix2 (i 1) (i 2))

/-! ## Reading and writing through rectangles -/

section Casts
variable {α : Type} {a b c : ℕ}

theorem cast_drop2 (x : (⟨4, ![1, 1, a, b]⟩ : Shape).Idx → α) (h : (⟨4, ![1, 1, a, b]⟩ : Shape).ShapeCasts ⟨2, ![a, b]⟩) :
    shapeCast ⟨2, ![a, b]⟩ x h = fun j => x (ix4 (0 : Fin 1) (0 : Fin 1) (j 0) (j 1)) :=
  funext fun j => shapeCast_apply x h j _ (by
    rw [Shape.rowMajor_val_four, Shape.rowMajor_val_two]
    show ((0 * 1 + 0) * a + (j 0).val) * b + (j 1).val = (j 0).val * b + (j 1).val
    rw [Nat.zero_mul, Nat.zero_add])

theorem cast_add2 (x : (⟨2, ![a, b]⟩ : Shape).Idx → α) (h : (⟨2, ![a, b]⟩ : Shape).ShapeCasts ⟨4, ![1, 1, a, b]⟩)
    (i : (⟨4, ![1, 1, a, b]⟩ : Shape).Idx) : shapeCast ⟨4, ![1, 1, a, b]⟩ x h i = x (ix2 (i 2) (i 3)) :=
  shapeCast_apply x h i _ (by
    rw [Shape.rowMajor_val_four, Shape.rowMajor_val_two]
    have h0 : (i 0).val = 0 := Nat.lt_one_iff.mp (i 0).isLt
    have h1 : (i 1).val = 0 := Nat.lt_one_iff.mp (i 1).isLt
    rw [h0, h1]
    show (i 2).val * b + (i 3).val = ((0 * 1 + 0) * a + (i 2).val) * b + (i 3).val
    rw [Nat.zero_mul, Nat.zero_add])

theorem cast_drop1 (x : (⟨3, ![1, a, b]⟩ : Shape).Idx → α) (h : (⟨3, ![1, a, b]⟩ : Shape).ShapeCasts ⟨2, ![a, b]⟩) :
    shapeCast ⟨2, ![a, b]⟩ x h = fun j => x (ix3 (0 : Fin 1) (j 0) (j 1)) :=
  funext fun j => shapeCast_apply x h j _ (by
    rw [Shape.rowMajor_val_three, Shape.rowMajor_val_two]
    show (0 * a + (j 0).val) * b + (j 1).val = (j 0).val * b + (j 1).val
    rw [Nat.zero_mul, Nat.zero_add])

theorem cast_add1 (x : (⟨2, ![a, b]⟩ : Shape).Idx → α) (h : (⟨2, ![a, b]⟩ : Shape).ShapeCasts ⟨3, ![1, a, b]⟩)
    (i : (⟨3, ![1, a, b]⟩ : Shape).Idx) : shapeCast ⟨3, ![1, a, b]⟩ x h i = x (ix2 (i 1) (i 2)) :=
  shapeCast_apply x h i _ (by
    rw [Shape.rowMajor_val_three, Shape.rowMajor_val_two]
    have h0 : (i 0).val = 0 := Nat.lt_one_iff.mp (i 0).isLt
    rw [h0]
    show (i 1).val * b + (i 2).val = (0 * a + (i 1).val) * b + (i 2).val
    rw [Nat.zero_mul, Nat.zero_add])

theorem cast_drop4 (x : (⟨6, ![1, 1, 1, 1, a, b]⟩ : Shape).Idx → α) (h : (⟨6, ![1, 1, 1, 1, a, b]⟩ : Shape).ShapeCasts ⟨2, ![a, b]⟩) :
    shapeCast ⟨2, ![a, b]⟩ x h = fun j => x (ix6 (0 : Fin 1) (0 : Fin 1) (0 : Fin 1) (0 : Fin 1) (j 0) (j 1)) :=
  funext fun j => shapeCast_apply x h j _ (by
    rw [Shape.rowMajor_val_six, Shape.rowMajor_val_two]
    show ((((0 * 1 + 0) * 1 + 0) * 1 + 0) * a + (j 0).val) * b + (j 1).val = (j 0).val * b + (j 1).val
    simp only [Nat.zero_mul, Nat.zero_add])

end Casts

/-- A block put into an array, at an index. -/
theorem updateSlice_ite {α : Type} {s u : Shape} (x : s.Idx → α) (upd : u.Idx → α) (start : Fin s.rank → Nat) (h : s.Slices start u)
    (i : s.Idx) (P : Prop) [Decidable P] (w : α)
    (hP : P ↔ ∀ a : Fin s.rank, start a ≤ (i a).val ∧ (i a).val < start a + u.size (a.cast h.1.symm))
    (hw : ∀ j : u.Idx, (∀ b : Fin u.rank, (j b).val = (i (b.cast h.1)).val - start (b.cast h.1)) → P → upd j = w) :
    updateSlice x upd start h i = if P then w else x i := by
  unfold updateSlice
  by_cases hp : P
  · rw [dif_pos (hP.mp hp), if_pos hp]
    exact hw _ (fun _ => rfl) hp
  · rw [dif_neg (fun hin => hp (hP.mpr hin)), if_neg hp]

theorem forall4 {P : Fin 4 → Prop} : (∀ a, P a) ↔ P 0 ∧ P 1 ∧ P 2 ∧ P 3 := by
  simp only [Fin.forall_fin_succ, Fin.forall_fin_zero_pi, IsEmpty.forall_iff, and_true]; rfl
theorem forall3 {P : Fin 3 → Prop} : (∀ a, P a) ↔ P 0 ∧ P 1 ∧ P 2 := by
  simp only [Fin.forall_fin_succ, IsEmpty.forall_iff, and_true]; rfl

section Blocks
variable {α : Type}

/-- A block of an array: the elements from `off` on. -/
def blockAt {s : Shape} (X : s.Idx → α) (off size : Fin s.rank → ℕ) (inb : ∀ a, off a + size a ≤ s.size a) : (⟨s.rank, size⟩ : Shape).Idx → α :=
  fun j => X ((Rect.unit off size inb).emb j)

/-- A head read back. -/
theorem block_head (f : S2x8x512x64.Idx → α) (b : Fin 2) (h : Fin 8) {off : Fin 4 → ℕ} (ho : off = ![b.val, h.val, 0, 0]) (inb) (hc) :
    shapeCast S512x64 (blockAt (s := S2x8x512x64) f off S1x1x512x64.size inb) hc = fun j => f (ix4 b h (j 0) (j 1)) := by
  subst ho
  refine (cast_drop2 _ hc).trans (funext fun j => congrArg f (funext fun a => Fin.ext ?_))
  revert a
  refine forall4.mpr ⟨?_, ?_, ?_, ?_⟩
  · show b.val + 1 * 0 = b.val; omega
  · show h.val + 1 * 0 = h.val; omega
  · show 0 + 1 * (j 0).val = (j 0).val; omega
  · show 0 + 1 * (j 1).val = (j 1).val; omega

/-- A head put in place. -/
theorem put_head (f : S2x8x512x64.Idx → α) (b : Fin 2) (h : Fin 8) (v : S512x64.Idx → α) (hc) (hs) :
    updateSlice (s := S2x8x512x64) (u := S1x1x512x64) f (shapeCast S1x1x512x64 v hc) ![b.val, h.val, 0, 0] hs
      = fun i : S2x8x512x64.Idx => if (i 0).val = b.val ∧ (i 1).val = h.val then v (ix2 (i 2) (i 3)) else f i := by
  funext i
  refine updateSlice_ite (s := S2x8x512x64) (u := S1x1x512x64) f _ _ _ i _ _ ?_ ?_
  · refine Iff.trans ?_ forall4.symm
    have h2 : (i 2).val < 512 := (i 2).isLt
    have h3 : (i 3).val < 64 := (i 3).isLt
    show _ ↔ (b.val ≤ (i 0).val ∧ (i 0).val < b.val + 1) ∧ (h.val ≤ (i 1).val ∧ (i 1).val < h.val + 1)
      ∧ (0 ≤ (i 2).val ∧ (i 2).val < 0 + 512) ∧ (0 ≤ (i 3).val ∧ (i 3).val < 0 + 64)
    omega
  · intro j hj _
    refine (cast_add2 v hc j).trans (congrArg v (funext fun a => Fin.ext ?_))
    fin_cases a
    · exact hj 2
    · exact hj 3

/-- One block of 64 rows put into a head. -/
theorem put_rows (f : S2x8x512x64.Idx → α) (b : Fin 2) (h g : Fin 8) (v : S64x64.Idx → α) {off : Fin 4 → ℕ} (ho : off = ![b.val, h.val, 64 * g.val, 0])
    (hc) (hs) :
    updateSlice (s := S2x8x512x64) (u := S1x1x64x64) f (shapeCast S1x1x64x64 v hc) off hs
      = fun i : S2x8x512x64.Idx => if (i 0).val = b.val ∧ (i 1).val = h.val ∧ (i 2).val / 64 = g.val
          then v (ix2 ⟨(i 2).val % 64, Nat.mod_lt _ (by decide)⟩ (i 3)) else f i := by
  subst ho
  funext i
  refine updateSlice_ite (s := S2x8x512x64) (u := S1x1x64x64) f _ _ _ i _ _ ?_ ?_
  · refine Iff.trans ?_ forall4.symm
    have h2 : (i 2).val < 512 := (i 2).isLt
    have h3 : (i 3).val < 64 := (i 3).isLt
    show _ ↔ (b.val ≤ (i 0).val ∧ (i 0).val < b.val + 1) ∧ (h.val ≤ (i 1).val ∧ (i 1).val < h.val + 1)
      ∧ (64 * g.val ≤ (i 2).val ∧ (i 2).val < 64 * g.val + 64) ∧ (0 ≤ (i 3).val ∧ (i 3).val < 0 + 64)
    omega
  · intro j hj hp
    refine (cast_add2 v hc j).trans (congrArg v (funext fun a => Fin.ext ?_))
    have h2 : (j 2).val = (i 2).val - 64 * g.val := hj 2
    fin_cases a
    · show (j 2).val = (i 2).val % 64
      omega
    · exact hj 3

/-- One batch row. -/
theorem block_row (f : S2x512x768.Idx → α) (b : Fin 2) (inb) :
    blockAt (s := S2x512x768) f ![b.val, 0, 0] S1x512x768.size inb = fun j => f (ix3 b (j 1) (j 2)) := by
  refine funext fun j => congrArg f (funext fun a => Fin.ext ?_)
  have h0 : (j 0).val = 0 := Nat.lt_one_iff.mp (j 0).isLt
  revert a
  refine forall3.mpr ⟨?_, ?_, ?_⟩
  · show b.val + 1 * (j 0).val = b.val; omega
  · show 0 + 1 * (j 1).val = (j 1).val; omega
  · show 0 + 1 * (j 2).val = (j 2).val; omega

theorem put_row (f : S2x512x768.Idx → α) (b : Fin 2) (v : S512x768.Idx → α) (hc) (hs) :
    updateSlice (s := S2x512x768) (u := S1x512x768) f (shapeCast S1x512x768 v hc) ![b.val, 0, 0] hs
      = fun i : S2x512x768.Idx => if (i 0).val = b.val then v (ix2 (i 1) (i 2)) else f i := by
  funext i
  refine updateSlice_ite (s := S2x512x768) (u := S1x512x768) f _ _ _ i _ _ ?_ ?_
  · refine Iff.trans ?_ forall3.symm
    have h1 : (i 1).val < 512 := (i 1).isLt
    have h2 : (i 2).val < 768 := (i 2).isLt
    show _ ↔ (b.val ≤ (i 0).val ∧ (i 0).val < b.val + 1) ∧ (0 ≤ (i 1).val ∧ (i 1).val < 0 + 512) ∧ (0 ≤ (i 2).val ∧ (i 2).val < 0 + 768)
    omega
  · intro j hj _
    refine (cast_add1 v hc j).trans (congrArg v (funext fun a => Fin.ext ?_))
    fin_cases a
    · exact hj 1
    · exact hj 2

end Blocks

/-! ## Loads and stores of what a memref owns -/

/-- A memref's elements owned by device `c`. -/
abbrev own {sp : Space} {s : Shape} {e : EltTy} (c : Dev nD) (m : Memref sig .tc sp s e) (q : PosShare TreeShare) (X : s.Idx → Elt F e) :
    sProp (World F) := owns (c : Thread nD τ) m q X

theorem runs_load {α : Type} {cs : CoreSpace} {s : Shape} {e : EltTy} (c : Dev nD) (m : Memref sig .tc cs s e) {q : PosShare TreeShare} {X : s.Idx → Elt F e}
    {off size : Fin s.rank → ℕ} {inb : ∀ a, off a + size a ≤ s.size a} {hl : m.view.LoadsAt (Rect.unit off size inb).toLoadRect}
    {k : ((⟨s.rank, size⟩ : Shape).Idx → Elt F e) → Text F α} {Q : α → sProp (World F)} :
    iprop(own c m q X ∗ (own c m q X -∗ runs c (k (blockAt X off size inb)) Q)) ⊢ runs c (.op (.load m (Rect.unit off size inb).toLoadRect hl) k) Q := by
  unfold own owns
  iintro ⟨⟨%f, %hf, H⟩, Hk⟩
  iapply (wp_load 𝒱₀ (c : Thread nD τ) none Set.univ (m := m) (View.setOn_subset_set _ _)) $$ H
  iintro H
  subst hf
  iapply Hk
  iexists f
  isplitr; · (ipureintro; rfl)
  iexact H

theorem runs_store {α : Type} {cs : CoreSpace} {s : Shape} {e : EltTy} (c : Dev nD) (m : Memref sig .tc cs s e) {X : s.Idx → Elt F e}
    {off size : Fin s.rank → ℕ} {inb : ∀ a, off a + size a ≤ s.size a} {w : (⟨s.rank, size⟩ : Shape).Idx → Elt F e}
    {hx : (m.access (Rect.unit off size inb)).Stores Finset.univ} {hm}
    {k : PUnit → Text F α} {Q : α → sProp (World F)} :
    iprop(own c m fullShare X ∗ (own c m fullShare (updateSlice X w off ⟨rfl, inb⟩) -∗ runs c (k ⟨⟩) Q))
      ⊢ runs c (.op (.store m (Rect.unit off size inb) w Finset.univ hx hm) k) Q := by
  unfold own owns
  iintro ⟨⟨%f, %hf, H⟩, Hk⟩
  iapply (wp_store 𝒱₀ (c : Thread nD τ) none Set.univ (m := m) (r := Rect.unit off size inb) (Mk := Finset.univ)
    (S := m.view.set) (View.set_slice_subset _ _)) $$ H
  iintro H
  iapply Hk
  iexists _
  isplitr
  swap
  · iexact H
  ipureintro
  subst hf
  funext i
  classical
  by_cases hi : ∀ a, off a ≤ (i a).val ∧ (i a).val < off a + size a
  · have hj : (Rect.unit off size inb).emb (fun a => (⟨(i a).val - off a, by have := hi a; omega⟩ : Fin (size a))) = i := by
      funext a; apply Fin.ext
      have := hi a
      show off a + 1 * ((i a).val - off a) = (i a).val
      omega
    refine (congrArg _ hj.symm).trans ((View.read_slice_write_emb (v := m.view) (Rect.unit off size inb) f w (Finset.mem_univ _)).trans ?_)
    exact ((updateSlice_ite _ w off ⟨rfl, inb⟩ i (∀ a, off a ≤ (i a).val ∧ (i a).val < off a + size a) _ Iff.rfl
      fun j hj' _ => congrArg w (funext fun a => Fin.ext (hj' a))).trans (if_pos hi)).symm
  · refine (View.read_slice_write_of_not_mem (v := m.view) (Rect.unit off size inb) f w Finset.univ ?_).trans ?_
    · rw [Rect.map_emb_univ]
      exact fun hm => hi (Rect.mem_set_unit.mp hm)
    · exact ((updateSlice_ite _ w off ⟨rfl, inb⟩ i (∀ a, off a ≤ (i a).val ∧ (i a).val < off a + size a) (m.view.read (Elt F) f i) Iff.rfl
        fun j hj' h => absurd h hi).trans (if_neg hi)).symm

/-! ## What has been written so far -/

section Overlay
variable {ι α : Type}
open Classical in
/-- `A` where it has been written, `X` elsewhere. -/
def overlay (P : ι → Prop) (A X : ι → α) : ι → α := fun i => if P i then A i else X i

theorem overlay_none {P : ι → Prop} (h : ∀ i, ¬ P i) (A X : ι → α) : overlay P A X = X :=
  funext fun i => if_neg (h i)
theorem overlay_all {P : ι → Prop} (h : ∀ i, P i) (A X : ι → α) : overlay P A X = A :=
  funext fun i => if_pos (h i)
theorem overlay_put {P R P' : ι → Prop} [DecidablePred R] {v A X : ι → α} (hv : ∀ i, R i → v i = A i) (hP : ∀ i, P' i ↔ R i ∨ P i) :
    (fun i => if R i then v i else overlay P A X i) = overlay P' A X := by
  funext i
  unfold overlay
  by_cases hr : R i
  · rw [if_pos hr, if_pos ((hP i).mpr (.inl hr)), hv i hr]
  · rw [if_neg hr]
    by_cases hp : P i
    · rw [if_pos hp, if_pos ((hP i).mpr (.inr hp))]
    · rw [if_neg hp, if_neg fun h => ((hP i).mp h).elim hr hp]
end Overlay

/-! ## The queries -/

theorem runs_qStore (c : Dev nD) (b : Fin 2) (h : Fin 8) (v : FVec F S512x64 .f32) (X : Heads F) (Q : PUnit → sProp (World F)) :
    iprop(own c qScr fullShare X
      ∗ (own c qScr fullShare (fun i : S2x8x512x64.Idx => if (i 0).val = b.val ∧ (i 1).val = h.val then v (ix2 (i 2) (i 3)) else X i) -∗ Q ⟨⟩))
      ⊢ runs c (qStore b h v) Q := by
  unfold qStore
  simp only [Prog.lift, Prog.bind_op, Prog.bind_ret]
  iintro ⟨H, Hk⟩
  iapply (runs_load c qScr)
  isplitl [H]; · iexact H
  iintro H
  iapply (runs_store c qScr)
  isplitl [H]; · iexact H
  iintro H
  iapply (runs_pure c PUnit.unit Q)
  iapply Hk
  iapply (Entails.of_eq (congrArg (own c qScr fullShare) (put_head X b h v _ _)))
  iexact H

theorem runs_eight (c : Dev nD) (f : Fin 8 → Text F PUnit) (I : ℕ → sProp (World F))
    (hI : ∀ (h : Fin 8) (Q : PUnit → sProp (World F)), iprop(I h.val ∗ (I (h.val + 1) -∗ Q ⟨⟩)) ⊢ runs c (f h) Q) (Q : PUnit → sProp (World F)) :
    iprop(I 0 ∗ (I 8 -∗ Q ⟨⟩)) ⊢ runs c (eight f) Q := by
  unfold eight
  simp only [runs_bind]
  have h0 : ∀ Q : PUnit → sProp (World F), iprop(I 0 ∗ (I 1 -∗ Q ⟨⟩)) ⊢ runs c (f 0) Q := hI 0
  have h1 : ∀ Q : PUnit → sProp (World F), iprop(I 1 ∗ (I 2 -∗ Q ⟨⟩)) ⊢ runs c (f 1) Q := hI 1
  have h2 : ∀ Q : PUnit → sProp (World F), iprop(I 2 ∗ (I 3 -∗ Q ⟨⟩)) ⊢ runs c (f 2) Q := hI 2
  have h3 : ∀ Q : PUnit → sProp (World F), iprop(I 3 ∗ (I 4 -∗ Q ⟨⟩)) ⊢ runs c (f 3) Q := hI 3
  have h4 : ∀ Q : PUnit → sProp (World F), iprop(I 4 ∗ (I 5 -∗ Q ⟨⟩)) ⊢ runs c (f 4) Q := hI 4
  have h5 : ∀ Q : PUnit → sProp (World F), iprop(I 5 ∗ (I 6 -∗ Q ⟨⟩)) ⊢ runs c (f 5) Q := hI 5
  have h6 : ∀ Q : PUnit → sProp (World F), iprop(I 6 ∗ (I 7 -∗ Q ⟨⟩)) ⊢ runs c (f 6) Q := hI 6
  have h7 : ∀ Q : PUnit → sProp (World F), iprop(I 7 ∗ (I 8 -∗ Q ⟨⟩)) ⊢ runs c (f 7) Q := hI 7
  iintro ⟨H, Hk⟩
  iapply (h0 _); isplitl [H]; · iexact H
  iintro H
  iapply (h1 _); isplitl [H]; · iexact H
  iintro H
  iapply (h2 _); isplitl [H]; · iexact H
  iintro H
  iapply (h3 _); isplitl [H]; · iexact H
  iintro H
  iapply (h4 _); isplitl [H]; · iexact H
  iintro H
  iapply (h5 _); isplitl [H]; · iexact H
  iintro H
  iapply (h6 _); isplitl [H]; · iexact H
  iintro H
  iapply (h7 _); isplitl [H]; · iexact H
  iexact Hk

/-- A load of a value while holding `R`. -/
def Loads {α : Type} (c : Dev nD) (R : sProp (World F)) (p : Text F α) (w : α) : Prop :=
  ∀ Q : α → sProp (World F), iprop(R ∗ (R -∗ Q w)) ⊢ runs c p Q

theorem runs_queries1 (c : Dev nD) (b : Fin 2) (x : S2x512x768.Idx → F .bf16) (R : sProp (World F)) (ldQ : Text F (FVec F S768x512 .bf16))
    (wq : FVec F S768x512 .bf16) (hQ : Loads c R ldQ wq) (X : Heads F) (Q : PUnit → sProp (World F)) :
    iprop(own (e := .bf16) c xBf fullShare x ∗ R ∗ own c qScr fullShare X
      ∗ ((own (e := .bf16) c xBf fullShare x ∗ R ∗ own c qScr fullShare (overlay (fun i : S2x8x512x64.Idx => (i 0).val = b.val) (queriesOf x wq) X)) -∗ Q ⟨⟩))
      ⊢ runs c (queries1 ldQ b) Q := by
  unfold queries1
  simp only [Prog.lift, Prog.bind_op, Prog.bind_ret, runs_bind]
  iintro ⟨Hx, HR, H, Hk⟩
  iapply (runs_load c xBf)
  isplitl [Hx]; · iexact Hx
  iintro Hx
  rw [block_row, runs_bind]
  iapply (hQ _)
  isplitl [HR]; · iexact HR
  iintro HR
  iapply (runs_eight c _ fun n => own c qScr fullShare (overlay (fun i : S2x8x512x64.Idx => (i 0).val = b.val ∧ (i 1).val < n) (queriesOf x wq) X))
  · intro h Q'
    iintro ⟨H, Hk⟩
    iapply (runs_qStore c b h)
    isplitl [H]; · iexact H
    rw [overlay_put (P' := fun i : S2x8x512x64.Idx => (i 0).val = b.val ∧ (i 1).val < h.val + 1)]
    · iexact Hk
    · rintro i ⟨h0, h1⟩
      obtain rfl : i 0 = b := Fin.ext h0
      obtain rfl : i 1 = h := Fin.ext h1
      rfl
    · intro i; omega
  isplitl [H]
  · rw [overlay_none (fun i h => Nat.not_lt_zero _ h.2)]
    iexact H
  iintro H
  iapply Hk
  isplitl [Hx]; · iexact Hx
  isplitl [HR]; · iexact HR
  rw [show (fun i : S2x8x512x64.Idx => (i 0).val = b.val ∧ (i 1).val < 8) = fun i : S2x8x512x64.Idx => (i 0).val = b.val from
    funext fun i => propext (and_iff_left (i 1).isLt)]
  iexact H

/-! ## The keys and values of a slot -/

/-- Slot `(p, d)` of keys or values: each head's piece. -/
def kvOwn (c : Dev nD) (A : Memref sig .tc .vmem S2x2x2x8x512x64 .f32) (p d : Fin 2) (K : KV F) : sProp (World F) :=
  bigSep Finset.univ fun h : Fin 8 => own c (kvDst A p d h) fullShare (K h)

theorem kv_emb (p d : Fin 2) (h : Fin 8) (b : Fin 2) (r : Fin 512) (x : Fin 64) (A : Memref sig .tc .vmem S2x2x2x8x512x64 .f32) :
    (kvDst A p d h).view.emb (ix3 b r x) = A.view.emb (ix6 p d b h r x) := by
  show A.view.emb ((Rect.unit (s := S2x2x2x8x512x64) ![p.val, d.val, 0, h.val, 0, 0] S1x1x2x1x512x64.size (inb_kv p d h)).emb
    (Shape.reshapeEquiv (Facts₀.squeezes_S1x1x2x1x512x64_S2x512x64).numel_eq (ix3 b r x))) = _
  refine congrArg A.view.emb ((congrArg _ (reshapeEquiv_ix3_11a1bc _ b r x)).trans (funext fun a => Fin.ext ?_))
  fin_cases a
  · show p.val + 1 * 0 = p.val; omega
  · show d.val + 1 * 0 = d.val; omega
  · show 0 + 1 * b.val = b.val; omega
  · show h.val + 1 * 0 = h.val; omega
  · show 0 + 1 * r.val = r.val; omega
  · show 0 + 1 * x.val = x.val; omega

theorem kv_block {p d : Fin 2} {h : Fin 8} {b : Fin 2} {off : Fin 6 → ℕ} (ho : off = ![p.val, d.val, b.val, h.val, 0, 0])
    (inb : ∀ a, off a + S1x1x1x1x512x64.size a ≤ S2x2x2x8x512x64.size a) (j : S1x1x1x1x512x64.Idx) :
    (Rect.unit (s := S2x2x2x8x512x64) off S1x1x1x1x512x64.size inb).emb j = ix6 p d b h (j 4) (j 5) := by
  subst ho
  have h0 : (j 0).val = 0 := Nat.lt_one_iff.mp (j 0).isLt
  have h1 : (j 1).val = 0 := Nat.lt_one_iff.mp (j 1).isLt
  have h2 : (j 2).val = 0 := Nat.lt_one_iff.mp (j 2).isLt
  have h3 : (j 3).val = 0 := Nat.lt_one_iff.mp (j 3).isLt
  funext a
  apply Fin.ext
  fin_cases a
  · show p.val + 1 * (j 0).val = p.val; omega
  · show d.val + 1 * (j 1).val = d.val; omega
  · show b.val + 1 * (j 2).val = b.val; omega
  · show h.val + 1 * (j 3).val = h.val; omega
  · show 0 + 1 * (j 4).val = (j 4).val; omega
  · show 0 + 1 * (j 5).val = (j 5).val; omega

/-- One batch row of one head loaded from a slot. -/
theorem runs_kvLoad {α : Type} (c : Dev nD) (A : Memref sig .tc .vmem S2x2x2x8x512x64 .f32) (p d : Fin 2) (b : Fin 2) (h : Fin 8) (K : KV F)
    {off : Fin 6 → ℕ} (ho : off = ![p.val, d.val, b.val, h.val, 0, 0])
    {inb : ∀ a, off a + S1x1x1x1x512x64.size a ≤ S2x2x2x8x512x64.size a}
    {hl : A.view.LoadsAt (Rect.unit (s := S2x2x2x8x512x64) off S1x1x1x1x512x64.size inb).toLoadRect}
    {k : (S1x1x1x1x512x64.Idx → Elt F .f32) → Text F α} {Q : α → sProp (World F)} :
    iprop(kvOwn c A p d K ∗ (kvOwn c A p d K -∗ runs c (k fun j => K h (ix3 b (j 4) (j 5))) Q))
      ⊢ runs c (.op (.load A (Rect.unit (s := S2x2x2x8x512x64) off S1x1x1x1x512x64.size inb).toLoadRect hl) k) Q := by
  have hemb (j : S1x1x1x1x512x64.Idx) : A.view.emb ((Rect.unit (s := S2x2x2x8x512x64) off S1x1x1x1x512x64.size inb).emb j)
      = (kvDst A p d h).view.emb (ix3 b (j 4) (j 5)) :=
    (congrArg A.view.emb (kv_block ho inb j)).trans (kv_emb p d h b (j 4) (j 5) A).symm
  unfold kvOwn
  rw [bigSep_univ_at _ h]
  unfold own owns
  iintro ⟨⟨⟨%f, %hf, H⟩, Hr⟩, Hk⟩
  iapply (wp_load 𝒱₀ (c : Thread nD τ) none Set.univ (m := A) (S := (kvDst A p d h).view.set) (by
    intro i hi
    rw [View.setOn, ← Rect.map_emb_univ, Finset.map_map, Finset.mem_map] at hi
    obtain ⟨j, -, rfl⟩ := hi
    show A.view.emb ((Rect.unit (s := S2x2x2x8x512x64) off S1x1x1x1x512x64.size inb).emb j) ∈ _
    exact (congrArg (· ∈ (kvDst A p d h).view.set) (hemb j)).mpr (View.emb_mem_set _ _))) $$ H
  iintro H
  rw [show A.view.readAt (Elt F) (Rect.unit (s := S2x2x2x8x512x64) off S1x1x1x1x512x64.size inb).toLoadRect f = fun j => K h (ix3 b (j 4) (j 5)) from by
    funext j
    rw [← hf]
    exact congrArg (fun i => _root_.cast (congrArg (Elt F) A.view.elt_eq) (f i)) (hemb j)]
  iapply Hk
  isplitl [H]
  · iexists f
    isplitr; · (ipureintro; exact hf)
    iexact H
  iexact Hr

/-! ## One head's attention -/

theorem att_rows (q k v : FVec F S512x64 .f32) (g8 : Fin 8) (g : Fin 4) (half : Fin 2) (hg : g8.val = g.val + 4 * half.val)
    (r : Fin 512) (x : Fin 64) (hr : r.val / 64 = g8.val) :
    extractStridedSlice S64x64 ![64 * half.val, 0] (pairAttend q k v g) (slices_half half) (ix2 ⟨r.val % 64, Nat.mod_lt _ (by decide)⟩ x)
      = attHead q k v (ix2 r x) := by
  unfold attHead extractStridedSlice
  obtain rfl : g = ⟨r.val / 64 % 4, Nat.mod_lt _ (by decide)⟩ := Fin.ext (by show g.val = r.val / 64 % 4; omega)
  refine congrArg (pairAttend q k v _) (funext fun a => Fin.ext ?_)
  have := r.isLt
  fin_cases a
  · show 64 * half.val + r.val % 64 = 64 * (r.val / 256) + r.val % 64
    have h4 : g8.val = r.val / 64 % 4 + 4 * half.val := hg
    omega
  · show 0 + x.val = x.val; omega

theorem runs_ctxStore (c : Dev nD) (B : Blocks) (b : Fin 2) (h g : Fin 8) (hB : B.off g = ![b.val, h.val, 64 * g.val, 0]) (half : Fin 2) (v : FVec F S128x64 .f32)
    (X : Heads F) (Q : PUnit → sProp (World F)) :
    iprop(own c ctxScr fullShare X
      ∗ (own c ctxScr fullShare (fun i : S2x8x512x64.Idx => if (i 0).val = b.val ∧ (i 1).val = h.val ∧ (i 2).val / 64 = g.val
          then extractStridedSlice S64x64 ![64 * half.val, 0] v (slices_half half) (ix2 ⟨(i 2).val % 64, Nat.mod_lt _ (by decide)⟩ (i 3)) else X i) -∗ Q ⟨⟩))
      ⊢ runs c (ctxStore B g half v) Q := by
  unfold ctxStore
  simp only [Prog.lift, Prog.bind_op, Prog.bind_ret]
  iintro ⟨H, Hk⟩
  iapply (runs_load c ctxScr)
  isplitl [H]; · iexact H
  iintro H
  iapply (runs_store c ctxScr)
  isplitl [H]; · iexact H
  iintro H
  iapply (runs_pure c PUnit.unit Q)
  iapply Hk
  iapply (Entails.of_eq (congrArg (own c ctxScr fullShare) (put_rows X b h g _ hB _ _)))
  iexact H

/-- The rows of one head attended so far: those of the blocks before `n` in each half. -/
def Done (b : Fin 2) (h : Fin 8) (P : S2x8x512x64.Idx → Prop) (n : ℕ) : S2x8x512x64.Idx → Prop := fun i =>
  P i ∨ ((i 0).val = b.val ∧ (i 1).val = h.val ∧ (i 2).val / 64 % 4 < n)

theorem runs_pairStore (c : Dev nD) (B : Blocks) (b : Fin 2) (h : Fin 8) (hB : ∀ g : Fin 8, B.off g = ![b.val, h.val, 64 * g.val, 0])
    (q k v : FVec F S512x64 .f32) (A X : Heads F) (hA : ∀ r x, A (ix4 b h r x) = attHead q k v (ix2 r x)) (P : S2x8x512x64.Idx → Prop) (g : Fin 4)
    (Q : PUnit → sProp (World F)) :
    iprop(own c ctxScr fullShare (overlay (Done b h P g.val) A X) ∗ (own c ctxScr fullShare (overlay (Done b h P (g.val + 1)) A X) -∗ Q ⟨⟩))
      ⊢ runs c (pairStore B q k v g) Q := by
  unfold pairStore
  simp only [runs_bind]
  have hv (g8 : Fin 8) (half : Fin 2) (hg : g8.val = g.val + 4 * half.val) : ∀ i : S2x8x512x64.Idx,
      ((i 0).val = b.val ∧ (i 1).val = h.val ∧ (i 2).val / 64 = g8.val) →
      extractStridedSlice S64x64 ![64 * half.val, 0] (pairAttend q k v g) (slices_half half) (ix2 ⟨(i 2).val % 64, Nat.mod_lt _ (by decide)⟩ (i 3)) = A i := by
    rintro i ⟨h0, h1, h2⟩
    obtain rfl : i 0 = b := Fin.ext h0
    obtain rfl : i 1 = h := Fin.ext h1
    refine (att_rows q k v g8 g half hg (i 2) (i 3) h2).trans ((hA (i 2) (i 3)).symm.trans (congrArg A ?_))
    exact (eq_ix4 i).symm
  iintro ⟨H, Hk⟩
  iapply (runs_ctxStore c B b h _ (hB _))
  isplitl [H]; · iexact H
  rw [overlay_put (P' := fun i => ((i 0).val = b.val ∧ (i 1).val = h.val ∧ (i 2).val / 64 = g.val) ∨ Done b h P g.val i) (hv ⟨g.val, by omega⟩ 0 rfl) (fun i => Iff.rfl)]
  iintro H
  iapply (runs_ctxStore c B b h _ (hB _))
  isplitl [H]; · iexact H
  rw [overlay_put (P' := Done b h P (g.val + 1)) (hv ⟨g.val + 4, by omega⟩ 1 rfl) (fun i => by
    have h2 : (i 2).val < 512 := (i 2).isLt
    unfold Done
    show _ ↔ ((i 0).val = b.val ∧ (i 1).val = h.val ∧ (i 2).val / 64 = g.val + 4) ∨ _
    by_cases hp : P i
    · simp [hp]
    · simp only [hp, false_or]
      omega)]
  iexact Hk

end Cert.Proof.Ring
-- ==== Proof.Reads.lean ====
/- What the kernel's operations on one group compute over the extended reals, at an index. -/
module

public import proofs.«01_k».proof.Proof.Chunk
public import proofs.«01_k».proof.Proof.Softmax
public import Idealize.ShloMosaic.Lib.MatmulPlain
public import Idealize.ShloMosaic.Lib.Pipeline.Value

@[expose] public section

noncomputable section

namespace Cert.Proof.Ring

open Cert.KernelIdeal Cert.KernelIdeal.Gen
open Idealize.ShloMosaic Idealize.ShloMosaic.TcCoe Idealize.ShloMosaic.ValueIdx

/-! ## Products -/

/-- A product of two matrices, begun at zero. -/
theorem product_apply {M K N : ℕ} {φ₁ φ₂ : FTy} (D : DotDims ⟨2, ![M, K]⟩ ⟨2, ![K, N]⟩ ⟨2, ![M, N]⟩) (hD : D = DotDims.plain M K N)
    (x : FVec Ideal ⟨2, ![M, K]⟩ φ₁) (y : FVec Ideal ⟨2, ![K, N]⟩ φ₂) (r : Fin M) (c : Fin N) :
    matmul D none x y (constant ⟨2, ![M, N]⟩ .f32 0x00000000#32) (ix2 r c) = ∑ k : Fin K, x (ix2 r k) * y (ix2 k c) := by
  subst hD
  simp only [matmul]
  refine (Ideal.matmul_plain_apply none x y _ r c).trans ?_
  show Ideal.ofBits .f32 0x00000000#32 + _ = _
  rw [Ideal.ofBits_zero_f32, zero_add]

/-- The same with the second matrix by its rows. -/
theorem product_rows_apply {M K N : ℕ} {φ₁ φ₂ : FTy} (D : DotDims ⟨2, ![M, K]⟩ ⟨2, ![N, K]⟩ ⟨2, ![M, N]⟩) (hD : D = DotDims.transposedRhs M K N)
    (x : FVec Ideal ⟨2, ![M, K]⟩ φ₁) (y : FVec Ideal ⟨2, ![N, K]⟩ φ₂) (r : Fin M) (c : Fin N) :
    matmul D none x y (constant ⟨2, ![M, N]⟩ .f32 0x00000000#32) (ix2 r c) = ∑ k : Fin K, x (ix2 r k) * y (ix2 c k) := by
  subst hD
  simp only [matmul]
  refine (Ideal.matmul_transposedRhs_apply none x y _ r c).trans ?_
  show Ideal.ofBits .f32 0x00000000#32 + _ = _
  rw [Ideal.ofBits_zero_f32, zero_add]

theorem project_apply (x : S1x512x768.Idx → EReal) (w : S768x512.Idx → EReal) (i k : Fin 512) :
    project (F := Ideal) x w (ix2 i k) = ∑ d : Fin 768, x (ix3 (0 : Fin 1) i d) * w (ix2 d k) := by
  unfold project
  rw [cast_drop1]
  exact product_apply _ rfl _ w i k

/-- Column `d` of head `h`. -/
def col (h : Fin 8) (d : Fin 64) : Fin 512 := ⟨64 * h.val + d.val, by omega⟩

theorem headCols_apply (x : S512x512.Idx → EReal) (h : Fin 8) (i : Fin 512) (d : Fin 64) :
    headCols (F := Ideal) x h (ix2 i d) = x (ix2 i (col h d)) := by
  unfold headCols
  refine extractStridedSlice_apply _ x _ _ _ fun a => ?_
  fin_cases a
  · exact (Nat.zero_add _).symm
  · rfl

theorem queriesOf_apply (x : S2x512x768.Idx → EReal) (wq : S768x512.Idx → EReal) (b : Fin 2) (h : Fin 8) (i : Fin 512) (d : Fin 64) :
    queriesOf (F := Ideal) x wq (ix4 b h i d) = ∑ e : Fin 768, x (ix3 b i e) * wq (ix2 e (col h d)) := by
  refine (headCols_apply _ h i d).trans ?_
  exact project_apply _ wq i (col h d)

theorem outBlock_apply (x : S512x512.Idx → EReal) (w : S512x768.Idx → EReal) (i : Fin 512) (e : Fin 768) :
    outBlock (F := Ideal) x w (ix2 i e) = ∑ k : Fin 512, x (ix2 i k) * w (ix2 k e) :=
  product_apply _ rfl x w i e

/-! ## A pair of blocks -/

/-- Row `a` of the pair of blocks `g` and `g + 4`. -/
def pairRow (g : Fin 4) (a : Fin 128) : Fin 512 := ⟨64 * (g.val + 4 * (a.val / 64)) + a.val % 64, by omega⟩

theorem pairRows_apply (x : S512x64.Idx → EReal) (g : Fin 4) (a : Fin 128) (d : Fin 64) :
    pairRows (F := Ideal) x g (ix2 a d) = x (ix2 (pairRow g a) d) := by
  unfold pairRows
  by_cases h : a.val < 64
  · refine (concatenate_pair_apply_left (t := S128x64) (s₁ := S64x64) (s₂ := S64x64) 0 _ _ _ (ix2 a d) rfl (ix2 (⟨a.val, h⟩ : Fin 64) d : S64x64.Idx) fun b => ?_).trans ?_
    · fin_cases b <;> rfl
    · refine extractStridedSlice_apply _ x _ _ _ fun b => ?_
      fin_cases b
      · show 64 * (g.val + 4 * (a.val / 64)) + a.val % 64 = 64 * g.val + a.val
        omega
      · exact (Nat.zero_add _).symm
  · have ha := a.isLt
    refine (concatenate_pair_apply_right (t := S128x64) (s₁ := S64x64) (s₂ := S64x64) 0 _ _ _ (ix2 a d) rfl rfl (ix2 (⟨a.val - 64, by omega⟩ : Fin 64) d : S64x64.Idx)
      (fun b hb => ?_) ?_).trans ?_
    · fin_cases b
      · exact absurd rfl hb
      · rfl
    · show a.val - 64 + 64 = a.val
      omega
    · refine extractStridedSlice_apply _ x _ _ _ fun b => ?_
      fin_cases b
      · show 64 * (g.val + 4 * (a.val / 64)) + a.val % 64 = 64 * (g.val + 4) + (a.val - 64)
        omega
      · exact (Nat.zero_add _).symm

/-- The scale of the scores, one eighth. -/
def eighth : EReal := Ideal.ofBits .f32 0x3E000000#32

theorem pairScores_apply (q k : S128x64.Idx → EReal) (a b : Fin 128) :
    pairScores (F := Ideal) q k (ix2 a b) = (∑ d : Fin 64, q (ix2 a d) * k (ix2 b d)) * eighth :=
  congrArg (· * eighth) (product_rows_apply _ rfl q k a b)

/-- A column spread over its rows. -/
theorem spread_apply (x : S128.Idx → EReal) (a b : Fin 128) :
    broadcastTo S128x128 (shapeCast S128x1 x Facts₀.shapeCasts_S128_S128x1) Facts₀.broadcasts_S128x1_S128x128 (ix2 a b) = x (ix1 a) := by
  refine (broadcastTo_apply _ _ (ix2 a b) (ix2 a (0 : Fin 1) : S128x1.Idx) fun c => ?_).trans ?_
  · fin_cases c <;> rfl
  · refine shapeCast_apply x _ _ _ ?_
    rw [Shape.rowMajor_val_one, Shape.rowMajor_val_two]
    show a.val = a.val * 1 + 0
    omega

theorem lift_row (a c : Fin 128) : Facts₀.reduces_S128x128_S128.lift (ix1 a) c = ix2 a c := by
  funext k
  fin_cases k <;> rfl

theorem ofBits_low : Ideal.ofBits .f32 0xFF800000#32 = ⊥ := by
  simp [Ideal.ofBits, Ideal.ieee]

theorem pairExp_apply (s : S128x128.Idx → EReal) (a b : Fin 128) :
    pairExp (F := Ideal) s (ix2 a b) = grown (fun c => s (ix2 a c)) b := by
  unfold pairExp
  refine congrArg Ideal.exp (congrArg (s (ix2 a b) - ·) ?_)
  refine (spread_apply _ a b).trans ?_
  refine (Ideal.multiReduction_maximumf_single _ _ _ _ _ _).trans ?_
  show Finset.univ.fold max (Ideal.ofBits .f32 0xFF800000#32) _ = Finset.univ.fold max ⊥ _
  rw [ofBits_low]
  exact congrArg (Finset.univ.fold max ⊥) (funext fun c => congrArg s (lift_row a c))

theorem pairWeights_apply (e : S128x128.Idx → EReal) (a b : Fin 128) :
    pairWeights (F := Ideal) e (ix2 a b) = Ideal.div (e (ix2 a b)) (∑ c : Fin 128, e (ix2 a c)) := by
  unfold pairWeights
  refine congrArg (Ideal.div (e (ix2 a b))) ?_
  refine (spread_apply _ a b).trans ?_
  refine (Ideal.multiReduction_add_single _ _ _ _ _ _).trans ?_
  refine Finset.sum_congr rfl fun c _ => congrArg e (lift_row a c)

/-- The score of row `i` of the queries with row `j` of the keys. -/
def score (q k : S512x64.Idx → EReal) (i j : Fin 512) : EReal := (∑ d : Fin 64, q (ix2 i d) * k (ix2 j d)) * eighth

theorem pairAttend_apply (q k v : S512x64.Idx → EReal) (g : Fin 4) (a : Fin 128) (d : Fin 64) :
    pairAttend (F := Ideal) q k v g (ix2 a d)
      = attendRow (fun b => score q k (pairRow g a) (pairRow g b)) fun b => v (ix2 (pairRow g b) d) := by
  unfold pairAttend
  refine (product_apply _ rfl _ _ a d).trans ?_
  unfold attendRow
  have hs : (fun b => pairScores (F := Ideal) (pairRows (F := Ideal) q g) (pairRows (F := Ideal) k g) (ix2 a b))
      = fun b => score q k (pairRow g a) (pairRow g b) := funext fun b => by
    rw [pairScores_apply]
    simp only [pairRows_apply]
    rfl
  simp only [pairWeights_apply, pairExp_apply, pairRows_apply, hs]

/-! ## A head -/

/-- The class of a row: its block of 64 rows, modulo 4. -/
def cls (i : Fin 512) : Fin 4 := ⟨i.val / 64 % 4, Nat.mod_lt _ (by decide)⟩

theorem attHead_apply (q k v : S512x64.Idx → EReal) (i : Fin 512) (d : Fin 64) :
    attHead (F := Ideal) q k v (ix2 i d)
      = attendRow (fun b => score q k i (pairRow (cls i) b)) fun b => v (ix2 (pairRow (cls i) b) d) := by
  have hi := i.isLt
  have e : pairRow (cls i) ⟨64 * (i.val / 256) + i.val % 64, by omega⟩ = i := Fin.ext (by
    show 64 * (i.val / 64 % 4 + 4 * ((64 * (i.val / 256) + i.val % 64) / 64)) + (64 * (i.val / 256) + i.val % 64) % 64 = i.val
    omega)
  refine (pairAttend_apply q k v (cls i) _ d).trans ?_
  rw [e]

/-- Row `i` of head `h`, attended. -/
theorem attOf_apply (q : Heads Ideal) (K V : KV Ideal) (b : Fin 2) (h : Fin 8) (i : Fin 512) (d : Fin 64) :
    attOf q K V (ix4 b h i d)
      = attendRow (fun a => (∑ e : Fin 64, q (ix4 b h i e) * K h (ix3 b (pairRow (cls i) a) e)) * eighth)
          fun a => V h (ix3 b (pairRow (cls i) a) d) :=
  attHead_apply _ _ _ i d

theorem sideBySide_apply (x : Fin 8 → S512x64.Idx → EReal) (i k : Fin 512) :
    sideBySide (F := Ideal) x (ix2 i k)
      = x ⟨k.val / 64, by omega⟩ (ix2 i (⟨k.val % 64, Nat.mod_lt _ (by decide)⟩ : Fin 64)) := by
  refine concatenate_ofFn_apply (t := S512x512) (s₁ := S512x64) 1 x
    Facts₀.concatenates_S512x64_S512x64_S512x64_S512x64_S512x64_S512x64_S512x64_S512x64_S512x512_d1 rfl 64 rfl (ix2 i k) _ rfl _ rfl fun b hb => ?_
  fin_cases b
  · rfl
  · exact absurd rfl hb

/-- One group's part of the output. -/
theorem partOf_apply (x : S2x512x768.Idx → EReal) (wq : S768x512.Idx → EReal) (wo : S512x768.Idx → EReal) (K V : KV Ideal) (b : Fin 2)
    (i : Fin 512) (e : Fin 768) :
    partOf (F := Ideal) x wq wo K V b (ix2 i e)
      = ∑ k : Fin 512, attOf (queriesOf (F := Ideal) x wq) K V
          (ix4 b (⟨k.val / 64, by omega⟩ : Fin 8) i (⟨k.val % 64, Nat.mod_lt _ (by decide)⟩ : Fin 64)) * wo (ix2 k e) := by
  refine (outBlock_apply _ wo i e).trans (Finset.sum_congr rfl fun k _ => ?_)
  exact congrArg (· * wo (ix2 k e)) (sideBySide_apply _ i k)

end Cert.Proof.Ring
-- ==== Proof.Group.lean ====
/- One group's attention on one device: the loop over its heads, its part of the output, and the whole. -/
module

public import proofs.«01_k».proof.Proof.Chunk

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## One trip -/

theorem trips_eq : trips.trips = 16 := by decide +kernel

def rowIx (t : Fin trips.trips) : Fin 2 := ⟨t.val / 8, by have := t.isLt; have := trips_eq; omega⟩
def headIx (t : Fin trips.trips) : Fin 8 := ⟨t.val % 8, Nat.mod_lt _ (by decide)⟩

theorem off4_eq (t : Fin trips.trips) : k0_off4 t = ![(rowIx t).val, (headIx t).val, 0, 0] := by
  revert t; decide +kernel
theorem offKv_eq (p d : Fin 2) (t : Fin trips.trips) : offKv p d t = ![p.val, d.val, (rowIx t).val, (headIx t).val, 0, 0] := by
  revert p d t; decide +kernel
theorem blocks_eq (t : Fin trips.trips) (g : Fin 8) : (blocksAt t).off g = ![(rowIx t).val, (headIx t).val, 64 * g.val, 0] := by
  revert t g; decide +kernel

/-- The heads attended before trip `n`. -/
def Tried (n : ℕ) : S2x8x512x64.Idx → Prop := fun i => 8 * (i 0).val + (i 1).val < n

/-- What the loop holds before trip `n`. -/
def tripInv (c : Dev nD) (p d : Fin 2) (q : Heads F) (K V : KV F) (X : Heads F) (n : ℕ) : sProp (World F) :=
  iprop(own c qScr fullShare q ∗ kvOwn c kScr p d K ∗ kvOwn c vScr p d V ∗ own c ctxScr fullShare (overlay (Tried n) (attOf q K V) X))

theorem runs_pairs (c : Dev nD) (t : Fin trips.trips) (q k v : FVec F S512x64 .f32) (A X : Heads F)
    (hA : ∀ r x, A (ix4 (rowIx t) (headIx t) r x) = attHead q k v (ix2 r x)) (Q : PUnit → sProp (World F)) :
    iprop(own c ctxScr fullShare (overlay (Tried t.val) A X) ∗ (own c ctxScr fullShare (overlay (Tried (t.val + 1)) A X) -∗ Q ⟨⟩))
      ⊢ runs c (do pairStore (blocksAt t) q k v 0; pairStore (blocksAt t) q k v 1; pairStore (blocksAt t) q k v 2; pairStore (blocksAt t) q k v 3) Q := by
  have step (g : Fin 4) (Q : PUnit → sProp (World F)) :=
    runs_pairStore c (blocksAt t) (rowIx t) (headIx t) (blocks_eq t) q k v A X hA (Tried t.val) g Q
  have e0 : Done (rowIx t) (headIx t) (Tried t.val) 0 = Tried t.val := funext fun i => propext (by unfold Done; simp)
  have e4 : Done (rowIx t) (headIx t) (Tried t.val) 4 = Tried (t.val + 1) := funext fun i => propext (by
    have h1 : (i 1).val < 8 := (i 1).isLt
    have h0 : (i 0).val < 2 := (i 0).isLt
    unfold Done Tried rowIx headIx
    simp only
    omega)
  have s0 : ∀ Q : PUnit → sProp (World F), iprop(own c ctxScr fullShare (overlay (Done (rowIx t) (headIx t) (Tried t.val) 0) A X)
    ∗ (own c ctxScr fullShare (overlay (Done (rowIx t) (headIx t) (Tried t.val) 1) A X) -∗ Q ⟨⟩)) ⊢ runs c (pairStore (blocksAt t) q k v 0) Q := step 0
  have s1 : ∀ Q : PUnit → sProp (World F), iprop(own c ctxScr fullShare (overlay (Done (rowIx t) (headIx t) (Tried t.val) 1) A X)
    ∗ (own c ctxScr fullShare (overlay (Done (rowIx t) (headIx t) (Tried t.val) 2) A X) -∗ Q ⟨⟩)) ⊢ runs c (pairStore (blocksAt t) q k v 1) Q := step 1
  have s2 : ∀ Q : PUnit → sProp (World F), iprop(own c ctxScr fullShare (overlay (Done (rowIx t) (headIx t) (Tried t.val) 2) A X)
    ∗ (own c ctxScr fullShare (overlay (Done (rowIx t) (headIx t) (Tried t.val) 3) A X) -∗ Q ⟨⟩)) ⊢ runs c (pairStore (blocksAt t) q k v 2) Q := step 2
  have s3 : ∀ Q : PUnit → sProp (World F), iprop(own c ctxScr fullShare (overlay (Done (rowIx t) (headIx t) (Tried t.val) 3) A X)
    ∗ (own c ctxScr fullShare (overlay (Done (rowIx t) (headIx t) (Tried t.val) 4) A X) -∗ Q ⟨⟩)) ⊢ runs c (pairStore (blocksAt t) q k v 3) Q := step 3
  rw [e0] at s0
  rw [e4] at s3
  simp only [runs_bind]
  iintro ⟨H, Hk⟩
  iapply (s0 _); isplitl [H]; · iexact H
  iintro H
  iapply (s1 _); isplitl [H]; · iexact H
  iintro H
  iapply (s2 _); isplitl [H]; · iexact H
  iintro H
  iapply (s3 _); isplitl [H]; · iexact H
  iexact Hk

theorem attOf_head (q : Heads F) (K V : KV F) (b : Fin 2) (h : Fin 8) (r : Fin 512) (x : Fin 64) :
    attOf q K V (ix4 b h r x) = attHead (headOf q b h) (kvHead K b h) (kvHead V b h) (ix2 r x) := rfl

theorem runs_trip (c : Dev nD) (p d : Fin 2) (q : Heads F) (K V : KV F) (X : Heads F) (t : Fin trips.trips) (Q : PUnit → sProp (World F)) :
    iprop(tripInv c p d q K V X t.val ∗ (tripInv c p d q K V X (t.val + 1) -∗ Q ⟨⟩)) ⊢ runs c (trip p d t) Q := by
  have eq : shapeCast S512x64 (blockAt (s := S2x8x512x64) q (k0_off4 t) S1x1x512x64.size (Facts₀.k0_off4_inb t)) Facts₀.shapeCasts_S1x1x512x64_S512x64 = headOf q (rowIx t) (headIx t) :=
    block_head q _ _ (off4_eq t) _ _
  have ek (K : KV F) : shapeCast S512x64 (fun j : S1x1x1x1x512x64.Idx => K (headIx t) (ix3 (rowIx t) (j 4) (j 5))) Facts₀.shapeCasts_S1x1x1x1x512x64_S512x64 = kvHead K (rowIx t) (headIx t) :=
    cast_drop4 _ _
  unfold trip tripInv
  simp only [Prog.lift, Prog.bind_op, Prog.bind_ret]
  iintro ⟨⟨Hq, HK, HV, H⟩, Hk⟩
  iapply (runs_load c qScr)
  isplitl [Hq]; · iexact Hq
  iintro Hq
  iapply (runs_kvLoad c kScr p d (rowIx t) (headIx t) K (offKv_eq p d t))
  isplitl [HK]; · iexact HK
  iintro HK
  iapply (runs_kvLoad c vScr p d (rowIx t) (headIx t) V (offKv_eq p d t))
  isplitl [HV]; · iexact HV
  iintro HV
  rw [eq, ek, ek]
  iapply (runs_pairs c t _ _ _ (attOf q K V) X (attOf_head q K V (rowIx t) (headIx t)))
  isplitl [H]; · iexact H
  iintro H
  iapply Hk
  isplitl [Hq]; · iexact Hq
  isplitl [HK]; · iexact HK
  isplitl [HV]; · iexact HV
  iexact H

theorem runs_heads (c : Dev nD) (p d : Fin 2) (q : Heads F) (K V : KV F) (X : Heads F) (Q : PUnit → sProp (World F)) :
    iprop(own c qScr fullShare q ∗ kvOwn c kScr p d K ∗ kvOwn c vScr p d V ∗ own c ctxScr fullShare X
      ∗ ((own c qScr fullShare q ∗ kvOwn c kScr p d K ∗ kvOwn c vScr p d V ∗ own c ctxScr fullShare (attOf q K V)) -∗ Q ⟨⟩))
      ⊢ runs c (heads p d) Q := by
  unfold heads Scf.Loop.for
  refine .trans ?_ (Scf.wp_for frame (wpE (defs₀ (F := F)) 𝒱₀ (c : Thread nD τ) none) Set.univ _ _ _ _ _ _ (fun n _ => tripInv c p d q K V X n) fun t _ => ?_)
  · unfold tripInv
    iintro ⟨Hq, HK, HV, H, Hk⟩
    isplitr [Hk]
    · isplitl [Hq]; · iexact Hq
      isplitl [HK]; · iexact HK
      isplitl [HV]; · iexact HV
      iapply (Entails.of_eq (congrArg (own c ctxScr fullShare) (overlay_none (P := Tried 0) (fun i h => Nat.not_lt_zero _ h) (attOf q K V) X).symm))
      iexact H
    · iintro %_ ⟨Hq, HK, HV, H⟩
      iapply Hk
      isplitl [Hq]; · iexact Hq
      isplitl [HK]; · iexact HK
      isplitl [HV]; · iexact HV
      have e : Tried (Scf.trips trips.lb trips.ub trips.st) = fun _ => True := funext fun i => propext (iff_true_intro (by
        have h1 : (i 1).val < 8 := (i 1).isLt
        have h0 : (i 0).val < 2 := (i 0).isLt
        have : Scf.trips trips.lb trips.ub trips.st = 16 := trips_eq
        unfold Tried
        omega))
      iapply (Entails.of_eq (congrArg (own c ctxScr fullShare) (overlay_all (fun i => (congrFun e i).symm ▸ trivial) (attOf q K V) X)))
      iexact H
  · refine .trans ?_ (runs_trip c p d q K V X t _)
    iintro H
    isplitl [H]; · iexact H
    iintro H
    iexact H

/-! ## The output -/

theorem runs_ctxLoad (c : Dev nD) (b : Fin 2) (h : Fin 8) (A : Heads F) : Loads c (own c ctxScr fullShare A) (ctxLoad b h) (headOf A b h) := by
  intro Q
  unfold ctxLoad
  simp only [Prog.lift, Prog.bind_op, Prog.bind_ret]
  iintro ⟨H, Hk⟩
  iapply (runs_load c ctxScr)
  isplitl [H]; · iexact H
  iintro H
  rw [block_head A b h rfl]
  iapply (runs_pure c (headOf A b h) Q)
  iapply Hk
  iexact H

/-- One batch row of the output after its store. -/
def outPut (first : Bool) (b : Fin 2) (y : FVec F S512x768 .f32) (o : S2x512x768.Idx → F .f32) : S2x512x768.Idx → F .f32 := fun i =>
  if (i 0).val = b.val then
    (match first with
      | true => y
      | false => addf (fun j => o (ix3 b (j 0) (j 1))) y) (ix2 (i 1) (i 2))
  else o i

theorem runs_outStore (c : Dev nD) (out : Memref sig .tc .vmem S2x512x768 .f32) (first : Bool) (b : Fin 2) (y : FVec F S512x768 .f32)
    (o : S2x512x768.Idx → F .f32) (Q : PUnit → sProp (World F)) :
    iprop(own (e := .f32) c out fullShare o ∗ (own (e := .f32) c out fullShare (outPut first b y o) -∗ Q ⟨⟩)) ⊢ runs c (outStore out first b y) Q := by
  unfold outStore
  cases first
  · simp only [Prog.lift, Prog.bind_op, Prog.bind_ret]
    iintro ⟨H, Hk⟩
    iapply (runs_load c out)
    isplitl [H]; · iexact H
    iintro H
    iapply (runs_load c out)
    isplitl [H]; · iexact H
    iintro H
    iapply (runs_store c out)
    isplitl [H]; · iexact H
    iintro H
    iapply (runs_pure c PUnit.unit Q)
    iapply Hk
    have e : shapeCast S512x768 (blockAt (s := S2x512x768) o ![b.val, 0, 0] S1x512x768.size (inb_wo b)) Facts₀.shapeCasts_S1x512x768_S512x768
        = fun j => o (ix3 b (j 0) (j 1)) :=
      (cast_drop1 _ _).trans (funext fun j => congrFun (block_row o b (inb_wo b)) (ix3 0 (j 0) (j 1)))
    iapply (Entails.of_eq (congrArg (own (e := .f32) c out fullShare) ((put_row o b _ _ _).trans
      (congrArg (fun z => fun i : S2x512x768.Idx => if (i 0).val = b.val then addf z y (ix2 (i 1) (i 2)) else o i) e))))
    iexact H
  · simp only [Prog.lift, Prog.bind_op, Prog.bind_ret]
    iintro ⟨H, Hk⟩
    iapply (runs_load c out)
    isplitl [H]; · iexact H
    iintro H
    iapply (runs_store c out)
    isplitl [H]; · iexact H
    iintro H
    iapply (runs_pure c PUnit.unit Q)
    iapply Hk
    iapply (Entails.of_eq (congrArg (own (e := .f32) c out fullShare) (put_row o b _ _ _)))
    iexact H

theorem runs_outRow (c : Dev nD) (R : sProp (World F)) (ldO : Text F (FVec F S512x768 .bf16)) (wo : FVec F S512x768 .bf16) (hO : Loads c R ldO wo)
    (out : Memref sig .tc .vmem S2x512x768 .f32) (first : Bool) (b : Fin 2) (A : Heads F) (o : S2x512x768.Idx → F .f32) (Q : PUnit → sProp (World F)) :
    iprop(own c ctxScr fullShare A ∗ R ∗ own (e := .f32) c out fullShare o
      ∗ ((own c ctxScr fullShare A ∗ R ∗ own (e := .f32) c out fullShare (outPut first b (outBlock (sideBySide fun h => headOf A b h) wo) o)) -∗ Q ⟨⟩))
      ⊢ runs c (outRow ldO out first b) Q := by
  unfold outRow
  simp only [runs_bind]
  iintro ⟨H, HR, Ho, Hk⟩
  iapply (runs_ctxLoad c b 0 A _); isplitl [H]; · iexact H
  iintro H
  iapply (runs_ctxLoad c b 1 A _); isplitl [H]; · iexact H
  iintro H
  iapply (runs_ctxLoad c b 2 A _); isplitl [H]; · iexact H
  iintro H
  iapply (runs_ctxLoad c b 3 A _); isplitl [H]; · iexact H
  iintro H
  iapply (runs_ctxLoad c b 4 A _); isplitl [H]; · iexact H
  iintro H
  iapply (runs_ctxLoad c b 5 A _); isplitl [H]; · iexact H
  iintro H
  iapply (runs_ctxLoad c b 6 A _); isplitl [H]; · iexact H
  iintro H
  iapply (runs_ctxLoad c b 7 A _); isplitl [H]; · iexact H
  iintro H
  iapply (hO _); isplitl [HR]; · iexact HR
  iintro HR
  iapply (runs_outStore c out first b _ o)
  isplitl [Ho]; · iexact Ho
  iintro Ho
  iapply Hk
  isplitl [H]; · iexact H
  isplitl [HR]; · iexact HR
  iexact Ho

theorem outPut_both (first : Bool) (y : Fin 2 → FVec F S512x768 .f32) (o : S2x512x768.Idx → F .f32) :
    outPut first 1 (y 1) (outPut first 0 (y 0) o) = outStep first y o := by
  funext i
  obtain ⟨b, r, x, rfl⟩ : ∃ b r x, i = ix3 b r x := ⟨i 0, i 1, i 2, eq_ix3 i⟩
  fin_cases b <;> cases first <;> rfl

/-- One group's attention. -/
theorem runs_chunk (c : Dev nD) (RQ RO : sProp (World F)) (ldQ : Text F (FVec F S768x512 .bf16)) (ldO : Text F (FVec F S512x768 .bf16))
    (wq : FVec F S768x512 .bf16) (wo : FVec F S512x768 .bf16) (hQ : Loads c RQ ldQ wq) (hO : Loads c RO ldO wo)
    (out : Memref sig .tc .vmem S2x512x768 .f32) (p d : Fin 2) (first : Bool) (x : S2x512x768.Idx → F .bf16) (K V : KV F)
    (o : S2x512x768.Idx → F .f32) (Q : PUnit → sProp (World F)) :
    iprop(own (e := .bf16) c xBf fullShare x ∗ RQ ∗ RO ∗ (∃ q : Heads F, own c qScr fullShare q) ∗ (∃ a : Heads F, own c ctxScr fullShare a)
      ∗ kvOwn c kScr p d K ∗ kvOwn c vScr p d V ∗ own (e := .f32) c out fullShare o
      ∗ ((own (e := .bf16) c xBf fullShare x ∗ RQ ∗ RO ∗ (∃ q : Heads F, own c qScr fullShare q) ∗ (∃ a : Heads F, own c ctxScr fullShare a)
      ∗ kvOwn c kScr p d K ∗ kvOwn c vScr p d V ∗ own (e := .f32) c out fullShare (outStep first (partOf x wq wo K V) o)) -∗ Q ⟨⟩))
      ⊢ runs c (chunk ldQ ldO out p d first) Q := by
  unfold chunk
  simp only [runs_bind]
  iintro ⟨Hx, HQ, HO, ⟨%q, Hq⟩, ⟨%a, Ha⟩, HK, HV, Ho, Hk⟩
  iapply (runs_queries1 c 0 x RQ ldQ wq hQ q)
  isplitl [Hx]; · iexact Hx
  isplitl [HQ]; · iexact HQ
  isplitl [Hq]; · iexact Hq
  iintro ⟨Hx, HQ, Hq⟩
  iapply (runs_queries1 c 1 x RQ ldQ wq hQ)
  isplitl [Hx]; · iexact Hx
  isplitl [HQ]; · iexact HQ
  isplitl [Hq]; · iexact Hq
  iintro ⟨Hx, HQ, Hq⟩
  have e : overlay (fun i : S2x8x512x64.Idx => (i 0).val = (1 : Fin 2).val) (queriesOf x wq)
      (overlay (fun i : S2x8x512x64.Idx => (i 0).val = (0 : Fin 2).val) (queriesOf x wq) q) = queriesOf x wq := by
    funext i
    have h0 : (i 0).val < 2 := (i 0).isLt
    unfold overlay
    split
    · rfl
    · rename_i h
      refine if_pos ?_
      change ¬ (i 0).val = 1 at h
      show (i 0).val = 0
      omega
  iapply (runs_heads c p d (queriesOf x wq) K V a)
  isplitl [Hq]; · (iapply (Entails.of_eq (congrArg (own c qScr fullShare) e)); iexact Hq)
  isplitl [HK]; · iexact HK
  isplitl [HV]; · iexact HV
  isplitl [Ha]; · iexact Ha
  iintro ⟨Hq, HK, HV, Ha⟩
  iapply (runs_outRow c RO ldO wo hO out first 0)
  isplitl [Ha]; · iexact Ha
  isplitl [HO]; · iexact HO
  isplitl [Ho]; · iexact Ho
  iintro ⟨Ha, HO, Ho⟩
  iapply (runs_outRow c RO ldO wo hO out first 1)
  isplitl [Ha]; · iexact Ha
  isplitl [HO]; · iexact HO
  isplitl [Ho]; · iexact Ho
  iintro ⟨Ha, HO, Ho⟩
  iapply Hk
  isplitl [Hx]; · iexact Hx
  isplitl [HQ]; · iexact HQ
  isplitl [HO]; · iexact HO
  isplitl [Hq]; · (iexists _; iexact Hq)
  isplitl [Ha]; · (iexists _; iexact Ha)
  isplitl [HK]; · iexact HK
  isplitl [HV]; · iexact HV
  iapply (Entails.of_eq (congrArg (own (e := .f32) c out fullShare) (outPut_both first (partOf x wq wo K V) o)))
  iexact Ho

end Cert.Proof.Ring
-- ==== Proof.Protocol.lean ====
/- The ring's protocol: which semaphore counts what, who pays it, what each payment hands over, and in which order a
   device pays. The weights travel in both directions; a direction is `true` to the right and `false` to the left. -/
module

public import proofs.«01_k».proof.Proof.Group
public import Mathlib.Data.Fintype.Sum

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Facts₀ Facts

variable {F : FTy → Type} [FloatOps F]

/-! ## The ring -/

/-- The neighbour a direction's data goes to, and the one it comes from. -/
def goes (dir : Bool) (c : Dev nD) : Dev nD := match dir with
  | true => nxt c
  | false => prv c
def comes (dir : Bool) (c : Dev nD) : Dev nD := match dir with
  | true => prv c
  | false => nxt c

theorem prv_nxt (c : Dev nD) : prv (nxt c) = c := by revert c; decide +kernel
theorem nxt_prv (c : Dev nD) : nxt (prv c) = c := by revert c; decide +kernel
theorem comes_goes (dir : Bool) (c : Dev nD) : comes dir (goes dir c) = c := by
  cases dir
  · exact nxt_prv c
  · exact prv_nxt c
theorem goes_comes (dir : Bool) (c : Dev nD) : goes dir (comes dir c) = c := by
  cases dir
  · exact prv_nxt c
  · exact nxt_prv c
theorem goes_injective (dir : Bool) : Function.Injective (goes dir) := Function.LeftInverse.injective (comes_goes dir)
theorem comes_injective (dir : Bool) : Function.Injective (comes dir) := Function.LeftInverse.injective (goes_comes dir)

/-- The group that device `c` works on at step `s`: what has come `s` steps. -/
def org (dir : Bool) (s : ℕ) (c : Dev nD) : Dev nD := (comes dir)^[s] c
theorem org_goes (dir : Bool) (s : ℕ) (c : Dev nD) : org dir (s + 1) (goes dir c) = org dir s c := by
  unfold org; rw [Function.iterate_succ_apply, comes_goes]

/-! ## The slots -/

abbrev wqA (dir : Bool) : Memref sig .tc .vmem S2x768x512 .bf16 := match dir with
  | true => wqR
  | false => wqL
abbrev woA (dir : Bool) : Memref sig .tc .vmem S2x512x768 .bf16 := match dir with
  | true => woR
  | false => woL
theorem whole_wqA (dir : Bool) : (wqA dir).IsWhole := match dir with
  | true => wR
  | false => wL
theorem whole_woA (dir : Bool) : (woA dir).IsWhole := match dir with
  | true => wRo
  | false => wLo

/-- The rounded weights of each group. -/
structure Weights (F : FTy → Type) where
  q : Dev nD → S768x512.Idx → F .bf16
  o : Dev nD → S512x768.Idx → F .bf16

variable (W : Weights F)

/-- Slot `k` of direction `dir` on device `c`, holding the weights of group `g`: those of the queries or those of the output. -/
def slotHeld (c : Dev nD) (w dir : Bool) (k : Fin 2) (q : PosShare TreeShare) (g : Dev nD) : sProp (World F) := match w with
  | false => own (e := .bf16) c (slotWq (wqA dir) k) q (W.q g)
  | true => own (e := .bf16) c (slotWo (woA dir) k) q (W.o g)

/-- The device's own rounded weights. -/
def ownHeld (c : Dev nD) (w : Bool) (q : PosShare TreeShare) (g : Dev nD) : sProp (World F) := match w with
  | false => own (e := .bf16) c wqOwn q (W.q g)
  | true => own (e := .bf16) c woOwn q (W.o g)

/-- A slot whose contents no longer matter. -/
def slotFree (c : Dev nD) (w dir : Bool) (k : Fin 2) : sProp (World F) := match w with
  | false => iprop(∃ X : S768x512.Idx → F .bf16, own (e := .bf16) c (slotWq (wqA dir) k) fullShare X)
  | true => iprop(∃ X : S512x768.Idx → F .bf16, own (e := .bf16) c (slotWo (woA dir) k) fullShare X)

instance slotHeld_storable (c : Dev nD) (w dir : Bool) (k : Fin 2) (q : PosShare TreeShare) (g : Dev nD) :
    BI.Storable (upEmb : UEmb _ (World F)) (slotHeld W c w dir k q g) := by unfold slotHeld; cases w <;> infer_instance
instance ownHeld_storable (c : Dev nD) (w : Bool) (q : PosShare TreeShare) (g : Dev nD) :
    BI.Storable (upEmb : UEmb _ (World F)) (ownHeld W c w q g) := by unfold ownHeld; cases w <;> infer_instance
instance slotFree_storable (c : Dev nD) (w dir : Bool) (k : Fin 2) :
    BI.Storable (upEmb : UEmb _ (World F)) (slotFree (F := F) c w dir k) := by unfold slotFree; cases w <;> infer_instance

theorem slotHeld_free (c : Dev nD) (w dir : Bool) (k : Fin 2) (g : Dev nD) : slotHeld W c w dir k fullShare g ⊢ slotFree c w dir k := by
  unfold slotHeld slotFree
  cases w <;> · iintro H; iexists _; iexact H

/-! ## The semaphores -/

/-- The copies' semaphores (received or sent, output or query weights, direction, slot), and the others: the barrier's, and those
    that say a slot is free again: to the right slot 1, to the right slot 0, to the left slot 1. -/
abbrev Copy := Bool × Bool × Bool × Fin 2
abbrev Kind := Copy ⊕ Fin 4

def semA (recv w dir : Bool) : DmaSems sig S2 := match dir, w, recv with
  | true, false, false => cc0_scratch11
  | true, false, true => cc0_scratch12
  | true, true, false => cc0_scratch13
  | true, true, true => cc0_scratch14
  | false, false, false => cc0_scratch15
  | false, false, true => cc0_scratch16
  | false, true, false => cc0_scratch17
  | false, true, true => cc0_scratch18

abbrev dsem (x : Copy) : DmaSem sig := slotSem (semA x.1 x.2.1 x.2.2.1) x.2.2.2
def rsem (j : Fin 4) : Sem sig := match j with
  | 0 => barSem
  | 1 => freeSem cc0_scratch21 1
  | 2 => freeSem cc0_scratch21 0
  | 3 => freeSem cc0_scratch22 1

abbrev csem : Kind → SemLoc sig := fun
  | .inl x => .dma (dsem x)
  | .inr j => .reg (rsem j)

theorem csem_injective : Function.Injective csem := by
  have h : ∀ x : Kind × Kind, csem x.1 = csem x.2 → x.1 = x.2 := by decide +kernel
  exact fun a b => h (a, b)

abbrev cell (c : Dev nD) (k : Kind) : GSem nD τ sig := ((c : Thread nD τ), csem k)

open Classical in
/-- Which of them a semaphore is. -/
def kindOf (sm : SemLoc sig) : Option Kind := if h : ∃ k, csem k = sm then some h.choose else none

theorem kindOf_csem (k : Kind) : kindOf (csem k) = some k := by
  have h : ∃ k', csem k' = csem k := ⟨k, rfl⟩
  unfold kindOf
  rw [dif_pos h]
  exact congrArg some (csem_injective h.choose_spec)

/-! ## The schedule -/

/-- How often a slot is used. -/
def times (dir : Bool) (k : Fin 2) : ℕ := match dir, k with
  | true, _ => 2
  | false, 1 => 2
  | false, 0 => 1

/-- The step at which a slot's `r`-th use arrives. -/
abbrev stepOf (k : Fin 2) (r : ℕ) : ℕ := 2 * r + 2 - k.val

/-- The units of a copy. -/
def units (w : Bool) : ℕ := match w with
  | false => (slotWq wqR 0).view.dmaCredit
  | true => (slotWo woR 0).view.dmaCredit
theorem units_pos (w : Bool) : 0 < units w := by
  cases w
  · exact View.dmaCredit_pos _ (by decide)
  · exact View.dmaCredit_pos _ (by decide)

theorem credit_wq (dir : Bool) (k : Fin 2) : (slotWq (wqA dir) k).view.dmaCredit = units false := by cases dir <;> rfl
theorem credit_wo (dir : Bool) (k : Fin 2) : (slotWo (woA dir) k).view.dmaCredit = units true := by cases dir <;> rfl
theorem credit_wqOwn : (wqOwn).view.dmaCredit = units false := rfl
theorem credit_woOwn : (woOwn).view.dmaCredit = units true := rfl

/-- The other slot. -/
def other (k : Fin 2) : Fin 2 := match k with
  | 0 => 1
  | 1 => 0

/-- The part of the device's own weights that is lent to a direction's first copy, and the part kept. -/
def lent (dir : Bool) : PosShare TreeShare := match dir with
  | true => fullShare.left
  | false => fullShare.right.left
abbrev kept : PosShare TreeShare := fullShare.right.right

/-- Direction and slot of the three semaphores that free a slot. -/
def freeDir (j : Fin 4) : Bool := match j with
  | 3 => false
  | _ => true
def freeSlot (j : Fin 4) : Fin 2 := match j with
  | 2 => 0
  | _ => 1

def kindDuties (k : Kind) (r : ℕ) : Finset Bool := match k with
  | .inl x => if r < times x.2.2.1 x.2.2.2 then {false} else ∅
  | .inr 0 => if r = 0 then Finset.univ else ∅
  | .inr _ => if r = 0 then {false} else ∅

def kindUnits (k : Kind) : ℕ := match k with
  | .inl x => units x.2.1
  | .inr _ => 1

/-- A slot of a neighbour handed over, both weights'. -/
def slotsFree (c : Dev nD) (dir : Bool) (k : Fin 2) : sProp (World F) := iprop(slotFree c false dir k ∗ slotFree c true dir k)

def kindPay (c : Dev nD) (k : Kind) (r : ℕ) (d : Bool) : sProp (World F) := match k with
  | .inl (true, w, dir, k) => slotHeld W c w dir k fullShare (org dir (stepOf k r) c)
  | .inl (false, w, dir, k) =>
    if stepOf k r = 1 then ownHeld W c w (lent dir) c
    else slotHeld W c w dir (other k) fullShare.left (org dir (stepOf k r - 1) c)
  | .inr 0 => iprop(slotsFree (goes d c) d 0 ∗ slotsFree (goes d c) d 1)
  | .inr j => iprop(slotsFree (goes (freeDir j) c) (freeDir j) (freeSlot j)
      ∗ reached ER (cell (goes (freeDir j) c) (.inl (true, false, freeDir j, freeSlot j))) 1
      ∗ reached ER (cell (goes (freeDir j) c) (.inl (true, true, freeDir j, freeSlot j))) 1)

instance kindPay_storable (c : Dev nD) (k : Kind) (r : ℕ) (d : Bool) : BI.Storable (upEmb : UEmb _ (World F)) (kindPay W c k r d) := by
  unfold kindPay slotsFree
  split
  · infer_instance
  · split <;> infer_instance
  · infer_instance
  · infer_instance

/-- The rounds of the ring's cells. -/
def ringRd : Rounds.Schedule (GSem nD τ sig) Bool (World F) where
  duties g r := if g.1.2 = .tc then (match kindOf g.2 with
    | some k => kindDuties k r
    | none => ∅) else ∅
  amount g _ _ := match kindOf g.2 with
    | some k => kindUnits k
    | none => 1
  payload g r d := match kindOf g.2 with
    | some k => kindPay W g.1.1 k r d
    | none => iprop(emp)
  amount_pos g _ _ _ := by
    split
    · rename_i k _
      cases k
      · exact units_pos _
      · exact Nat.one_pos
    · exact Nat.one_pos
  unitless _ := False

instance ringRd_storable (g : GSem nD τ sig) (r : ℕ) (d : Bool) : BI.Storable (upEmb : UEmb _ (World F)) ((ringRd W).payload g r d) := by
  show BI.Storable upEmb (match kindOf g.2 with
    | some k => kindPay W g.1.1 k r d
    | none => iprop(emp))
  split <;> infer_instance

theorem duties_cell (c : Dev nD) (k : Kind) (r : ℕ) : (ringRd W).duties (cell c k) r = kindDuties k r := by
  show (if ((c : Thread nD τ), csem k).1.2 = .tc then (match kindOf (csem k) with
    | some k => kindDuties k r
    | none => ∅) else ∅) = _
  rw [if_pos (rfl : ((c : Thread nD τ), csem k).1.2 = .tc), kindOf_csem]
theorem amount_cell (c : Dev nD) (k : Kind) (r : ℕ) (d : Bool) : (ringRd W).amount (cell c k) r d = kindUnits k := by
  show (match kindOf (csem k) with
    | some k => kindUnits k
    | none => 1) = _
  rw [kindOf_csem]
theorem payload_cell (c : Dev nD) (k : Kind) (r : ℕ) (d : Bool) : (ringRd W).payload (cell c k) r d = kindPay W c k r d := by
  show (match kindOf (csem k) with
    | some k => kindPay W c k r d
    | none => iprop(emp)) = _
  rw [kindOf_csem]
theorem expect_cell (c : Dev nD) (k : Kind) (r : ℕ) : (ringRd W).expect (cell c k) r = (kindDuties k r).card * kindUnits k := by
  unfold Schedule.expect Schedule.amountOf
  rw [duties_cell, Finset.sum_congr rfl fun d _ => amount_cell W c k r d, Finset.sum_const, smul_eq_mul]

/-! ## What a device pays -/

/-- The payments: to the barrier of the neighbour a direction comes from; the copies' (received or sent, output or query weights,
    direction, slot, use); the slots freed. -/
abbrev Tok := Bool ⊕ (Copy × Fin 2) ⊕ Fin 3

def tokKind (t : Tok) : Kind := match t with
  | .inl _ => .inr 0
  | .inr (.inl x) => .inl x.1
  | .inr (.inr j) => .inr j.succ
def tokRound (t : Tok) : ℕ := match t with
  | .inr (.inl x) => x.2.val
  | _ => 0
def tokDuty (t : Tok) : Bool := match t with
  | .inl d => d
  | _ => false
/-- Where device `c` pays it. -/
def tokDev (c : Dev nD) (t : Tok) : Dev nD := match t with
  | .inl d => comes d c
  | .inr (.inl x) => if x.1.1 then goes x.1.2.2.1 c else c
  | .inr (.inr j) => comes (freeDir j.succ) c
/-- At what level it is waited for. -/
def tokIx (t : Tok) : ℕ := match t with
  | .inl _ => 1
  | .inr (.inl x) => if x.1.1 then 2 * stepOf x.1.2.2.2 x.2.val else 0
  | .inr (.inr j) => match j with
    | 0 => 3
    | 1 => 5
    | 2 => 3

abbrev tokOf (ct : Dev nD × Tok) : GSem nD τ sig × ℕ × Bool := (cell (tokDev ct.1 ct.2) (tokKind ct.2), tokRound ct.2, tokDuty ct.2)

set_option synthInstance.maxSize 2000 in
set_option synthInstance.maxHeartbeats 400000 in
theorem tok_injective : Function.Injective fun t : Tok => (tokKind t, tokRound t, tokDuty t) := by
  have h : ∀ x : Tok × Tok, (tokKind x.1, tokRound x.1, tokDuty x.1) = (tokKind x.2, tokRound x.2, tokDuty x.2) → x.1 = x.2 := by
    decide +kernel
  exact fun a b => h (a, b)

theorem tokDev_injective (t : Tok) : Function.Injective fun c => tokDev c t := by
  rcases t with d | ⟨⟨recv, w, dir, k⟩, r⟩ | j
  · exact comes_injective d
  · cases recv
    · exact fun _ _ h => h
    · exact goes_injective dir
  · exact comes_injective _

theorem tokOf_injective : Function.Injective tokOf := by
  rintro ⟨c, t⟩ ⟨c', t'⟩ h
  have hk : csem (tokKind t) = csem (tokKind t') := congrArg (fun x : GSem nD τ sig × ℕ × Bool => x.1.2) h
  have ht : t = t' := tok_injective (Prod.ext (csem_injective hk) (congrArg (fun x : GSem nD τ sig × ℕ × Bool => x.2) h))
  subst ht
  have hc : tokDev c t = tokDev c' t := congrArg (fun x : GSem nD τ sig × ℕ × Bool => x.1.1.1) h
  rw [tokDev_injective t hc]

/-- The payment as an entry of what a device owes. -/
abbrev payOf (c : Dev nD) (t : Tok) : Pay nD τ sig := (cell (tokDev c t) (tokKind t), tokIx t, kindUnits (tokKind t))

abbrev hands (w dir : Bool) (k r : Fin 2) : Tok := .inr (.inl ((true, w, dir, k), r))
abbrev meets (dir : Bool) : Tok := .inl dir
abbrev frees (j : Fin 3) : Tok := .inr (.inr j)

/-- What a device owes, in the order it pays. -/
def dues : List Tok :=
  [meets true, meets false, hands false true 1 0, hands true true 1 0, hands false false 1 0, hands true false 1 0,
   hands false true 0 0, hands true true 0 0, hands false false 0 0, hands true false 0 0, frees 0, frees 2,
   hands false true 1 1, hands true true 1 1, hands false false 1 1, hands true false 1 1, frees 1,
   hands false true 0 1, hands true true 0 1]

def duesAt (c : Dev nD) (l : List Tok) : CellTallies nD τ sig ℕ := tallyL (l.map (payOf c))

/-- What a device still owes. -/
def Due (c : Dev nD) (l : List Tok) : sProp (World F) := iprop(∃ ws, owes (c : Thread nD τ) (duesAt c l) ws)

/-! ## The records all devices share -/

abbrev Names := Dev nD × Kind → ℕ

def records (K : Names) : sProp (World F) :=
  iprop((bigSep Finset.univ fun ck : Dev nD × Kind => cellInv ER (ringRd W) (K ck) (cell ck.1 ck.2))
    ∗ bigSep Finset.univ fun ck : Dev nD × Kind => reached ER (cell ck.1 ck.2) 0)

instance records_persistent (K : Names) : BI.Persistent (records W K) := by unfold records; infer_instance

def Env (K : Names) : sProp (World F) := iprop(records W K ∗ levAts (SiteBlocks.L 9) SiteBlocks.lv)

instance Env_persistent (K : Names) : BI.Persistent (Env W K) := by unfold Env; infer_instance

theorem env_inv (K : Names) (c : Dev nD) (k : Kind) : Env W K ⊢ cellInv ER (ringRd W) (K (c, k)) (cell c k) := by
  unfold Env records
  iintro ⟨⟨H, -⟩, -⟩
  iapply (show (bigSep Finset.univ fun ck : Dev nD × Kind => (cellInv ER (ringRd W) (K ck) (cell ck.1 ck.2) : sProp (World F))) ⊢ cellInv ER (ringRd W) (K (c, k)) (cell c k) from
    bigSep_elim (Finset.mem_univ (c, k)))
  iexact H
theorem env_reached (K : Names) (c : Dev nD) (k : Kind) : Env W K ⊢ reached ER (cell c k) 0 := by
  unfold Env records
  iintro ⟨⟨-, H⟩, -⟩
  iapply (show (bigSep Finset.univ fun ck : Dev nD × Kind => (reached ER (cell ck.1 ck.2) 0 : sProp (World F))) ⊢ reached ER (cell c k) 0 from
    bigSep_elim (Finset.mem_univ (c, k)))
  iexact H

/-- A wait at level `i` of a device whose dues are all above it. -/
theorem lev_mayWait (c : Dev nD) (s : SemLoc sig) (i : ℕ) (hi : i < 9) (l : List Tok) (hl : ∀ t ∈ l, i < tokIx t ∧ tokIx t < 9) :
    (levAts (SiteBlocks.L 9) SiteBlocks.lv : sProp (World F)) ⊢ MayWait (c : Thread nD τ) s i (duesAt c l) :=
  SiteBlocks.mayWait_of hi c s _ fun g k h => by
    obtain ⟨x, hx, rfl, rfl⟩ := tallyL_pos h
    obtain ⟨t, ht, rfl⟩ := List.mem_map.mp hx
    exact ⟨SiteBlocks.mem_L' rfl (hl t ht).2, (hl t ht).1⟩
theorem env_mayWait (K : Names) (c : Dev nD) (s : SemLoc sig) (i : ℕ) (hi : i < 9) (l : List Tok) (hl : ∀ t ∈ l, i < tokIx t ∧ tokIx t < 9) :
    Env W K ⊢ MayWait (c : Thread nD τ) s i (duesAt c l) := by
  unfold Env
  iintro ⟨-, H⟩
  iapply (lev_mayWait c s i hi l hl)
  iexact H

end Cert.Proof.Ring
-- ==== Proof.Steps.lean ====
/- The steps of the ring: a signal, a copy begun, a copy waited for, in terms of what the device holds. -/
module

public import proofs.«01_k».proof.Proof.Protocol

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Facts₀ Facts

variable {F : FTy → Type} [FloatOps F]

/-! ## One effect -/

variable (W : Weights F) (K : Names)

/-- A wait that ends a round with one payment. -/
theorem runs_wait1 (c : Dev nD) (k : Kind) (r n i : ℕ) (d : Bool) (l : List Tok) {w : TpuEff nD τ sig (Elt F) _ (.tc) PUnit}
    (hw : ∀ T : PUnit → sProp (World F), wpE (defs₀ (F := F)) 𝒱₀ (c : Thread nD τ) none Set.univ w T = waitSpec (c : Thread nD τ) Set.univ (csem k) n T)
    (hdut : kindDuties k r = {d}) (hn : kindUnits k = n) (hi : i < 9) (hl : ∀ t ∈ l, i < tokIx t ∧ tokIx t < 9) (Q : PUnit → sProp (World F)) :
    iprop(Env W K ∗ Due c l ∗ atPos ER (cell c k) r ∅ 0 ∗ cred (tallyAt (cell c k) i n)
      ∗ ((Due c l ∗ atPos ER (cell c k) (r + 1) ∅ 0 ∗ reached ER (cell c k) (r + 1) ∗ kindPay W c k r d) -∗ Q ⟨⟩))
      ⊢ runs c (Prog.lift w) Q := by
  unfold Due
  iintro ⟨#HE, ⟨%ws, HO⟩, Hat, Hc, Hk⟩
  simp only [Prog.lift]
  iapply (Rounds.wp_wait_rest_token 𝒱₀ ER (ringRd W) (c : Thread nD τ) none (κ := K (c, k)) hw (Set.mem_univ _) i
      (O := duesAt c l) (W := ws) (R := r) (m := 0) (T := ∅) (by
        rw [Nat.zero_add]
        show n = (ringRd W).expect (cell c k) r
        rw [expect_cell, hdut, Finset.card_singleton, Nat.one_mul, hn])) $$ [HO Hat Hc]
  · isplitr; · iapply (env_inv W K c k); iexact HE
    isplitl [Hc]; · iexact Hc
    isplitl [HO]; · iexact HO
    isplitr; · iapply (env_mayWait W K c (csem k) i hi l hl); iexact HE
    iexact Hat
  iintro ⟨HO, Hat, Hr, Hp⟩
  rw [wp_ret]; imodintro
  iapply Hk
  isplitl [HO]; · iexists _; iexact HO
  isplitl [Hat]; · iexact Hat
  isplitl [Hr]; · iexact Hr
  ihave Hp := (Entails.of_eq (show bigSep ((ringRd W).duties (cell c k) r \ ∅) (fun d => (ringRd W).payload (cell c k) r d) = kindPay W c k r d by
    rw [duties_cell, hdut, Finset.sdiff_empty, bigSep_singleton, payload_cell])) $$ Hp
  iexact Hp

/-- A signal paid. -/
theorem runs_signal (c dst : Dev nD) (j : Fin 4) (t : Tok) (ht : tokKind t = .inr j) (hdst : tokDev c t = dst)
    (hd : tokDuty t ∈ kindDuties (.inr j) 0) (l : List Tok) (Q : PUnit → sProp (World F)) :
    iprop(Env W K ∗ Due c (t :: l) ∗ dutyTok ER (cell dst (.inr j)) 0 (tokDuty t) ∗ kindPay W dst (.inr j) 0 (tokDuty t) ∗ (Due c l -∗ Q ⟨⟩))
      ⊢ runs c (semSignalWord dst (rsem j) 1#32) Q := by
  unfold Due
  iintro ⟨#HE, ⟨%ws, HO⟩, Ht, Hp, Hk⟩
  simp only [semSignalWord]
  iapply (Rounds.wp_signal 𝒱₀ ER (ringRd W) (c : Thread nD τ) none (dst := (dst : Thread nD τ)) (sem := rsem j) (r := 0) (κ := K (dst, .inr j))
      (d := tokDuty t) ((duties_cell W dst (.inr j) 0).symm ▸ hd) ((amount_cell W dst (.inr j) 0 _).trans (by show 1 = _; decide)) (tokIx t) (duesAt c l) (by
        show (payOf c t).tally + duesAt c l = _
        rw [add_comm]
        show duesAt c l + tallyAt (cell (tokDev c t) (tokKind t)) (tokIx t) (kindUnits (tokKind t)) = _
        rw [ht, hdst]; rfl)) $$ [HO Ht Hp]
  · isplitr; · iapply (env_inv W K dst (.inr j)); iexact HE
    isplitl [HO]; · iexact HO
    isplitl [Ht]; · iexact Ht
    isplitl [Hp]; · iapply (Entails.of_eq (payload_cell W dst (.inr j) 0 (tokDuty t)).symm); iexact Hp
    iapply (env_reached W K dst (.inr j)); iexact HE
  iintro HO
  rw [wp_ret]; imodintro
  iapply Hk
  iexists _; iexact HO

/-- What a device still owes after its first payment. -/
theorem due_cons (c dst : Dev nD) (k : Kind) (i n : ℕ) (t : Tok) (hk : tokKind t = k) (hd : tokDev c t = dst) (hi : tokIx t = i) (hn : kindUnits k = n)
    (l : List Tok) : duesAt c (t :: l) = duesAt c l + tallyAt (cell dst k) i n := by
  subst hk hd hi hn
  exact add_comm _ _

theorem copy_mem (b : Bool) (x : Bool × Bool × Fin 2) (r : ℕ) (hlt : r < times x.2.1 x.2.2) (c : Dev nD) :
    (false : Bool) ∈ (ringRd W).duties (cell c (.inl (b, x))) r := by
  rw [duties_cell]
  show _ ∈ (if _ then _ else _)
  rw [if_pos hlt]; exact Finset.mem_singleton_self _

/-- A copy to the neighbour begun: the source lent, the destination free. -/
theorem runs_copy {s : Shape} (c : Dev nD) (x : Copy) (r : Fin 2) (src dst : Memref sig .tc .vmem s .bf16) {hsrc : src.view.WordExact}
    {hdst : dst.view.WordExact} {hsc} {hsem} (q : PosShare TreeShare) (X : s.Idx → Elt F .bf16) (l : List Tok)
    (hlt : r.val < times x.2.2.1 x.2.2.2) (hN : dst.view.dmaCredit = units x.2.1)
    (hS : own (e := .bf16) c src q X ⊢ kindPay W c (.inl (false, x.2)) r false)
    (hR : own (e := .bf16) (goes x.2.2.1 c) dst fullShare X ⊢ kindPay W (goes x.2.2.1 c) (.inl (true, x.2)) r false) (Q : PUnit → sProp (World F)) :
    iprop(Env W K ∗ Due c (.inr (.inl ((true, x.2), r)) :: l) ∗ own (e := .bf16) c src q X
      ∗ (∃ Y : s.Idx → Elt F .bf16, own (e := .bf16) (goes x.2.2.1 c) dst fullShare Y)
      ∗ dutyTok ER (cell c (.inl (false, x.2))) r false ∗ reached ER (cell c (.inl (false, x.2))) r
      ∗ dutyTok ER (cell (goes x.2.2.1 c) (.inl (true, x.2))) r false ∗ reached ER (cell (goes x.2.2.1 c) (.inl (true, x.2))) r
      ∗ ((Due c l ∗ cred (tallyAt (cell c (.inl (false, x.2))) 0 (units x.2.1))) -∗ Q ⟨⟩))
      ⊢ runs c (Prog.lift (.enqueueDma src (.remote (Dev.tc (goes x.2.2.1 c)) dst (.dma (dsem (false, x.2))) hsc) (.dma (dsem (true, x.2))) hsrc hdst hsem)) Q := by
  unfold Due own owns
  iintro ⟨#HE, ⟨%ws, HO⟩, ⟨%fs, %hfs, Hs⟩, ⟨%Y, ⟨%fd, %hfd, Hd⟩⟩, Ht1, Hr1, Ht2, Hr2, Hk⟩
  simp only [Prog.lift]
  have h₁ : (src.view.loc (c : Thread nD τ) ↦[src.view.set]{q} fs) ⊢ (ringRd W).payload (cell c (.inl (false, x.2))) r false :=
    ((owns_intro (c : Thread nD τ) src q fs).trans (Entails.of_eq (congrArg (own c src q) hfs))).trans
      (hS.trans (Entails.of_eq (payload_cell W c _ r false).symm))
  have h₂ : (dst.view.loc (goes x.2.2.1 c : Thread nD τ) ↦[dst.view.set]{fullShare} (dst.view.write (Elt F) fd (src.view.read (Elt F) fs) Finset.univ))
      ⊢ (ringRd W).payload (cell (goes x.2.2.1 c) (.inl (true, x.2))) r false :=
    ((owns_intro (goes x.2.2.1 c : Thread nD τ) dst fullShare _).trans (Entails.of_eq (congrArg (own (goes x.2.2.1 c) dst fullShare)
      ((View.read_write_univ _ _).trans hfs)))).trans (hR.trans (Entails.of_eq (payload_cell W _ _ r false).symm))
  have hO : duesAt c (.inr (.inl ((true, x.2), r)) :: l)
      = duesAt c l + tallyAt (cell (goes x.2.2.1 c) (.inl (true, x.2))) (2 * stepOf x.2.2.2 r) (units x.2.1) := due_cons c _ _ _ _ _ rfl rfl rfl rfl l
  have hN' : dst.view.amount (csem (.inl (true, x.2))) = units x.2.1 := hN
  have key := (Rounds.wp_send_pointsTo (hsc := hsc) (hsrc := hsrc) (hdst := hdst) (hsem := hsem) (k := Prog.ret) (Q := Q) (W := ws) (Es := Set.univ) (src := src) (dst := dst) (defs := defs₀ (F := F)) (Γ := PendingWaitsCtx.empty) 𝒱₀ ER (ringRd W) (c : Thread nD τ) none (c' := (goes x.2.2.1 c : Thread nD τ)) (κ₁ := K (c, .inl (false, x.2))) (κ₂ := K (goes x.2.2.1 c, .inl (true, x.2)))
      (r₁ := r) (r₂ := r) (d₁ := false) (d₂ := false) (q := q) (fs := fs) (fd := fd) (O₀ := duesAt c (.inr (.inl ((true, x.2), r)) :: l))
      (sS := csem (.inl (false, x.2))) (sem := csem (.inl (true, x.2)))
      (copy_mem W false x.2 r hlt c) (copy_mem W true x.2 r hlt _)
      (2 * stepOf x.2.2.2 r) 0 (units x.2.1) hN' (amount_cell W _ _ _ _) (amount_cell W _ _ _ _) (duesAt c l) hO h₁ h₂)
  iapply key $$ [HO Hs Hd Ht1 Hr1 Ht2 Hr2]
  · isplitr; · iapply (env_inv W K c _); iexact HE
    isplitr; · iapply (env_inv W K _ _); iexact HE
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  rw [wp_ret]; imodintro
  iapply Hk
  isplitl [HO]; · iexists _; iexact HO
  iexact Hc

/-! ## One direction: the two weights together -/

abbrev Turn (c : Dev nD) (recv dir : Bool) (k : Fin 2) (r : ℕ) : sProp (World F) :=
  iprop(atPos ER (cell c (.inl (recv, false, dir, k))) r ∅ 0 ∗ atPos ER (cell c (.inl (recv, true, dir, k))) r ∅ 0)
abbrev Reach (c : Dev nD) (recv dir : Bool) (k : Fin 2) (r : ℕ) : sProp (World F) :=
  iprop(reached ER (cell c (.inl (recv, false, dir, k))) r ∗ reached ER (cell c (.inl (recv, true, dir, k))) r)
abbrev Creds (c : Dev nD) (recv dir : Bool) (k : Fin 2) (i : ℕ) : sProp (World F) :=
  iprop(cred (tallyAt (cell c (.inl (recv, false, dir, k))) i (units false)) ∗ cred (tallyAt (cell c (.inl (recv, true, dir, k))) i (units true)))
abbrev Toks (c : Dev nD) (dir : Bool) (k r : Fin 2) : sProp (World F) :=
  iprop((dutyTok ER (cell c (.inl (false, false, dir, k))) r false ∗ dutyTok ER (cell c (.inl (false, true, dir, k))) r false)
    ∗ dutyTok ER (cell (goes dir c) (.inl (true, false, dir, k))) r false ∗ dutyTok ER (cell (goes dir c) (.inl (true, true, dir, k))) r false)
abbrev Pays (c : Dev nD) (recv dir : Bool) (k : Fin 2) (r : ℕ) : sProp (World F) :=
  iprop(kindPay W c (.inl (recv, false, dir, k)) r false ∗ kindPay W c (.inl (recv, true, dir, k)) r false)

theorem env_reach (c : Dev nD) (recv dir : Bool) (k : Fin 2) : Env W K ⊢ Reach c recv dir k 0 := by
  iintro #HE
  isplitr
  · iapply (env_reached W K c _); iexact HE
  · iapply (env_reached W K c _); iexact HE

/-- Both weights sent. -/
def sends (dir : Bool) (q : Memref sig .tc .vmem S768x512 .bf16) (hq : q.view.WordExact) (o : Memref sig .tc .vmem S512x768 .bf16)
    (ho : o.view.WordExact) (k : Fin 2) (c : Dev nD) : Text F PUnit := do
  sendQ q hq (wqA dir) (whole_wqA dir) (semA false false dir) (semA true false dir) k (goes dir c)
  sendO o ho (woA dir) (whole_woA dir) (semA false true dir) (semA true true dir) k (goes dir c)

/-- Both seen to have left. -/
def lefts (dir : Bool) (q : Memref sig .tc .vmem S768x512 .bf16) (hq : q.view.WordExact) (o : Memref sig .tc .vmem S512x768 .bf16)
    (ho : o.view.WordExact) (k : Fin 2) : Text F PUnit := do
  leftQ q hq (wqA dir) (whole_wqA dir) (semA false false dir) k
  leftO o ho (woA dir) (whole_woA dir) (semA false true dir) k

/-- Both seen to have arrived. -/
def comesIn (dir : Bool) (k : Fin 2) : Text F PUnit := do
  cameQ (wqA dir) (whole_wqA dir) (semA true false dir) k
  cameO (woA dir) (whole_woA dir) (semA true true dir) k

theorem org_sent (dir : Bool) (k r : Fin 2) (c : Dev nD) : org dir (stepOf k r) (goes dir c) = org dir (stepOf k r - 1) c := by
  have h : stepOf k r = (stepOf k r - 1) + 1 := by revert k r; decide
  rw [h, org_goes, Nat.add_sub_cancel]

theorem arrives_q (dir : Bool) (k r : Fin 2) (c : Dev nD) :
    own (e := .bf16) (goes dir c) (slotWq (wqA dir) k) fullShare (W.q (org dir (stepOf k r - 1) c))
      ⊢ kindPay W (goes dir c) (.inl (true, false, dir, k)) r false := by
  rw [← org_sent]; exact Entails.of_eq rfl
theorem arrives_o (dir : Bool) (k r : Fin 2) (c : Dev nD) :
    own (e := .bf16) (goes dir c) (slotWo (woA dir) k) fullShare (W.o (org dir (stepOf k r - 1) c))
      ⊢ kindPay W (goes dir c) (.inl (true, true, dir, k)) r false := by
  rw [← org_sent]; exact Entails.of_eq rfl

theorem runs_sends (dir : Bool) (k r : Fin 2) (c : Dev nD) (hlt : r.val < times dir k)
    (q : Memref sig .tc .vmem S768x512 .bf16) (hq : q.view.WordExact) (o : Memref sig .tc .vmem S512x768 .bf16) (ho : o.view.WordExact)
    (sh : PosShare TreeShare)
    (hQ : own (e := .bf16) c q sh (W.q (org dir (stepOf k r - 1) c)) ⊢ kindPay W c (.inl (false, false, dir, k)) r false)
    (hO : own (e := .bf16) c o sh (W.o (org dir (stepOf k r - 1) c)) ⊢ kindPay W c (.inl (false, true, dir, k)) r false)
    (l : List Tok) (Q : PUnit → sProp (World F)) :
    iprop(Env W K ∗ Due c (hands false dir k r :: hands true dir k r :: l)
      ∗ (own (e := .bf16) c q sh (W.q (org dir (stepOf k r - 1) c)) ∗ own (e := .bf16) c o sh (W.o (org dir (stepOf k r - 1) c)))
      ∗ slotsFree (goes dir c) dir k ∗ Toks c dir k r ∗ Reach c false dir k r ∗ Reach (goes dir c) true dir k r
      ∗ ((Due c l ∗ Creds c false dir k 0) -∗ Q ⟨⟩))
      ⊢ runs c (sends dir q hq o ho k c) Q := by
  unfold sends slotsFree slotFree sendQ sendO
  simp only [runs_bind]
  iintro ⟨#HE, HD, ⟨Hq, Ho⟩, ⟨Hfq, Hfo⟩, ⟨⟨Ht1, Ht2⟩, Ht3, Ht4⟩, ⟨Hr1, Hr2⟩, ⟨Hr3, Hr4⟩, Hk⟩
  have h₁ := fun Q => runs_copy (hsrc := hq) (hdst := exact_wq _ (whole_wqA dir) k) (hsc := rfl) (hsem := ⟨⟨rfl, Or.inl rfl⟩, trivial⟩) W K c (false, false, dir, k) r q
    (slotWq (wqA dir) k) sh _ (hands true dir k r :: l) hlt (credit_wq dir k) hQ (arrives_q W dir k r c) Q
  have h₂ := fun Q => runs_copy (hsrc := ho) (hdst := exact_wo _ (whole_woA dir) k) (hsc := rfl) (hsem := ⟨⟨rfl, Or.inl rfl⟩, trivial⟩) W K c (false, true, dir, k) r o
    (slotWo (woA dir) k) sh _ l hlt (credit_wo dir k) hO (arrives_o W dir k r c) Q
  iapply (h₁ _)
  isplitr; · iexact HE
  isplitl [HD]; · iexact HD
  isplitl [Hq]; · iexact Hq
  isplitl [Hfq]; · iexact Hfq
  isplitl [Ht1]; · iexact Ht1
  isplitl [Hr1]; · iexact Hr1
  isplitl [Ht3]; · iexact Ht3
  isplitl [Hr3]; · iexact Hr3
  iintro ⟨HD, Hc1⟩
  iapply (h₂ Q)
  isplitr; · iexact HE
  isplitl [HD]; · iexact HD
  isplitl [Ho]; · iexact Ho
  isplitl [Hfo]; · iexact Hfo
  isplitl [Ht2]; · iexact Ht2
  isplitl [Hr2]; · iexact Hr2
  isplitl [Ht4]; · iexact Ht4
  isplitl [Hr4]; · iexact Hr4
  iintro ⟨HD, Hc2⟩
  iapply Hk
  isplitl [HD]; · iexact HD
  isplitl [Hc1]; · iexact Hc1
  iexact Hc2

theorem kindDuties_copy (x : Copy) (r : ℕ) (hlt : r < times x.2.2.1 x.2.2.2) : kindDuties (.inl x) r = {false} := if_pos hlt

/-- A pair of waits on a direction's two semaphores. -/
theorem runs_pair (recv dir : Bool) (k : Fin 2) (r i : ℕ) (c : Dev nD) (hlt : r < times dir k) (hi : i < 9) (l : List Tok)
    (hl : ∀ t ∈ l, i < tokIx t ∧ tokIx t < 9) (w₁ w₂ : TpuEff nD τ sig (Elt F) _ (.tc) PUnit)
    (h₁ : ∀ T : PUnit → sProp (World F), wpE (defs₀ (F := F)) 𝒱₀ (c : Thread nD τ) none Set.univ w₁ T
      = waitSpec (c : Thread nD τ) Set.univ (csem (.inl (recv, false, dir, k))) (units false) T)
    (h₂ : ∀ T : PUnit → sProp (World F), wpE (defs₀ (F := F)) 𝒱₀ (c : Thread nD τ) none Set.univ w₂ T
      = waitSpec (c : Thread nD τ) Set.univ (csem (.inl (recv, true, dir, k))) (units true) T) (Q : PUnit → sProp (World F)) :
    iprop(Env W K ∗ Due c l ∗ Turn c recv dir k r ∗ Creds c recv dir k i
      ∗ ((Due c l ∗ Turn c recv dir k (r + 1) ∗ Reach c recv dir k (r + 1) ∗ Pays W c recv dir k r) -∗ Q ⟨⟩))
      ⊢ runs c (Prog.lift w₁ >>= fun _ => Prog.lift w₂) Q := by
  iintro ⟨#HE, HD, ⟨Ha, Hb⟩, ⟨Hc, Hd⟩, Hk⟩
  simp only [runs_bind]
  iapply (runs_wait1 W K c (.inl (recv, false, dir, k)) r (units false) i false l h₁ (kindDuties_copy _ r hlt) rfl hi hl)
  isplitr; · iexact HE
  isplitl [HD]; · iexact HD
  isplitl [Ha]; · iexact Ha
  isplitl [Hc]; · iexact Hc
  iintro ⟨HD, Ha, Hra, Hpa⟩
  iapply (runs_wait1 W K c (.inl (recv, true, dir, k)) r (units true) i false l h₂ (kindDuties_copy _ r hlt) rfl hi hl)
  isplitr; · iexact HE
  isplitl [HD]; · iexact HD
  isplitl [Hb]; · iexact Hb
  isplitl [Hd]; · iexact Hd
  iintro ⟨HD, Hb, Hrb, Hpb⟩
  iapply Hk
  isplitl [HD]; · iexact HD
  isplitl [Ha Hb]
  · isplitl [Ha]; · iexact Ha
    iexact Hb
  isplitl [Hra Hrb]
  · isplitl [Hra]; · iexact Hra
    iexact Hrb
  isplitl [Hpa]; · iexact Hpa
  iexact Hpb

theorem spec_wait {s s' : Shape} {sp sp' : Space} {e e' : EltTy} (c : Dev nD) (sem : DmaSem sig) (src : Memref sig .tc sp' s' e') (dst : Memref sig .tc sp s e)
    {hsrc : src.view.WordExact} {hdst : dst.view.WordExact} (n : ℕ) (hn : dst.view.dmaCredit = n) (T : PUnit → sProp (World F)) :
    wpE (defs₀ (F := F)) 𝒱₀ (c : Thread nD τ) none Set.univ (.waitDma2 sem src dst hsrc hdst) T = waitSpec (c : Thread nD τ) Set.univ (.dma sem) n T := by
  subst hn; rfl

theorem runs_comesIn (dir : Bool) (k : Fin 2) (r i : ℕ) (c : Dev nD) (hlt : r < times dir k) (hi : i < 9) (l : List Tok)
    (hl : ∀ t ∈ l, i < tokIx t ∧ tokIx t < 9) (Q : PUnit → sProp (World F)) :
    iprop(Env W K ∗ Due c l ∗ Turn c true dir k r ∗ Creds c true dir k i
      ∗ ((Due c l ∗ Turn c true dir k (r + 1) ∗ Reach c true dir k (r + 1) ∗ Pays W c true dir k r) -∗ Q ⟨⟩))
      ⊢ runs c (comesIn dir k) Q :=
  runs_pair W K true dir k r i c hlt hi l hl _ _ (spec_wait c _ _ _ _ (credit_wq dir k)) (spec_wait c _ _ _ _ (credit_wo dir k)) Q

theorem runs_lefts (dir : Bool) (k : Fin 2) (r : ℕ) (c : Dev nD) (hlt : r < times dir k) (l : List Tok)
    (hl : ∀ t ∈ l, 0 < tokIx t ∧ tokIx t < 9) (q : Memref sig .tc .vmem S768x512 .bf16) (hq : q.view.WordExact)
    (o : Memref sig .tc .vmem S512x768 .bf16) (ho : o.view.WordExact) (hnq : q.view.dmaCredit = units false) (hno : o.view.dmaCredit = units true)
    (Q : PUnit → sProp (World F)) :
    iprop(Env W K ∗ Due c l ∗ Turn c false dir k r ∗ Creds c false dir k 0
      ∗ ((Due c l ∗ Turn c false dir k (r + 1) ∗ Reach c false dir k (r + 1) ∗ Pays W c false dir k r) -∗ Q ⟨⟩))
      ⊢ runs c (lefts dir q hq o ho k) Q :=
  runs_pair W K false dir k r 0 c hlt (by decide) l hl _ _ (spec_wait c _ _ _ _ hnq) (spec_wait c _ _ _ _ hno) Q

/-- The wait for both neighbours at the start. -/
theorem runs_meet (c : Dev nD) (l : List Tok) (hl : ∀ t ∈ l, 1 < tokIx t ∧ tokIx t < 9) (Q : PUnit → sProp (World F)) :
    iprop(Env W K ∗ Due c l ∗ atPos ER (cell c (.inr 0)) 0 ∅ 0 ∗ cred (tallyAt (cell c (.inr 0)) 1 2)
      ∗ ((Due c l ∗ atPos ER (cell c (.inr 0)) 1 ∅ 0 ∗ kindPay W c (.inr 0) 0 false ∗ kindPay W c (.inr 0) 0 true) -∗ Q ⟨⟩))
      ⊢ runs c (semWaitWord barSem 2#32) Q := by
  unfold Due
  iintro ⟨#HE, ⟨%ws, HO⟩, Hat, Hc, Hk⟩
  simp only [semWaitWord]
  iapply (Rounds.wp_wait_rest_token 𝒱₀ ER (ringRd W) (c : Thread nD τ) none (κ := K (c, .inr 0))
      (wpE_semWait_eq 𝒱₀ (c : Thread nD τ) none Set.univ) (Set.mem_univ _) 1 (O := duesAt c l) (W := ws) (R := 0) (m := 0) (T := ∅) (by
        show 0 + _ = (ringRd W).expect (cell c (.inr 0)) 0
        rw [expect_cell]; decide)) $$ [HO Hat Hc]
  · isplitr; · iapply (env_inv W K c (.inr 0)); iexact HE
    isplitl [Hc]; · iexact Hc
    isplitl [HO]; · iexact HO
    isplitr; · iapply (env_mayWait W K c (csem (.inr 0)) 1 (by decide) l hl); iexact HE
    iexact Hat
  iintro ⟨HO, Hat, -, Hp⟩
  rw [wp_ret]; imodintro
  iapply Hk
  isplitl [HO]; · iexists _; iexact HO
  isplitl [Hat]; · iexact Hat
  ihave Hp := (Entails.of_eq (show bigSep ((ringRd W).duties ((c : Thread nD τ), SemLoc.reg barSem) 0 \ ∅) (fun d => (ringRd W).payload ((c : Thread nD τ), SemLoc.reg barSem) 0 d)
      = iprop(kindPay W c (.inr 0) 0 false ∗ kindPay W c (.inr 0) 0 true) by
    show bigSep ((ringRd W).duties (cell c (.inr 0)) 0 \ ∅) (fun d => (ringRd W).payload (cell c (.inr 0)) 0 d) = _
    rw [duties_cell, Finset.sdiff_empty, bigSep_congr fun d _ => payload_cell W c (.inr 0) 0 d]
    exact bigSep_eq_bigSepL_of_eq (S := Finset.univ) [false, true] (by decide) (by decide) _)) $$ Hp
  icases Hp with ⟨H1, H2⟩
  isplitl [H1]; · iexact H1
  iexact H2

end Cert.Proof.Ring
-- ==== Proof.KV.lean ====
/- The copies of keys and values from the operands into the scratch: a group's eight heads begun, and waited for. -/
module

public import proofs.«01_k».proof.Proof.Steps

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Facts₀ Facts

variable {F : FTy → Type} [FloatOps F]

variable (W : Weights F) (K : Names)

theorem family_sep {I : Type} (s : Finset I) (Φ Ψ : I → sProp (World F)) :
    bigSep s (fun i => iprop(Φ i ∗ Ψ i)) = iprop(bigSep s Φ ∗ bigSep s Ψ) := bigSep_sep s Φ Ψ

/-! ## One array, one group -/

section One
variable (c : Dev nD) (M : Memref sig .tc .hbm S2x512x64x64 .f32) (A : Memref sig .tc .vmem S2x2x2x8x512x64 .f32) (sm : DmaSem sig)
  {off : Fin 8 → Fin 4 → ℕ} (H : InHeads off) (p d : Fin 2) (q : PosShare TreeShare) (X : Buf (Elt F) (M.view.loc (c : Thread nD τ)))

/-- What a head's copy brings. -/
def brought : KV F := fun h => (kvSrc M (off h) (H h)).view.read (Elt F) X

/-- The units of a head's copy. -/
def headUnits : ℕ := (kvDst A p d 0).view.dmaCredit

/-- What a head's copy hands over when it lands: the head, and the part of the operand it read. -/
def landed (h : Fin 8) : sProp (World F) :=
  iprop(own (e := .f32) c (kvDst A p d h) fullShare (brought c M H X h)
    ∗ ((kvSrc M (off h) (H h)).view.loc (c : Thread nD τ) ↦[(kvSrc M (off h) (H h)).view.set]{Transfers.shareTokN q h.val} X))

instance landed_storable (h : Fin 8) : BI.Storable (upEmb : UEmb _ (World F)) (landed c M A H p d q X h) := by unfold landed; infer_instance

/-- What stays behind: the rest of the operand at the share lent. -/
def stays (h : Fin 8) : sProp (World F) :=
  iprop((kvSrc M (off h) (H h)).view.loc (c : Thread nD τ) ↦[Finset.univ \ (kvSrc M (off h) (H h)).view.set]{Transfers.shareTokN q h.val} X)

/-- What the copy of a head takes. -/
def takes (Y : KV F) (h : Fin 8) : sProp (World F) :=
  iprop((M.view.loc (c : Thread nD τ) ↦{Transfers.shareTokN q h.val} X) ∗ own (e := .f32) c (kvDst A p d h) fullShare (Y h))

/-- The copies begun so far, and what is ready for the others. -/
def begun (Y : KV F) (n : ℕ) : sProp (World F) :=
  iprop(Transfers.Batch EC (c : Thread nD τ) (.dma sm) (0 : ℕ) (headUnits A p d) (landed c M A H p d q X) n 0
    ∗ bigSep Finset.univ fun h : Fin 8 => if h.val < n then stays c M H q X h else takes c M A p d q X Y h)

theorem head_credit (h : Fin 8) : (kvDst A p d h).view.dmaCredit = headUnits A p d := rfl
theorem head_amount (h : Fin 8) : (kvDst A p d h).view.amount (.dma sm : SemLoc sig) = headUnits A p d := rfl
theorem head_pos : 0 < headUnits A p d := View.dmaCredit_pos _ (by decide)

theorem runs_begin (Y : KV F) (h : Fin 8) {hsrc hdst hsem} (Q : PUnit → sProp (World F)) :
    iprop(begun c M A sm H p d q X Y h.val ∗ (begun c M A sm H p d q X Y (h.val + 1) -∗ Q ⟨⟩))
      ⊢ runs c (Prog.lift (.enqueueDma (kvSrc M (off h) (H h)) (.here (kvDst A p d h)) (.dma sm) hsrc hdst hsem)) Q := by
  have hlt : ¬ h.val < h.val := lt_irrefl _
  have hlt' : h.val < h.val + 1 := Nat.lt_succ_self _
  have hrest : (bigSep (Finset.univ.erase h) fun h' : Fin 8 => if h'.val < h.val then stays c M H q X h' else takes c M A p d q X Y h')
      = bigSep (Finset.univ.erase h) fun h' : Fin 8 => if h'.val < h.val + 1 then stays c M H q X h' else takes c M A p d q X Y h' :=
    bigSep_congr fun h' hh => by
      have hne : h'.val ≠ h.val := fun e => (Finset.ne_of_mem_erase hh) (Fin.ext e)
      by_cases hc : h'.val < h.val
      · rw [if_pos hc, if_pos (by omega)]
      · rw [if_neg hc, if_neg (by omega)]
  unfold begun
  rw [bigSep_univ_at _ h, bigSep_univ_at (fun h' : Fin 8 => if h'.val < h.val + 1 then _ else _) h, if_neg hlt, if_pos hlt', ← hrest]
  unfold takes own owns
  simp only [Prog.lift]
  iintro ⟨⟨HB, ⟨HM, ⟨%fd, %hfd, Hd⟩⟩, Hr⟩, Hk⟩
  ihave HM2 := (pointsTo_split_subset (Finset.subset_univ (kvSrc M (off h) (H h)).view.set)).1 $$ HM
  icases HM2 with ⟨Hs, Hc⟩
  iapply (Transfers.wp_dmaBatch EC 𝒱₀ (c : Thread nD τ) none (src := kvSrc M (off h) (H h)) (dst := kvDst A p d h) (fs := X) (fd := fd)
    (q := Transfers.shareTokN q h.val) (0 : ℕ) (headUnits A p d) (head_amount A sm p d h) subset_rfl (D := landed c M A H p d q X) (j := h.val) (u := 0)
    h.isLt (Nat.zero_le _) (by
      unfold landed
      refine sep_mono_left ((owns_intro (c : Thread nD τ) (kvDst A p d h) fullShare _).trans (Entails.of_eq (congrArg (own c (kvDst A p d h) fullShare) ?_)))
      exact View.read_write_univ _ _)) $$ [Hs Hd HB]
  · isplitl [Hs]; · iexact Hs
    isplitl [Hd]; · iexact Hd
    iexact HB
  iintro HB
  rw [wp_ret]; imodintro
  iapply Hk
  isplitl [HB]; · iexact HB
  isplitl [Hc]; · unfold stays; iexact Hc
  iexact Hr

/-- The waits seen so far. -/
def pends (n : ℕ) : sProp (World F) :=
  if n < 8 then Transfers.Batch EC (c : Thread nD τ) (.dma sm) (0 : ℕ) (headUnits A p d) (landed c M A H p d q X) 8 (n * headUnits A p d)
  else iprop(bigSep Finset.univ (landed c M A H p d q X) ∗ semVal ((c : Thread nD τ), .dma sm) 0)

theorem runs_pend (h : Fin 8) (l : List Tok) (hl : ∀ t ∈ l, 0 < tokIx t ∧ tokIx t < 9) {hsrc hdst} (Q : PUnit → sProp (World F)) :
    iprop(Env W K ∗ Due c l ∗ pends c M A sm H p d q X h.val ∗ ((Due c l ∗ pends c M A sm H p d q X (h.val + 1)) -∗ Q ⟨⟩))
      ⊢ runs c (Prog.lift (.waitDma2 sm (kvSrc M (off h) (H h)) (kvDst A p d h) hsrc hdst)) Q := by
  unfold pends
  rw [if_pos h.isLt]
  unfold Due
  simp only [Prog.lift]
  iintro ⟨#HE, ⟨%ws, HO⟩, HB, Hk⟩
  have hsucc : (h.val + 1) * headUnits A p d = h.val * headUnits A p d + headUnits A p d := Nat.succ_mul _ _
  have hpos := head_pos A p d
  by_cases hlast : h.val + 1 < 8
  · rw [if_pos hlast, hsucc]
    iapply (Transfers.wp_waitBatchO EC 𝒱₀ (c : Thread nD τ) none (0 : ℕ) (head_credit A p d h) (D := landed c M A H p d q X) (u := h.val * headUnits A p d)
      (O := duesAt c l) (W := ws) (by rw [← hsucc, Nat.mul_comm]; exact (Nat.mul_lt_mul_left hpos).mpr hlast)) $$ [HO HB]
    · isplitl [HB]; · iexact HB
      isplitl [HO]; · iexact HO
      iapply (env_mayWait W K c (.dma sm) 0 (by decide) l hl); iexact HE
    iintro ⟨HB, HO⟩
    rw [wp_ret]; imodintro
    iapply Hk
    isplitl [HO]; · iexists _; iexact HO
    iexact HB
  · have h8 : h.val + 1 = 8 := by have := h.isLt; omega
    rw [if_neg hlast]
    iapply (Transfers.wp_waitBatchLastO EC 𝒱₀ (c : Thread nD τ) none (0 : ℕ) (head_credit A p d h) hpos (D := landed c M A H p d q X) (u := h.val * headUnits A p d)
      (O := duesAt c l) (W := ws) (by rw [← hsucc, h8, Nat.mul_comm])) $$ [HO HB]
    · isplitl [HB]; · iexact HB
      isplitl [HO]; · iexact HO
      iapply (env_mayWait W K c (.dma sm) 0 (by decide) l hl); iexact HE
    iintro ⟨HD, Hv, HO⟩
    rw [wp_ret]; imodintro
    iapply Hk
    isplitl [HO]; · iexists _; iexact HO
    isplitl [HD]; · iexact HD
    iexact Hv

/-- The operand lent to a group's copies, head by head. -/
theorem lend (Y : KV F) :
    iprop((M.view.loc (c : Thread nD τ) ↦{q} X) ∗ kvOwn c A p d Y)
      ⊢ iprop((M.view.loc (c : Thread nD τ) ↦{Transfers.shareDrop q 8} X) ∗ bigSep Finset.univ fun h : Fin 8 => takes c M A p d q X Y h) := by
  unfold kvOwn takes
  rw [family_sep]
  iintro ⟨HM, HY⟩
  ihave HM := (Transfers.pointsTo_toks_split q 8) $$ HM
  icases HM with ⟨H1, H2⟩
  isplitl [H1]; · iexact H1
  isplitl [H2]; · iexact H2
  iexact HY

/-- The operand given back. -/
theorem giveBack :
    iprop((M.view.loc (c : Thread nD τ) ↦{Transfers.shareDrop q 8} X) ∗ (bigSep Finset.univ (landed c M A H p d q X)) ∗ bigSep Finset.univ (stays c M H q X))
      ⊢ iprop((M.view.loc (c : Thread nD τ) ↦{q} X) ∗ kvOwn c A p d (brought c M H X)) := by
  have h1 (h : Fin 8) : iprop(landed c M A H p d q X h ∗ stays c M H q X h)
      ⊢ iprop((M.view.loc (c : Thread nD τ) ↦{Transfers.shareTokN q h.val} X) ∗ own (e := .f32) c (kvDst A p d h) fullShare (brought c M H X h)) := by
    unfold landed stays
    iintro ⟨⟨Ho, Hs⟩, Hc⟩
    isplitr [Ho]
    · iapply (pointsTo_split_subset (ℓ := M.view.loc (c : Thread nD τ)) (Finset.subset_univ (kvSrc M (off h) (H h)).view.set)).2
      isplitl [Hs]; · iexact Hs
      iexact Hc
    · iexact Ho
  have h : iprop((bigSep Finset.univ (landed c M A H p d q X)) ∗ bigSep Finset.univ (stays c M H q X))
      ⊢ iprop((bigSep Finset.univ fun h : Fin 8 => (M.view.loc (c : Thread nD τ) ↦{Transfers.shareTokN q h.val} X)) ∗ kvOwn c A p d (brought c M H X)) := by
    unfold kvOwn
    rw [← family_sep, ← family_sep]
    exact bigSep_mono fun h _ => h1 h
  iintro ⟨Hd, H12⟩
  ihave H12 := h $$ H12
  icases H12 with ⟨Ht, Hk⟩
  isplitr [Hk]
  · iapply (Transfers.pointsTo_toks_join q 8)
    isplitl [Hd]; · iexact Hd
    iexact Ht
  · iexact Hk

/-- Ready for a group: its share of the operand, room for its heads, the semaphore at rest. -/
def Ready (Y : KV F) : sProp (World F) :=
  iprop((M.view.loc (c : Thread nD τ) ↦{q} X) ∗ kvOwn c A p d Y ∗ semVal ((c : Thread nD τ), .dma sm) 0)
/-- Under way: all eight copies begun. -/
def Flying (Y : KV F) : sProp (World F) :=
  iprop((M.view.loc (c : Thread nD τ) ↦{Transfers.shareDrop q 8} X) ∗ begun c M A sm H p d q X Y 8)

theorem ready_begun (Y : KV F) :
    Ready c M A sm p d q X Y ⊢ |={Set.univ}=> iprop((M.view.loc (c : Thread nD τ) ↦{Transfers.shareDrop q 8} X) ∗ begun c M A sm H p d q X Y 0) := by
  unfold Ready begun
  iintro ⟨HM, HY, Hv⟩
  imod (Transfers.batch_alloc' (Lvl := ℕ) EC (c : Thread nD τ) (0 : ℕ) (headUnits A p d) (landed c M A H p d q X) (sm := .dma sm) (E := Set.univ)) $$ Hv with HB
  ihave HH := (lend c M A p d q X Y) $$ [HM HY]
  · isplitl [HM]; · iexact HM
    iexact HY
  icases HH with ⟨Hd, Ht⟩
  imodintro
  isplitl [Hd]; · iexact Hd
  isplitl [HB]; · iexact HB
  iapply (Entails.of_eq (bigSep_congr (Φ := fun h : Fin 8 => takes c M A p d q X Y h) fun h _ => (if_neg (Nat.not_lt_zero h.val)).symm))
  iexact Ht

theorem flying_pends (Y : KV F) :
    Flying c M A sm H p d q X Y ⊢ iprop((M.view.loc (c : Thread nD τ) ↦{Transfers.shareDrop q 8} X) ∗ pends c M A sm H p d q X 0
      ∗ bigSep Finset.univ (stays c M H q X)) := by
  unfold Flying begun pends
  rw [if_pos (by decide), Nat.zero_mul, bigSep_congr (Ψ := stays c M H q X) fun h _ => if_pos h.isLt]

theorem pends_ready :
    iprop((M.view.loc (c : Thread nD τ) ↦{Transfers.shareDrop q 8} X) ∗ pends c M A sm H p d q X 8 ∗ bigSep Finset.univ (stays c M H q X))
      ⊢ Ready c M A sm p d q X (brought c M H X) := by
  unfold pends Ready
  rw [if_neg (lt_irrefl 8)]
  iintro ⟨Hd, ⟨Hl, Hv⟩, Hs⟩
  ihave HH := (giveBack c M A H p d q X) $$ [Hd Hl Hs]
  · isplitl [Hd]; · iexact Hd
    isplitl [Hl]; · iexact Hl
    iexact Hs
  icases HH with ⟨H1, H2⟩
  isplitl [H1]; · iexact H1
  isplitl [H2]; · iexact H2
  iexact Hv

end One

/-! ## Keys and values together -/

section Both
variable (c : Dev nD) {off : Fin 8 → Fin 4 → ℕ} (H : InHeads off) (p d : Fin 2) (q : PosShare TreeShare)
  (X : Buf (Elt F) (kHbm.view.loc (c : Thread nD τ))) (X' : Buf (Elt F) (vHbm.view.loc (c : Thread nD τ)))

def BothReady (Y Y' : KV F) : sProp (World F) :=
  iprop(Ready c kHbm kScr (kvSem cc0_scratch19 p d) p d q X Y ∗ Ready c vHbm vScr (kvSem cc0_scratch20 p d) p d q X' Y')
def BothFlying : sProp (World F) :=
  iprop((∃ Y, Flying c kHbm kScr (kvSem cc0_scratch19 p d) H p d q X Y) ∗ ∃ Y, Flying c vHbm vScr (kvSem cc0_scratch20 p d) H p d q X' Y)

theorem runs_kvStart (Y Y' : KV F) (Q : PUnit → sProp (World F)) :
    iprop(BothReady c p d q X X' Y Y' ∗ (BothFlying c H p d q X X' -∗ Q ⟨⟩)) ⊢ runs c (kvStart H p d) Q := by
  unfold BothReady
  iintro ⟨⟨H1, H2⟩, Hk⟩
  imod (ready_begun c kHbm kScr (kvSem cc0_scratch19 p d) H p d q X Y) $$ H1 with ⟨Hd1, H1⟩
  imod (ready_begun c vHbm vScr (kvSem cc0_scratch20 p d) H p d q X' Y') $$ H2 with ⟨Hd2, H2⟩
  unfold kvStart
  iapply (runs_eight c _ fun n => iprop(begun c kHbm kScr (kvSem cc0_scratch19 p d) H p d q X Y n ∗ begun c vHbm vScr (kvSem cc0_scratch20 p d) H p d q X' Y' n))
  · intro h Q'
    unfold kvStart1
    simp only [runs_bind]
    iintro ⟨⟨H1, H2⟩, Hk⟩
    iapply (runs_begin c kHbm kScr (kvSem cc0_scratch19 p d) H p d q X Y h)
    isplitl [H1]; · iexact H1
    iintro H1
    iapply (runs_begin c vHbm vScr (kvSem cc0_scratch20 p d) H p d q X' Y' h)
    isplitl [H2]; · iexact H2
    iintro H2
    iapply Hk
    isplitl [H1]; · iexact H1
    iexact H2
  isplitl [H1 H2]
  · isplitl [H1]; · iexact H1
    iexact H2
  iintro ⟨H1, H2⟩
  iapply Hk
  unfold BothFlying Flying
  isplitl [Hd1 H1]
  · iexists Y
    isplitl [Hd1]; · iexact Hd1
    iexact H1
  iexists Y'
  isplitl [Hd2]; · iexact Hd2
  iexact H2

theorem runs_kvWait (l : List Tok) (hl : ∀ t ∈ l, 0 < tokIx t ∧ tokIx t < 9) (Q : PUnit → sProp (World F)) :
    iprop(Env W K ∗ Due c l ∗ BothFlying c H p d q X X'
      ∗ ((Due c l ∗ BothReady c p d q X X' (brought c kHbm H X) (brought c vHbm H X')) -∗ Q ⟨⟩)) ⊢ runs c (kvWait H p d) Q := by
  unfold BothFlying
  iintro ⟨#HE, HD, ⟨⟨%Y, H1⟩, ⟨%Y', H2⟩⟩, Hk⟩
  ihave H1 := (flying_pends c kHbm kScr (kvSem cc0_scratch19 p d) H p d q X Y) $$ H1
  icases H1 with ⟨Hd1, H1, Hs1⟩
  ihave H2 := (flying_pends c vHbm vScr (kvSem cc0_scratch20 p d) H p d q X' Y') $$ H2
  icases H2 with ⟨Hd2, H2, Hs2⟩
  unfold kvWait
  iapply (runs_eight c _ fun n => iprop(Env W K ∗ Due c l ∗ pends c kHbm kScr (kvSem cc0_scratch19 p d) H p d q X n
    ∗ pends c vHbm vScr (kvSem cc0_scratch20 p d) H p d q X' n))
  · intro h Q'
    unfold kvWait1 kWait1 vWait1
    simp only [runs_bind]
    iintro ⟨⟨#HE, HD, H1, H2⟩, Hk⟩
    iapply (runs_pend W K c kHbm kScr (kvSem cc0_scratch19 p d) H p d q X h l hl)
    isplitr; · iexact HE
    isplitl [HD]; · iexact HD
    isplitl [H1]; · iexact H1
    iintro ⟨HD, H1⟩
    iapply (runs_pend W K c vHbm vScr (kvSem cc0_scratch20 p d) H p d q X' h l hl)
    isplitr; · iexact HE
    isplitl [HD]; · iexact HD
    isplitl [H2]; · iexact H2
    iintro ⟨HD, H2⟩
    iapply Hk
    isplitr; · iexact HE
    isplitl [HD]; · iexact HD
    isplitl [H1]; · iexact H1
    iexact H2
  isplitl [HD H1 H2]
  · isplitr; · iexact HE
    isplitl [HD]; · iexact HD
    isplitl [H1]; · iexact H1
    iexact H2
  iintro ⟨-, HD, H1, H2⟩
  iapply Hk
  isplitl [HD]; · iexact HD
  unfold BothReady
  isplitl [Hd1 H1 Hs1]
  · iapply (pends_ready c kHbm kScr (kvSem cc0_scratch19 p d) H p d q X)
    isplitl [Hd1]; · iexact Hd1
    isplitl [H1]; · iexact H1
    iexact Hs1
  · iapply (pends_ready c vHbm vScr (kvSem cc0_scratch20 p d) H p d q X')
    isplitl [Hd2]; · iexact Hd2
    isplitl [H2]; · iexact H2
    iexact Hs2

end Both

end Cert.Proof.Ring
-- ==== Proof.Moves.lean ====
/- What a device does with the slots of its two rings, each step as one move: an arrival, a block sent on, its departure seen,
   a slot freed, the loads from a slot, the rounding of the operands, and one group worked on. -/
module

public import proofs.«01_k».proof.Proof.Steps
public import proofs.«01_k».proof.Proof.KV

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos)
open Facts₀ Facts

variable {F : FTy → Type} [FloatOps F]

/-! ## Loads of weights -/

theorem blockAt_zero {s : Shape} {α : Type} (X : s.Idx → α) (off : Fin s.rank → ℕ) (h0 : ∀ a, off a = 0) (inb) : blockAt X off s.size inb = X := by
  refine funext fun j => congrArg X (funext fun a => Fin.ext ?_)
  show off a + 1 * (j a).val = (j a).val
  rw [h0 a, Nat.zero_add, Nat.one_mul]

theorem zero2 : ∀ a : Fin 2, (![0, 0] : Fin 2 → ℕ) a = 0 := by decide
theorem zero3 : ∀ a : Fin 3, (![0, 0, 0] : Fin 3 → ℕ) a = 0 := by decide

theorem loads_ownQ (c : Dev nD) (q : PosShare TreeShare) (w : S768x512.Idx → F .bf16) :
    Loads c (own (e := .bf16) c wqOwn q w) (ldOwnQ (F := F)) w := by
  intro Q
  unfold ldOwnQ
  simp only [runs_bind, Prog.lift]
  iintro ⟨H, Hk⟩
  iapply (runs_load c wqOwn)
  isplitl [H]; · iexact H
  iintro H
  iapply (runs_pure c)
  rw [blockAt_zero (s := S768x512) w ![0, 0] zero2]
  iapply Hk
  iexact H

theorem loads_ownO (c : Dev nD) (q : PosShare TreeShare) (w : S512x768.Idx → F .bf16) :
    Loads c (own (e := .bf16) c woOwn q w) (ldOwnO (F := F)) w := by
  intro Q
  unfold ldOwnO
  simp only [runs_bind, Prog.lift]
  iintro ⟨H, Hk⟩
  iapply (runs_load c woOwn)
  isplitl [H]; · iexact H
  iintro H
  iapply (runs_pure c)
  rw [blockAt_zero (s := S512x768) w ![0, 0] zero2]
  iapply Hk
  iexact H

theorem loads_slotQ (c : Dev nD) (A : Memref sig .tc .vmem S2x768x512 .bf16) (k : Fin 2) (q : PosShare TreeShare) (w : S768x512.Idx → F .bf16) :
    Loads c (own (e := .bf16) c (slotWq A k) q w) (ldSlotQ (F := F) A k) w := by
  intro Q
  unfold ldSlotQ own owns
  simp only [runs_bind, Prog.lift]
  iintro ⟨⟨%f, %hf, H⟩, Hk⟩
  iapply (wp_load 𝒱₀ (c : Thread nD τ) none Set.univ (m := A) (S := (slotWq A k).view.set) (by
    exact subset_of_eq ((View.set_reshape _ _).trans (View.set_slice _ _)).symm)) $$ H
  iintro H
  iapply (runs_pure c)
  iapply (runs_pure c)
  rw [show shapeCast S768x512 (A.view.readAt (Elt F) (Rect.unit (s := S2x768x512) ![k.val, 0, 0] S1x768x512.size (inb_wq k)).toLoadRect f)
    Facts₀.shapeCasts_S1x768x512_S768x512 = w from hf]
  iapply Hk
  iexists f
  isplitr; · (ipureintro; exact hf)
  iexact H

theorem loads_slotO (c : Dev nD) (A : Memref sig .tc .vmem S2x512x768 .bf16) (k : Fin 2) (q : PosShare TreeShare) (w : S512x768.Idx → F .bf16) :
    Loads c (own (e := .bf16) c (slotWo A k) q w) (ldSlotO (F := F) A k) w := by
  intro Q
  unfold ldSlotO own owns
  simp only [runs_bind, Prog.lift]
  iintro ⟨⟨%f, %hf, H⟩, Hk⟩
  iapply (wp_load 𝒱₀ (c : Thread nD τ) none Set.univ (m := A) (S := (slotWo A k).view.set) (by
    exact subset_of_eq ((View.set_reshape _ _).trans (View.set_slice _ _)).symm)) $$ H
  iintro H
  iapply (runs_pure c)
  iapply (runs_pure c)
  rw [show shapeCast S512x768 (A.view.readAt (Elt F) (Rect.unit (s := S2x512x768) ![k.val, 0, 0] S1x512x768.size (inb_wo k)).toLoadRect f)
    Facts₀.shapeCasts_S1x512x768_S512x768 = w from hf]
  iapply Hk
  iexists f
  isplitr; · (ipureintro; exact hf)
  iexact H

/-! ## The rounding -/

/-- An array rounded to sixteen bits, element by element. -/
def rounded {s : Shape} (x : s.Idx → F .f32) : s.Idx → F .bf16 := truncf .bf16 (show FVec F s .f32 from x) Facts₀.bitsLt_bf16_f32

theorem cast_self {α : Type} {s : Shape} (x : s.Idx → α) (h : s.ShapeCasts s) : shapeCast s x h = x := by
  funext j
  show x (Shape.reshapeEquiv _ j) = x j
  exact congrArg x (Shape.reshapeEquiv_self _ j)

theorem update_all {α : Type} {s : Shape} (x w : s.Idx → α) (off : Fin s.rank → ℕ) (h0 : ∀ a, off a = 0) (h) : updateSlice (s := s) (u := s) x w off h = w := by
  funext i
  refine (updateSlice_ite (s := s) (u := s) x w off h i True (w i) ?_ ?_).trans (if_pos trivial)
  · refine iff_of_true trivial fun a => ?_
    rw [h0 a]
    exact ⟨Nat.zero_le _, by rw [Nat.zero_add]; exact (i a).isLt⟩
  · intro j hj _
    refine congrArg w (funext fun a => Fin.ext ?_)
    have h1 := hj a
    have h2 : off (a.cast h.1) = 0 := h0 _
    rw [h2] at h1
    exact h1

theorem runs_roundW (c : Dev nD) (m : Memref sig .tc .vmem S768x512 .f32) (q : PosShare TreeShare) (x : S768x512.Idx → F .f32) (Q : PUnit → sProp (World F)) :
    iprop(own (e := .f32) c m q x ∗ (∃ y : S768x512.Idx → F .bf16, own (e := .bf16) c wqOwn fullShare y)
      ∗ ((own (e := .f32) c m q x ∗ own (e := .bf16) c wqOwn fullShare (rounded x)) -∗ Q ⟨⟩)) ⊢ runs c (roundW m) Q := by
  unfold roundW
  simp only [runs_bind, Prog.lift]
  iintro ⟨Hm, ⟨%y, Ho⟩, Hk⟩
  iapply (runs_load c m)
  isplitl [Hm]; · iexact Hm
  iintro Hm
  iapply (runs_pure c)
  iapply (runs_load c wqOwn)
  isplitl [Ho]; · iexact Ho
  iintro Ho
  iapply (runs_pure c)
  iapply (runs_store c wqOwn)
  isplitl [Ho]; · iexact Ho
  iintro Ho
  iapply (runs_pure c)
  iapply Hk
  isplitl [Hm]; · iexact Hm
  iapply (Entails.of_eq (congrArg (own c wqOwn fullShare) (show updateSlice (s := S768x512) (u := S768x512) y _ ![0, 0] _ = rounded x from
    (update_all y _ _ zero2 _).trans ((cast_self _ _).trans (congrArg rounded ((cast_self _ _).trans (blockAt_zero (s := S768x512) x ![0, 0] zero2 _)))))))
  iexact Ho

theorem runs_roundO (c : Dev nD) (m : Memref sig .tc .vmem S512x768 .f32) (q : PosShare TreeShare) (x : S512x768.Idx → F .f32) (Q : PUnit → sProp (World F)) :
    iprop(own (e := .f32) c m q x ∗ (∃ y : S512x768.Idx → F .bf16, own (e := .bf16) c woOwn fullShare y)
      ∗ ((own (e := .f32) c m q x ∗ own (e := .bf16) c woOwn fullShare (rounded x)) -∗ Q ⟨⟩)) ⊢ runs c (roundO m) Q := by
  unfold roundO
  simp only [runs_bind, Prog.lift]
  iintro ⟨Hm, ⟨%y, Ho⟩, Hk⟩
  iapply (runs_load c m)
  isplitl [Hm]; · iexact Hm
  iintro Hm
  iapply (runs_pure c)
  iapply (runs_load c woOwn)
  isplitl [Ho]; · iexact Ho
  iintro Ho
  iapply (runs_pure c)
  iapply (runs_store c woOwn)
  isplitl [Ho]; · iexact Ho
  iintro Ho
  iapply (runs_pure c)
  iapply Hk
  isplitl [Hm]; · iexact Hm
  iapply (Entails.of_eq (congrArg (own c woOwn fullShare) (show updateSlice (s := S512x768) (u := S512x768) y _ ![0, 0] _ = rounded x from
    (update_all y _ _ zero2 _).trans ((cast_self _ _).trans (congrArg rounded ((cast_self _ _).trans (blockAt_zero (s := S512x768) x ![0, 0] zero2 _)))))))
  iexact Ho

theorem runs_roundX (c : Dev nD) (m : Memref sig .tc .vmem S2x512x768 .f32) (q : PosShare TreeShare) (x : S2x512x768.Idx → F .f32) (Q : PUnit → sProp (World F)) :
    iprop(own (e := .f32) c m q x ∗ (∃ y : S2x512x768.Idx → F .bf16, own (e := .bf16) c xBf fullShare y)
      ∗ ((own (e := .f32) c m q x ∗ own (e := .bf16) c xBf fullShare (rounded x)) -∗ Q ⟨⟩)) ⊢ runs c (roundX m) Q := by
  unfold roundX
  simp only [runs_bind, Prog.lift]
  iintro ⟨Hm, ⟨%y, Ho⟩, Hk⟩
  iapply (runs_load c m)
  isplitl [Hm]; · iexact Hm
  iintro Hm
  iapply (runs_pure c)
  iapply (runs_load c xBf)
  isplitl [Ho]; · iexact Ho
  iintro Ho
  iapply (runs_pure c)
  iapply (runs_store c xBf)
  isplitl [Ho]; · iexact Ho
  iintro Ho
  iapply (runs_pure c)
  iapply Hk
  isplitl [Hm]; · iexact Hm
  iapply (Entails.of_eq (congrArg (own c xBf fullShare) (show updateSlice (s := S2x512x768) (u := S2x512x768) y _ ![0, 0, 0] _ = rounded x from
    (update_all y _ _ zero3 _).trans ((cast_self _ _).trans (congrArg rounded ((cast_self _ _).trans (blockAt_zero (s := S2x512x768) x ![0, 0, 0] zero3 _)))))))
  iexact Ho

/-! ## Moves on the ring -/

variable (W : Weights F) (K : Names)

theorem halves {sp : Space} {s : Shape} {e : EltTy} (c : Dev nD) (m : Memref sig .tc sp s e) (q : PosShare TreeShare) (X : s.Idx → Elt F e) :
    own c m q X ⊣⊢ iprop(own c m q.left X ∗ own c m q.right X) := owns_halves (c : Thread nD τ) m q X

/-- A slot of both weights. -/
abbrev Held (c : Dev nD) (dir : Bool) (k : Fin 2) (q : PosShare TreeShare) (g : Dev nD) : sProp (World F) :=
  iprop(slotHeld W c false dir k q g ∗ slotHeld W c true dir k q g)

theorem held_halves (c : Dev nD) (dir : Bool) (k : Fin 2) (g : Dev nD) :
    Held W c dir k fullShare g ⊣⊢ iprop(Held W c dir k fullShare.left g ∗ Held W c dir k fullShare.right g) := by
  unfold Held slotHeld
  constructor
  · iintro ⟨H1, H2⟩
    ihave H1 := (halves c _ _ _).1 $$ H1
    ihave H2 := (halves c _ _ _).1 $$ H2
    icases H1 with ⟨H1, H1'⟩
    icases H2 with ⟨H2, H2'⟩
    isplitl [H1 H2]
    · isplitl [H1]; · iexact H1
      iexact H2
    isplitl [H1']; · iexact H1'
    iexact H2'
  · iintro ⟨⟨H1, H2⟩, H1', H2'⟩
    isplitl [H1 H1']
    · iapply (halves c _ _ _).2
      isplitl [H1]; · iexact H1
      iexact H1'
    · iapply (halves c _ _ _).2
      isplitl [H2]; · iexact H2
      iexact H2'

theorem held_free (c : Dev nD) (dir : Bool) (k : Fin 2) (g : Dev nD) : Held W c dir k fullShare g ⊢ slotsFree c dir k := by
  unfold Held slotsFree
  exact BIClass.sep_mono (slotHeld_free W c false dir k g) (slotHeld_free W c true dir k g)

/-- A block arrives. -/
theorem runs_came (dir : Bool) (k : Fin 2) (r i s : ℕ) (hs : stepOf k r = s) (c : Dev nD) (hlt : r < times dir k) (hi : i < 9) (l : List Tok)
    (hl : ∀ t ∈ l, i < tokIx t ∧ tokIx t < 9) (Q : PUnit → sProp (World F)) :
    iprop(Env W K ∗ Due c l ∗ Turn c true dir k r ∗ Creds c true dir k i
      ∗ ((Due c l ∗ Turn c true dir k (r + 1) ∗ Reach c true dir k (r + 1) ∗ Held W c dir k fullShare (org dir s c)) -∗ Q ⟨⟩))
      ⊢ runs c (comesIn dir k) Q := by
  subst hs
  exact runs_comesIn W K dir k r i c hlt hi l hl Q

/-- A block sent on: half of it is lent, half is kept. -/
def fwds (dir : Bool) (k k' : Fin 2) (c : Dev nD) : Text F PUnit :=
  sends dir (slotWq (wqA dir) k) (exact_wq _ (whole_wqA dir) k) (slotWo (woA dir) k) (exact_wo _ (whole_woA dir) k) k' c
def gones (dir : Bool) (k k' : Fin 2) : Text F PUnit :=
  lefts dir (slotWq (wqA dir) k) (exact_wq _ (whole_wqA dir) k) (slotWo (woA dir) k) (exact_wo _ (whole_woA dir) k) k'

theorem pay_sent (c : Dev nD) (w dir : Bool) (k k' : Fin 2) (r s : ℕ) (hk : other k' = k) (hs : stepOf k' r = s + 1) (h0 : s ≠ 0) :
    kindPay W c (.inl (false, w, dir, k')) r false = slotHeld W c w dir k fullShare.left (org dir s c) := by
  show (if stepOf k' r = 1 then _ else slotHeld W c w dir (other k') fullShare.left (org dir (stepOf k' r - 1) c)) = _
  rw [if_neg (by omega), hk, hs, Nat.add_sub_cancel]

theorem runs_fwds (dir : Bool) (k k' r : Fin 2) (s : ℕ) (hk : other k' = k) (hs : stepOf k' r = s + 1) (h0 : s ≠ 0) (c : Dev nD)
    (hlt : r.val < times dir k') (l : List Tok) (Q : PUnit → sProp (World F)) :
    iprop(Env W K ∗ Due c (hands false dir k' r :: hands true dir k' r :: l) ∗ Held W c dir k fullShare (org dir s c)
      ∗ slotsFree (goes dir c) dir k' ∗ Toks c dir k' r ∗ Reach c false dir k' r ∗ Reach (goes dir c) true dir k' r
      ∗ ((Due c l ∗ Creds c false dir k' 0 ∗ Held W c dir k fullShare.right (org dir s c)) -∗ Q ⟨⟩))
      ⊢ runs c (fwds dir k k' c) Q := by
  have hs' : stepOf k' r - 1 = s := by omega
  have key := runs_sends W K dir k' r c hlt (slotWq (wqA dir) k) (exact_wq _ (whole_wqA dir) k) (slotWo (woA dir) k) (exact_wo _ (whole_woA dir) k)
    fullShare.left (by rw [pay_sent W c false dir k k' r s hk hs h0, hs']; exact Entails.of_eq rfl)
    (by rw [pay_sent W c true dir k k' r s hk hs h0, hs']; exact Entails.of_eq rfl) l Q
  rw [hs'] at key
  iintro ⟨#HE, HD, HH, Hf, Ht, Hr, Hr', Hk⟩
  ihave HH := (held_halves W c dir k _).1 $$ HH
  icases HH with ⟨HL, HR⟩
  iapply key
  isplitr; · iexact HE
  isplitl [HD]; · iexact HD
  isplitl [HL]; · iexact HL
  isplitl [Hf]; · iexact Hf
  isplitl [Ht]; · iexact Ht
  isplitl [Hr]; · iexact Hr
  isplitl [Hr']; · iexact Hr'
  iintro ⟨HD, Hc⟩
  iapply Hk
  isplitl [HD]; · iexact HD
  isplitl [Hc]; · iexact Hc
  iexact HR

theorem runs_gones (dir : Bool) (k k' : Fin 2) (r s : ℕ) (hk : other k' = k) (hs : stepOf k' r = s + 1) (h0 : s ≠ 0) (c : Dev nD)
    (hlt : r < times dir k') (l : List Tok) (hl : ∀ t ∈ l, 0 < tokIx t ∧ tokIx t < 9) (Q : PUnit → sProp (World F)) :
    iprop(Env W K ∗ Due c l ∗ Turn c false dir k' r ∗ Creds c false dir k' 0 ∗ Held W c dir k fullShare.right (org dir s c)
      ∗ ((Due c l ∗ Turn c false dir k' (r + 1) ∗ Reach c false dir k' (r + 1) ∗ Held W c dir k fullShare (org dir s c)) -∗ Q ⟨⟩))
      ⊢ runs c (gones dir k k') Q := by
  have key := runs_lefts W K dir k' r c hlt l hl (slotWq (wqA dir) k) (exact_wq _ (whole_wqA dir) k) (slotWo (woA dir) k) (exact_wo _ (whole_woA dir) k)
    (credit_wq dir k) (credit_wo dir k) Q
  unfold Pays at key
  rw [pay_sent W c false dir k k' r s hk hs h0, pay_sent W c true dir k k' r s hk hs h0] at key
  iintro ⟨#HE, HD, Ht, Hc, HR, Hk⟩
  iapply key
  isplitr; · iexact HE
  isplitl [HD]; · iexact HD
  isplitl [Ht]; · iexact Ht
  isplitl [Hc]; · iexact Hc
  iintro ⟨HD, Ht, Hr, HL⟩
  iapply Hk
  isplitl [HD]; · iexact HD
  isplitl [Ht]; · iexact Ht
  isplitl [Hr]; · iexact Hr
  iapply (held_halves W c dir k _).2
  isplitl [HL]; · iexact HL
  iexact HR

/-- The device's own block, the first to be sent. -/
abbrev OwnHeld (c : Dev nD) (q : PosShare TreeShare) : sProp (World F) := iprop(ownHeld W c false q c ∗ ownHeld W c true q c)

theorem own_halves (c : Dev nD) (q : PosShare TreeShare) : OwnHeld W c q ⊣⊢ iprop(OwnHeld W c q.left ∗ OwnHeld W c q.right) := by
  unfold OwnHeld ownHeld
  constructor
  · iintro ⟨H1, H2⟩
    ihave H1 := (halves c _ _ _).1 $$ H1
    ihave H2 := (halves c _ _ _).1 $$ H2
    icases H1 with ⟨H1, H1'⟩
    icases H2 with ⟨H2, H2'⟩
    isplitl [H1 H2]
    · isplitl [H1]; · iexact H1
      iexact H2
    isplitl [H1']; · iexact H1'
    iexact H2'
  · iintro ⟨⟨H1, H2⟩, H1', H2'⟩
    isplitl [H1 H1']
    · iapply (halves c _ _ _).2
      isplitl [H1]; · iexact H1
      iexact H1'
    · iapply (halves c _ _ _).2
      isplitl [H2]; · iexact H2
      iexact H2'

theorem pay_own (c : Dev nD) (w dir : Bool) : kindPay W c (.inl (false, w, dir, 1)) 0 false = ownHeld W c w (lent dir) c := by
  show (if stepOf 1 0 = 1 then ownHeld W c w (lent dir) c else slotHeld W c w dir (other 1) fullShare.left (org dir (stepOf 1 0 - 1) c)) = _
  exact if_pos rfl

theorem runs_sendOwn (dir : Bool) (c : Dev nD) (l : List Tok) (Q : PUnit → sProp (World F)) :
    iprop(Env W K ∗ Due c (hands false dir 1 0 :: hands true dir 1 0 :: l) ∗ OwnHeld W c (lent dir)
      ∗ slotsFree (goes dir c) dir 1 ∗ Toks c dir 1 0 ∗ ((Due c l ∗ Creds c false dir 1 0) -∗ Q ⟨⟩))
      ⊢ runs c (sends dir wqOwn wOwn woOwn wOwnO 1 c) Q := by
  have key := runs_sends W K dir 1 0 c (by cases dir <;> decide) wqOwn wOwn woOwn wOwnO (lent dir)
    (by rw [show ((0 : Fin 2) : ℕ) = 0 from rfl, pay_own W c false dir]; exact Entails.of_eq rfl)
    (by rw [show ((0 : Fin 2) : ℕ) = 0 from rfl, pay_own W c true dir]; exact Entails.of_eq rfl) l Q
  iintro ⟨#HE, HD, HH, Hf, Ht, Hk⟩
  iapply key
  isplitr; · iexact HE
  isplitl [HD]; · iexact HD
  isplitl [HH]; · iexact HH
  isplitl [Hf]; · iexact Hf
  isplitl [Ht]; · iexact Ht
  isplitr; · iapply (env_reach W K c false dir 1); iexact HE
  isplitr; · iapply (env_reach W K (goes dir c) true dir 1); iexact HE
  iexact Hk

theorem runs_leftOwn (dir : Bool) (c : Dev nD) (l : List Tok) (hl : ∀ t ∈ l, 0 < tokIx t ∧ tokIx t < 9) (Q : PUnit → sProp (World F)) :
    iprop(Env W K ∗ Due c l ∗ Turn c false dir 1 0 ∗ Creds c false dir 1 0
      ∗ ((Due c l ∗ Turn c false dir 1 1 ∗ Reach c false dir 1 1 ∗ OwnHeld W c (lent dir)) -∗ Q ⟨⟩))
      ⊢ runs c (lefts dir wqOwn wOwn woOwn wOwnO 1) Q := by
  have key := runs_lefts W K dir 1 0 c (by cases dir <;> decide) l hl wqOwn wOwn woOwn wOwnO credit_wqOwn credit_woOwn Q
  unfold Pays at key
  rw [pay_own W c false dir, pay_own W c true dir] at key
  exact key

/-! ## Slots given and taken -/

/-- The first signal to each neighbour: its device may fill both slots. -/
theorem runs_greet (dir : Bool) (c : Dev nD) (l : List Tok) (Q : PUnit → sProp (World F)) :
    iprop(Env W K ∗ Due c (meets dir :: l) ∗ dutyTok ER (cell (comes dir c) (.inr 0)) 0 dir ∗ slotsFree c dir 0 ∗ slotsFree c dir 1
      ∗ (Due c l -∗ Q ⟨⟩)) ⊢ runs c (semSignalWord (comes dir c) barSem 1#32) Q := by
  have key := runs_signal W K c (comes dir c) 0 (meets dir) rfl rfl (Finset.mem_univ _) l Q
  rw [show kindPay W (comes dir c) (.inr 0) 0 (tokDuty (meets dir)) = iprop(slotsFree c dir 0 ∗ slotsFree c dir 1) from by
    show iprop(slotsFree (goes dir (comes dir c)) dir 0 ∗ slotsFree (goes dir (comes dir c)) dir 1) = _
    rw [goes_comes]] at key
  iintro ⟨#HE, HD, Ht, H0, H1, Hk⟩
  iapply key
  isplitr; · iexact HE
  isplitl [HD]; · iexact HD
  isplitl [Ht]; · iexact Ht
  isplitl [H0 H1]
  · isplitl [H0]; · iexact H0
    iexact H1
  iexact Hk

theorem pay_free (c : Dev nD) (j : Fin 3) : kindPay W c (.inr j.succ) 0 false
    = iprop(slotsFree (goes (freeDir j.succ) c) (freeDir j.succ) (freeSlot j.succ) ∗ Reach (goes (freeDir j.succ) c) true (freeDir j.succ) (freeSlot j.succ) 1) := by
  fin_cases j <;> rfl
theorem duty_free (j : Fin 3) : kindDuties (.inr j.succ) 0 = {false} := by fin_cases j <;> rfl
theorem units_free (j : Fin 3) : kindUnits (.inr j.succ) = 1 := rfl

/-- A slot given back to the neighbour that fills it. -/
theorem runs_give (j : Fin 3) (dir : Bool) (k : Fin 2) (hd : freeDir j.succ = dir) (hk : freeSlot j.succ = k) (c : Dev nD) (l : List Tok) (Q : PUnit → sProp (World F)) :
    iprop(Env W K ∗ Due c (frees j :: l) ∗ dutyTok ER (cell (comes dir c) (.inr j.succ)) 0 false ∗ slotsFree c dir k ∗ Reach c true dir k 1
      ∗ (Due c l -∗ Q ⟨⟩)) ⊢ runs c (semSignalWord (comes dir c) (rsem j.succ) 1#32) Q := by
  subst hd hk
  have key := runs_signal W K c (comes (freeDir j.succ) c) j.succ (frees j) rfl rfl (by rw [duty_free]; exact Finset.mem_singleton_self _) l Q
  rw [show kindPay W (comes (freeDir j.succ) c) (.inr j.succ) 0 (tokDuty (frees j)) = iprop(slotsFree c (freeDir j.succ) (freeSlot j.succ)
      ∗ Reach c true (freeDir j.succ) (freeSlot j.succ) 1) from by
    show kindPay W (comes (freeDir j.succ) c) (.inr j.succ) 0 false = _
    rw [pay_free, goes_comes]] at key
  iintro ⟨#HE, HD, Ht, Hf, Hr, Hk⟩
  iapply key
  isplitr; · iexact HE
  isplitl [HD]; · iexact HD
  isplitl [Ht]; · iexact Ht
  isplitl [Hf Hr]
  · isplitl [Hf]; · iexact Hf
    iexact Hr
  iexact Hk

/-- The neighbour's slot taken again. -/
theorem runs_take (j : Fin 3) (dir : Bool) (k : Fin 2) (hd : freeDir j.succ = dir) (hk : freeSlot j.succ = k) (i : ℕ) (hi : i < 9) (c : Dev nD) (l : List Tok)
    (hl : ∀ t ∈ l, i < tokIx t ∧ tokIx t < 9) (Q : PUnit → sProp (World F)) :
    iprop(Env W K ∗ Due c l ∗ atPos ER (cell c (.inr j.succ)) 0 ∅ 0 ∗ cred (tallyAt (cell c (.inr j.succ)) i 1)
      ∗ ((Due c l ∗ atPos ER (cell c (.inr j.succ)) 1 ∅ 0 ∗ slotsFree (goes dir c) dir k ∗ Reach (goes dir c) true dir k 1) -∗ Q ⟨⟩))
      ⊢ runs c (semWaitWord (rsem j.succ) 1#32) Q := by
  subst hd hk
  have key := runs_wait1 W K c (.inr j.succ) 0 1 i false l (w := .semWait (rsem j.succ) (BitVec.toNat 1#32)) (fun T => wpE_semWait_eq 𝒱₀ (c : Thread nD τ) none Set.univ T)
    (duty_free j) (units_free j) hi hl Q
  rw [pay_free] at key
  iintro ⟨#HE, HD, Ha, Hc, Hk⟩
  iapply (show _ ⊢ runs c (semWaitWord (rsem j.succ) 1#32) Q from key)
  isplitr; · iexact HE
  isplitl [HD]; · iexact HD
  isplitl [Ha]; · iexact Ha
  isplitl [Hc]; · iexact Hc
  iintro ⟨HD, Ha, -, Hf, Hr⟩
  iapply Hk
  isplitl [HD]; · iexact HD
  isplitl [Ha]; · iexact Ha
  isplitl [Hf]; · iexact Hf
  iexact Hr

end Cert.Proof.Ring
-- ==== Proof.Body.lean ====
/- The kernel's body on one device: what it holds at each step of the ring, and what the steps leave. -/
module

public import proofs.«01_k».proof.Proof.Moves

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The text, step by step -/

/-- One group worked on, from a slot. -/
def works (dir : Bool) (out : Memref sig .tc .vmem S2x512x768 .f32) (k d : Fin 2) : Text F PUnit :=
  chunk (ldSlotQ (wqA dir) k) (ldSlotO (woA dir) k) out k d false

def opening (x : Memref sig .tc .vmem S2x512x768 .f32) (wq : Memref sig .tc .vmem S768x512 .f32) (wo : Memref sig .tc .vmem S512x768 .f32) (c : Dev nD) :
    Text F PUnit := do
  semSignalWord (comes true c) barSem 1#32
  semSignalWord (comes false c) barSem 1#32
  semWaitWord barSem 2#32
  roundW wq
  roundO wo
  roundX x
def step0 (out : Memref sig .tc .vmem S2x512x768 .f32) (c : Dev nD) : Text F PUnit := do
  sends true wqOwn wOwn woOwn wOwnO 1 c
  sends false wqOwn wOwn woOwn wOwnO 1 c
  kvStart (inOwn c) 0 0
  kvStart (inBefore c 0) 1 0
  kvStart (inNext c) 1 1
  kvWait (inOwn c) 0 0
  chunk ldOwnQ ldOwnO out 0 0 true
  lefts true wqOwn wOwn woOwn wOwnO 1
  lefts false wqOwn wOwn woOwn wOwnO 1
def step1 (out : Memref sig .tc .vmem S2x512x768 .f32) (c : Dev nD) : Text F PUnit := do
  kvStart (inBefore c 1) 0 0
  kvStart (inAfter c 0) 0 1
  comesIn true 1
  fwds true 1 0 c
  comesIn false 1
  fwds false 1 0 c
  kvWait (inBefore c 0) 1 0
  works true out 1 0
  kvWait (inNext c) 1 1
  works false out 1 1
  gones true 1 0
  gones false 1 0
  semSignalWord (comes true c) (rsem (0 : Fin 3).succ) 1#32
  semSignalWord (comes false c) (rsem (2 : Fin 3).succ) 1#32
def step2 (out : Memref sig .tc .vmem S2x512x768 .f32) (c : Dev nD) : Text F PUnit := do
  kvStart (inBefore c 2) 1 0
  kvStart (inAfter c 1) 1 1
  comesIn true 0
  semWaitWord (rsem (0 : Fin 3).succ) 1#32
  fwds true 0 1 c
  comesIn false 0
  semWaitWord (rsem (2 : Fin 3).succ) 1#32
  fwds false 0 1 c
  kvWait (inBefore c 1) 0 0
  works true out 0 0
  kvWait (inAfter c 0) 0 1
  works false out 0 1
  gones true 0 1
  gones false 0 1
  semSignalWord (comes true c) (rsem (1 : Fin 3).succ) 1#32
def step3 (out : Memref sig .tc .vmem S2x512x768 .f32) (c : Dev nD) : Text F PUnit := do
  kvStart (inBefore c 3) 0 0
  comesIn true 1
  semWaitWord (rsem (1 : Fin 3).succ) 1#32
  fwds true 1 0 c
  comesIn false 1
  kvWait (inBefore c 2) 1 0
  works true out 1 0
  kvWait (inAfter c 1) 1 1
  works false out 1 1
  gones true 1 0
  comesIn true 0
  kvWait (inBefore c 3) 0 0
  works true out 0 0

set_option maxRecDepth 100000 in
set_option maxHeartbeats 2000000 in
theorem runs_pieces (x : Memref sig .tc .vmem S2x512x768 .f32) (wq : Memref sig .tc .vmem S768x512 .f32) (wo : Memref sig .tc .vmem S512x768 .f32)
    (out : Memref sig .tc .vmem S2x512x768 .f32) (c : Dev nD) (Q : PUnit → sProp (World F)) :
    (runs c (opening x wq wo c) fun _ => runs c (step0 out c) fun _ => runs c (step1 out c) fun _ => runs c (step2 out c) fun _ => runs c (step3 out c) Q)
      ⊢ runs c (pieces x wq wo out) Q := by
  unfold pieces opening step0 step1 step2 step3
  simp only [runs_bind]
  have h (T : Dev nD → sProp (World F)) : T c ⊢ runs c (Prog.lift .deviceId) T := by
    refine BIBase.Entails.trans ?_ (Entails.of_eq (wp_deviceId (defs := defs₀ (F := F)) (Γ := PendingWaitsCtx.empty) 𝒱₀ (c : Thread nD τ) none Set.univ (k := Prog.ret)).symm)
    rw [wp_ret]
    exact fupd_intro
  refine BIBase.Entails.trans ?_ (h _)
  exact Entails.of_eq rfl

/-! ## What a device holds -/

abbrev owe3 : List Tok := [hands false true 0 1, hands true true 0 1]
abbrev owe2 : List Tok := hands false true 1 1 :: hands true true 1 1 :: hands false false 1 1 :: hands true false 1 1 :: frees 1 :: owe3
abbrev owe1 : List Tok := hands false true 0 0 :: hands true true 0 0 :: hands false false 0 0 :: hands true false 0 0 :: frees 0 :: frees 2 :: owe2
abbrev owe0 : List Tok := hands false true 1 0 :: hands true true 1 0 :: hands false false 1 0 :: hands true false 1 0 :: owe1

variable (W : Weights F) (K : Names)

/-- The work place: the rounded input, the queries, the attended heads, the output. -/
def Desk (c : Dev nD) (out : Memref sig .tc .vmem S2x512x768 .f32) (x : S2x512x768.Idx → F .bf16) (o : S2x512x768.Idx → F .f32) : sProp (World F) :=
  iprop(own (e := .bf16) c xBf fullShare x ∗ (∃ q : Heads F, own c qScr fullShare q) ∗ (∃ a : Heads F, own c ctxScr fullShare a)
    ∗ own (e := .f32) c out fullShare o)

variable (qs : Fin 2 → Fin 2 → PosShare TreeShare)

section KVs
variable (c : Dev nD) (X : Buf (Elt F) (kHbm.view.loc (c : Thread nD τ))) (X' : Buf (Elt F) (vHbm.view.loc (c : Thread nD τ)))

/-- The place of a group's keys and values at rest, and with a group's heads on their way to it. -/
def Idle (p d : Fin 2) : sProp (World F) := iprop(∃ Y Y', BothReady c p d (qs p d) X X' Y Y')
abbrev Busy {off : Fin 8 → Fin 4 → ℕ} (H : InHeads off) (p d : Fin 2) : sProp (World F) := BothFlying c H p d (qs p d) X X'

/-- The output after one more group. -/
def adds (first : Bool) {off : Fin 8 → Fin 4 → ℕ} (H : InHeads off) (x : S2x512x768.Idx → F .bf16) (g : Dev nD) (o : S2x512x768.Idx → F .f32) :
    S2x512x768.Idx → F .f32 :=
  outStep first (partOf x (W.q g) (W.o g) (brought c kHbm H X) (brought c vHbm H X')) o

theorem runs_fetch {off : Fin 8 → Fin 4 → ℕ} (H : InHeads off) (p d : Fin 2) (Q : PUnit → sProp (World F)) :
    iprop(Idle qs c X X' p d ∗ (Busy qs c X X' H p d -∗ Q ⟨⟩)) ⊢ runs c (kvStart H p d) Q := by
  unfold Idle
  iintro ⟨⟨%Y, %Y', H1⟩, Hk⟩
  iapply (runs_kvStart c H p d (qs p d) X X' Y Y' Q)
  isplitl [H1]; · iexact H1
  iexact Hk

theorem runs_group (ldQ : Text F (FVec F S768x512 .bf16)) (ldO : Text F (FVec F S512x768 .bf16)) (RQ RO : sProp (World F)) (g : Dev nD)
    (hQ : Loads c RQ ldQ (W.q g)) (hO : Loads c RO ldO (W.o g)) (first : Bool) (out : Memref sig .tc .vmem S2x512x768 .f32)
    {off : Fin 8 → Fin 4 → ℕ} (H : InHeads off) (p d : Fin 2) (x : S2x512x768.Idx → F .bf16) (o : S2x512x768.Idx → F .f32) (l : List Tok)
    (hl : ∀ t ∈ l, 0 < tokIx t ∧ tokIx t < 9) (Q : PUnit → sProp (World F)) :
    iprop(Env W K ∗ Due c l ∗ Busy qs c X X' H p d ∗ Desk c out x o ∗ (RQ ∗ RO)
      ∗ ((Due c l ∗ Idle qs c X X' p d ∗ Desk c out x (adds W c X X' first H x g o) ∗ (RQ ∗ RO)) -∗ Q ⟨⟩))
      ⊢ runs c (kvWait H p d) fun _ => runs c (chunk ldQ ldO out p d first) Q := by
  unfold Desk
  iintro ⟨#HE, HD, HB, ⟨Hx, Hq, Ha, Ho⟩, ⟨HQ, HO⟩, Hk⟩
  iapply (runs_kvWait W K c H p d (qs p d) X X' l hl)
  isplitr; · iexact HE
  isplitl [HD]; · iexact HD
  isplitl [HB]; · iexact HB
  unfold BothReady Ready
  iintro ⟨HD, ⟨HX, HK, HS⟩, HX', HV, HS'⟩
  iapply (runs_chunk c RQ RO ldQ ldO (W.q g) (W.o g) hQ hO out p d first x _ _ o Q)
  isplitl [Hx]; · iexact Hx
  isplitl [HQ]; · iexact HQ
  isplitl [HO]; · iexact HO
  isplitl [Hq]; · iexact Hq
  isplitl [Ha]; · iexact Ha
  isplitl [HK]; · iexact HK
  isplitl [HV]; · iexact HV
  isplitl [Ho]; · iexact Ho
  iintro ⟨Hx, HQ, HO, Hq, Ha, HK, HV, Ho⟩
  iapply Hk
  isplitl [HD]; · iexact HD
  isplitl [HX HK HS HX' HV HS']
  · unfold Idle BothReady Ready
    iexists _, _
    isplitl [HX HK HS]
    · isplitl [HX]; · iexact HX
      isplitl [HK]; · iexact HK
      iexact HS
    isplitl [HX']; · iexact HX'
    isplitl [HV]; · iexact HV
    iexact HS'
  isplitl [Hx Hq Ha Ho]
  · isplitl [Hx]; · iexact Hx
    isplitl [Hq]; · iexact Hq
    isplitl [Ha]; · iexact Ha
    iexact Ho
  isplitl [HQ]; · iexact HQ
  iexact HO

theorem runs_work (dir : Bool) (k : Fin 2) (sh : PosShare TreeShare) (g : Dev nD) (out : Memref sig .tc .vmem S2x512x768 .f32)
    {off : Fin 8 → Fin 4 → ℕ} (H : InHeads off) (d : Fin 2) (x : S2x512x768.Idx → F .bf16) (o : S2x512x768.Idx → F .f32) (l : List Tok)
    (hl : ∀ t ∈ l, 0 < tokIx t ∧ tokIx t < 9) (Q : PUnit → sProp (World F)) :
    iprop(Env W K ∗ Due c l ∗ Busy qs c X X' H k d ∗ Desk c out x o ∗ Held W c dir k sh g
      ∗ ((Due c l ∗ Idle qs c X X' k d ∗ Desk c out x (adds W c X X' false H x g o) ∗ Held W c dir k sh g) -∗ Q ⟨⟩))
      ⊢ runs c (kvWait H k d) fun _ => runs c (works dir out k d) Q :=
  runs_group W K qs c X X' _ _ _ _ g (loads_slotQ c (wqA dir) k sh (W.q g)) (loads_slotO c (woA dir) k sh (W.o g)) false out H k d x o l hl Q

/-- The own group: sent both ways, worked on. -/
theorem runs_step0 (out : Memref sig .tc .vmem S2x512x768 .f32) (x : S2x512x768.Idx → F .bf16) (o : S2x512x768.Idx → F .f32) (Q : PUnit → sProp (World F)) :
    iprop(Env W K ∗ Due c owe0
      ∗ OwnHeld W c (lent true)
      ∗ OwnHeld W c (lent false)
      ∗ OwnHeld W c kept
      ∗ slotsFree (goes true c) true 1
      ∗ slotsFree (goes false c) false 1
      ∗ Toks c true 1 0
      ∗ Toks c false 1 0
      ∗ Turn c false true 1 0
      ∗ Turn c false false 1 0
      ∗ Idle qs c X X' 0 0
      ∗ Idle qs c X X' 1 0
      ∗ Idle qs c X X' 1 1
      ∗ Desk c out x o
      ∗ ((Due c owe1
        ∗ OwnHeld W c (lent true)
        ∗ OwnHeld W c (lent false)
        ∗ OwnHeld W c kept
        ∗ Turn c false true 1 1
        ∗ Turn c false false 1 1
        ∗ Reach c false true 1 1
        ∗ Reach c false false 1 1
        ∗ Idle qs c X X' 0 0
        ∗ Busy qs c X X' (inBefore c 0) 1 0
        ∗ Busy qs c X X' (inNext c) 1 1
        ∗ Desk c out x (adds W c X X' true (inOwn c) x c o)) -∗ Q ⟨⟩))
      ⊢ runs c (step0 out c) Q := by
  unfold step0
  simp only [runs_bind]
  iintro ⟨#HE, HD, HoR, HoL, Hown, HfR, HfL, HtR, HtL, HsR, HsL, Hi00, Hi10, Hi11, Hdesk, Hk⟩
  iapply (runs_sendOwn W K true c _ _)
  isplitr; · iexact HE
  isplitl [HD]; · iexact HD
  isplitl [HoR]; · iexact HoR
  isplitl [HfR]; · iexact HfR
  isplitl [HtR]; · iexact HtR
  iintro ⟨HD, HcR⟩
  iapply (runs_sendOwn W K false c _ _)
  isplitr; · iexact HE
  isplitl [HD]; · iexact HD
  isplitl [HoL]; · iexact HoL
  isplitl [HfL]; · iexact HfL
  isplitl [HtL]; · iexact HtL
  iintro ⟨HD, HcL⟩
  iapply (runs_fetch qs c X X' (inOwn c) 0 0 _)
  isplitl [Hi00]; · iexact Hi00
  iintro Hb00
  iapply (runs_fetch qs c X X' (inBefore c 0) 1 0 _)
  isplitl [Hi10]; · iexact Hi10
  iintro Hb10
  iapply (runs_fetch qs c X X' (inNext c) 1 1 _)
  isplitl [Hi11]; · iexact Hi11
  iintro Hb11
  iapply (runs_group W K qs c X X' ldOwnQ ldOwnO _ _ c (loads_ownQ c kept (W.q c)) (loads_ownO c kept (W.o c)) true out (inOwn c) 0 0 x o owe1 (by decide) _)
  isplitr; · iexact HE
  isplitl [HD]; · iexact HD
  isplitl [Hb00]; · iexact Hb00
  isplitl [Hdesk]; · iexact Hdesk
  isplitl [Hown]; · iexact Hown
  iintro ⟨HD, Hb00, Hdesk, Hown⟩
  iapply (runs_leftOwn W K true c owe1 (by decide) _)
  isplitr; · iexact HE
  isplitl [HD]; · iexact HD
  isplitl [HsR]; · iexact HsR
  isplitl [HcR]; · iexact HcR
  iintro ⟨HD, HsR, HrR, HoR⟩
  iapply (runs_leftOwn W K false c owe1 (by decide) _)
  isplitr; · iexact HE
  isplitl [HD]; · iexact HD
  isplitl [HsL]; · iexact HsL
  isplitl [HcL]; · iexact HcL
  iintro ⟨HD, HsL, HrL, HoL⟩
  iapply Hk
  isplitl [HD]; · iexact HD
  isplitl [HoR]; · iexact HoR
  isplitl [HoL]; · iexact HoL
  isplitl [Hown]; · iexact Hown
  isplitl [HsR]; · iexact HsR
  isplitl [HsL]; · iexact HsL
  isplitl [HrR]; · iexact HrR
  isplitl [HrL]; · iexact HrL
  isplitl [Hb00]; · iexact Hb00
  isplitl [Hb10]; · iexact Hb10
  isplitl [Hb11]; · iexact Hb11
  iexact Hdesk

/-- The first groups from both sides: sent on, worked on, their slots given back. -/
theorem runs_step1 (out : Memref sig .tc .vmem S2x512x768 .f32) (x : S2x512x768.Idx → F .bf16) (o : S2x512x768.Idx → F .f32) (Q : PUnit → sProp (World F)) :
    iprop(Env W K ∗ Due c owe1
      ∗ Idle qs c X X' 0 0
      ∗ Idle qs c X X' 0 1
      ∗ Busy qs c X X' (inBefore c 0) 1 0
      ∗ Busy qs c X X' (inNext c) 1 1
      ∗ Turn c true true 1 0
      ∗ Turn c true false 1 0
      ∗ Creds c true true 1 2
      ∗ Creds c true false 1 2
      ∗ slotsFree (goes true c) true 0
      ∗ slotsFree (goes false c) false 0
      ∗ Toks c true 0 0
      ∗ Toks c false 0 0
      ∗ Turn c false true 0 0
      ∗ Turn c false false 0 0
      ∗ dutyTok ER (cell (comes true c) (.inr (0 : Fin 3).succ)) 0 false
      ∗ dutyTok ER (cell (comes false c) (.inr (2 : Fin 3).succ)) 0 false
      ∗ Desk c out x o
      ∗ ((Due c owe2
        ∗ Idle qs c X X' 1 0
        ∗ Idle qs c X X' 1 1
        ∗ Busy qs c X X' (inBefore c 1) 0 0
        ∗ Busy qs c X X' (inAfter c 0) 0 1
        ∗ Turn c true true 1 1
        ∗ Turn c true false 1 1
        ∗ Turn c false true 0 1
        ∗ Turn c false false 0 1
        ∗ Reach c false true 0 1
        ∗ Desk c out x (adds W c X X' false (inNext c) x (org false 1 c) (adds W c X X' false (inBefore c 0) x (org true 1 c) o))) -∗ Q ⟨⟩))
      ⊢ runs c (step1 out c) Q := by
  unfold step1
  simp only [runs_bind]
  iintro ⟨#HE, HD, Hi00, Hi01, Hb10, Hb11, HaR, HaL, HcR, HcL, HfR, HfL, HtR, HtL, HsR, HsL, Hg0, Hg2, Hdesk, Hk⟩
  iapply (runs_fetch qs c X X' (inBefore c 1) 0 0 _)
  isplitl [Hi00]; · iexact Hi00
  iintro Hb00
  iapply (runs_fetch qs c X X' (inAfter c 0) 0 1 _)
  isplitl [Hi01]; · iexact Hi01
  iintro Hb01
  iapply (runs_came W K true 1 0 2 1 rfl c (by decide) (by decide) owe1 (by decide) _)
  isplitr; · iexact HE
  isplitl [HD]; · iexact HD
  isplitl [HaR]; · iexact HaR
  isplitl [HcR]; · iexact HcR
  iintro ⟨HD, HaR, HrR, HR⟩
  iapply (runs_fwds W K true 1 0 0 1 rfl rfl (by decide) c (by decide) _ _)
  isplitr; · iexact HE
  isplitl [HD]; · iexact HD
  isplitl [HR]; · iexact HR
  isplitl [HfR]; · iexact HfR
  isplitl [HtR]; · iexact HtR
  isplitr; · iapply (env_reach W K c false true 0); iexact HE
  isplitr; · iapply (env_reach W K (goes true c) true true 0); iexact HE
  iintro ⟨HD, HcR, HR⟩
  iapply (runs_came W K false 1 0 2 1 rfl c (by decide) (by decide) (hands false false 0 0 :: hands true false 0 0 :: frees 0 :: frees 2 :: owe2) (by decide) _)
  isplitr; · iexact HE
  isplitl [HD]; · iexact HD
  isplitl [HaL]; · iexact HaL
  isplitl [HcL]; · iexact HcL
  iintro ⟨HD, HaL, HrL, HL⟩
  iapply (runs_fwds W K false 1 0 0 1 rfl rfl (by decide) c (by decide) _ _)
  isplitr; · iexact HE
  isplitl [HD]; · iexact HD
  isplitl [HL]; · iexact HL
  isplitl [HfL]; · iexact HfL
  isplitl [HtL]; · iexact HtL
  isplitr; · iapply (env_reach W K c false false 0); iexact HE
  isplitr; · iapply (env_reach W K (goes false c) true false 0); iexact HE
  iintro ⟨HD, HcL, HL⟩
  iapply (runs_work W K qs c X X' true 1 fullShare.right (org true 1 c) out (inBefore c 0) 0 x _ (frees 0 :: frees 2 :: owe2) (by decide) _)
  isplitr; · iexact HE
  isplitl [HD]; · iexact HD
  isplitl [Hb10]; · iexact Hb10
  isplitl [Hdesk]; · iexact Hdesk
  isplitl [HR]; · iexact HR
  iintro ⟨HD, Hb10, Hdesk, HR⟩
  iapply (runs_work W K qs c X X' false 1 fullShare.right (org false 1 c) out (inNext c) 1 x _ (frees 0 :: frees 2 :: owe2) (by decide) _)
  isplitr; · iexact HE
  isplitl [HD]; · iexact HD
  isplitl [Hb11]; · iexact Hb11
  isplitl [Hdesk]; · iexact Hdesk
  isplitl [HL]; · iexact HL
  iintro ⟨HD, Hb11, Hdesk, HL⟩
  iapply (runs_gones W K true 1 0 0 1 rfl rfl (by decide) c (by decide) (frees 0 :: frees 2 :: owe2) (by decide) _)
  isplitr; · iexact HE
  isplitl [HD]; · iexact HD
  isplitl [HsR]; · iexact HsR
  isplitl [HcR]; · iexact HcR
  isplitl [HR]; · iexact HR
  iintro ⟨HD, HsR, HrsR, HR⟩
  iapply (runs_gones W K false 1 0 0 1 rfl rfl (by decide) c (by decide) (frees 0 :: frees 2 :: owe2) (by decide) _)
  isplitr; · iexact HE
  isplitl [HD]; · iexact HD
  isplitl [HsL]; · iexact HsL
  isplitl [HcL]; · iexact HcL
  isplitl [HL]; · iexact HL
  iintro ⟨HD, HsL, HrsL, HL⟩
  iapply (runs_give W K 0 true 1 rfl rfl c _ _)
  isplitr; · iexact HE
  isplitl [HD]; · iexact HD
  isplitl [Hg0]; · iexact Hg0
  isplitl [HR]; · iapply (held_free W c true 1 _); iexact HR
  isplitl [HrR]; · iexact HrR
  iintro HD
  iapply (runs_give W K 2 false 1 rfl rfl c _ _)
  isplitr; · iexact HE
  isplitl [HD]; · iexact HD
  isplitl [Hg2]; · iexact Hg2
  isplitl [HL]; · iapply (held_free W c false 1 _); iexact HL
  isplitl [HrL]; · iexact HrL
  iintro HD
  iapply Hk
  isplitl [HD]; · iexact HD
  isplitl [Hb10]; · iexact Hb10
  isplitl [Hb11]; · iexact Hb11
  isplitl [Hb00]; · iexact Hb00
  isplitl [Hb01]; · iexact Hb01
  isplitl [HaR]; · iexact HaR
  isplitl [HaL]; · iexact HaL
  isplitl [HsR]; · iexact HsR
  isplitl [HsL]; · iexact HsL
  isplitl [HrsR]; · iexact HrsR
  iexact Hdesk

/-- The second groups: the slots they go on to have been given back by the neighbours. -/
theorem runs_step2 (out : Memref sig .tc .vmem S2x512x768 .f32) (x : S2x512x768.Idx → F .bf16) (o : S2x512x768.Idx → F .f32) (Q : PUnit → sProp (World F)) :
    iprop(Env W K ∗ Due c owe2
      ∗ Idle qs c X X' 1 0
      ∗ Idle qs c X X' 1 1
      ∗ Busy qs c X X' (inBefore c 1) 0 0
      ∗ Busy qs c X X' (inAfter c 0) 0 1
      ∗ Turn c true true 0 0
      ∗ Turn c true false 0 0
      ∗ Creds c true true 0 4
      ∗ Creds c true false 0 4
      ∗ atPos ER (cell c (.inr (0 : Fin 3).succ)) 0 ∅ 0
      ∗ atPos ER (cell c (.inr (2 : Fin 3).succ)) 0 ∅ 0
      ∗ cred (tallyAt (cell c (.inr (0 : Fin 3).succ)) 3 1)
      ∗ cred (tallyAt (cell c (.inr (2 : Fin 3).succ)) 3 1)
      ∗ Toks c true 1 1
      ∗ Toks c false 1 1
      ∗ Turn c false true 1 1
      ∗ Turn c false false 1 1
      ∗ Reach c false true 1 1
      ∗ Reach c false false 1 1
      ∗ dutyTok ER (cell (comes true c) (.inr (1 : Fin 3).succ)) 0 false
      ∗ Desk c out x o
      ∗ ((Due c owe3
        ∗ Idle qs c X X' 0 0
        ∗ Idle qs c X X' 0 1
        ∗ Busy qs c X X' (inBefore c 2) 1 0
        ∗ Busy qs c X X' (inAfter c 1) 1 1
        ∗ Turn c true true 0 1
        ∗ Turn c true false 0 1
        ∗ Turn c false true 1 2
        ∗ Turn c false false 1 2
        ∗ atPos ER (cell c (.inr (0 : Fin 3).succ)) 1 ∅ 0
        ∗ atPos ER (cell c (.inr (2 : Fin 3).succ)) 1 ∅ 0
        ∗ slotsFree c false 0
        ∗ Desk c out x (adds W c X X' false (inAfter c 0) x (org false 2 c) (adds W c X X' false (inBefore c 1) x (org true 2 c) o))) -∗ Q ⟨⟩))
      ⊢ runs c (step2 out c) Q := by
  unfold step2
  simp only [runs_bind]
  iintro ⟨#HE, HD, Hi10, Hi11, Hb00, Hb01, HaR, HaL, HcR, HcL, Hp1, Hp3, Hk1, Hk3, HtR, HtL, HsR, HsL, HrsR, HrsL, Hg1, Hdesk, Hk⟩
  iapply (runs_fetch qs c X X' (inBefore c 2) 1 0 _)
  isplitl [Hi10]; · iexact Hi10
  iintro Hb10
  iapply (runs_fetch qs c X X' (inAfter c 1) 1 1 _)
  isplitl [Hi11]; · iexact Hi11
  iintro Hb11
  iapply (runs_came W K true 0 0 4 2 rfl c (by decide) (by decide) owe2 (by decide) _)
  isplitr; · iexact HE
  isplitl [HD]; · iexact HD
  isplitl [HaR]; · iexact HaR
  isplitl [HcR]; · iexact HcR
  iintro ⟨HD, HaR, HrR, HR⟩
  iapply (runs_take W K 0 true 1 rfl rfl 3 (by decide) c owe2 (by decide) _)
  isplitr; · iexact HE
  isplitl [HD]; · iexact HD
  isplitl [Hp1]; · iexact Hp1
  isplitl [Hk1]; · iexact Hk1
  iintro ⟨HD, Hp1, HfR, HrfR⟩
  iapply (runs_fwds W K true 0 1 1 2 rfl rfl (by decide) c (by decide) _ _)
  isplitr; · iexact HE
  isplitl [HD]; · iexact HD
  isplitl [HR]; · iexact HR
  isplitl [HfR]; · iexact HfR
  isplitl [HtR]; · iexact HtR
  isplitl [HrsR]; · iexact HrsR
  isplitl [HrfR]; · iexact HrfR
  iintro ⟨HD, HcR, HR⟩
  iapply (runs_came W K false 0 0 4 2 rfl c (by decide) (by decide) (hands false false 1 1 :: hands true false 1 1 :: frees 1 :: owe3) (by decide) _)
  isplitr; · iexact HE
  isplitl [HD]; · iexact HD
  isplitl [HaL]; · iexact HaL
  isplitl [HcL]; · iexact HcL
  iintro ⟨HD, HaL, HrL, HL⟩
  iapply (runs_take W K 2 false 1 rfl rfl 3 (by decide) c (hands false false 1 1 :: hands true false 1 1 :: frees 1 :: owe3) (by decide) _)
  isplitr; · iexact HE
  isplitl [HD]; · iexact HD
  isplitl [Hp3]; · iexact Hp3
  isplitl [Hk3]; · iexact Hk3
  iintro ⟨HD, Hp3, HfL, HrfL⟩
  iapply (runs_fwds W K false 0 1 1 2 rfl rfl (by decide) c (by decide) _ _)
  isplitr; · iexact HE
  isplitl [HD]; · iexact HD
  isplitl [HL]; · iexact HL
  isplitl [HfL]; · iexact HfL
  isplitl [HtL]; · iexact HtL
  isplitl [HrsL]; · iexact HrsL
  isplitl [HrfL]; · iexact HrfL
  iintro ⟨HD, HcL, HL⟩
  iapply (runs_work W K qs c X X' true 0 fullShare.right (org true 2 c) out (inBefore c 1) 0 x _ (frees 1 :: owe3) (by decide) _)
  isplitr; · iexact HE
  isplitl [HD]; · iexact HD
  isplitl [Hb00]; · iexact Hb00
  isplitl [Hdesk]; · iexact Hdesk
  isplitl [HR]; · iexact HR
  iintro ⟨HD, Hb00, Hdesk, HR⟩
  iapply (runs_work W K qs c X X' false 0 fullShare.right (org false 2 c) out (inAfter c 0) 1 x _ (frees 1 :: owe3) (by decide) _)
  isplitr; · iexact HE
  isplitl [HD]; · iexact HD
  isplitl [Hb01]; · iexact Hb01
  isplitl [Hdesk]; · iexact Hdesk
  isplitl [HL]; · iexact HL
  iintro ⟨HD, Hb01, Hdesk, HL⟩
  iapply (runs_gones W K true 0 1 1 2 rfl rfl (by decide) c (by decide) (frees 1 :: owe3) (by decide) _)
  isplitr; · iexact HE
  isplitl [HD]; · iexact HD
  isplitl [HsR]; · iexact HsR
  isplitl [HcR]; · iexact HcR
  isplitl [HR]; · iexact HR
  iintro ⟨HD, HsR, HrsR, HR⟩
  iapply (runs_gones W K false 0 1 1 2 rfl rfl (by decide) c (by decide) (frees 1 :: owe3) (by decide) _)
  isplitr; · iexact HE
  isplitl [HD]; · iexact HD
  isplitl [HsL]; · iexact HsL
  isplitl [HcL]; · iexact HcL
  isplitl [HL]; · iexact HL
  iintro ⟨HD, HsL, HrsL, HL⟩
  iapply (runs_give W K 1 true 0 rfl rfl c _ _)
  isplitr; · iexact HE
  isplitl [HD]; · iexact HD
  isplitl [Hg1]; · iexact Hg1
  isplitl [HR]; · iapply (held_free W c true 0 _); iexact HR
  isplitl [HrR]; · iexact HrR
  iintro HD
  ihave HL := (held_free W c false 0 _) $$ HL
  iapply Hk
  isplitl [HD]; · iexact HD
  isplitl [Hb00]; · iexact Hb00
  isplitl [Hb01]; · iexact Hb01
  isplitl [Hb10]; · iexact Hb10
  isplitl [Hb11]; · iexact Hb11
  isplitl [HaR]; · iexact HaR
  isplitl [HaL]; · iexact HaL
  isplitl [HsR]; · iexact HsR
  isplitl [HsL]; · iexact HsL
  isplitl [Hp1]; · iexact Hp1
  isplitl [Hp3]; · iexact Hp3
  isplitl [HL]; · iexact HL
  iexact Hdesk

/-- The last groups. -/
theorem runs_step3 (out : Memref sig .tc .vmem S2x512x768 .f32) (x : S2x512x768.Idx → F .bf16) (o : S2x512x768.Idx → F .f32) (Q : PUnit → sProp (World F)) :
    iprop(Env W K ∗ Due c owe3
      ∗ Idle qs c X X' 0 0
      ∗ Busy qs c X X' (inBefore c 2) 1 0
      ∗ Busy qs c X X' (inAfter c 1) 1 1
      ∗ Turn c true true 1 1
      ∗ Turn c true false 1 1
      ∗ Creds c true true 1 6
      ∗ Creds c true false 1 6
      ∗ atPos ER (cell c (.inr (1 : Fin 3).succ)) 0 ∅ 0
      ∗ cred (tallyAt (cell c (.inr (1 : Fin 3).succ)) 5 1)
      ∗ Toks c true 0 1
      ∗ Turn c false true 0 1
      ∗ Reach c false true 0 1
      ∗ Turn c true true 0 1
      ∗ Creds c true true 0 8
      ∗ Desk c out x o
      ∗ ((Due c []
        ∗ Idle qs c X X' 0 0
        ∗ Idle qs c X X' 1 0
        ∗ Idle qs c X X' 1 1
        ∗ Turn c true true 1 2
        ∗ Turn c true false 1 2
        ∗ Turn c false true 0 2
        ∗ Turn c true true 0 2
        ∗ atPos ER (cell c (.inr (1 : Fin 3).succ)) 1 ∅ 0
        ∗ slotsFree c true 1
        ∗ slotsFree c false 1
        ∗ slotsFree c true 0
        ∗ Desk c out x (adds W c X X' false (inBefore c 3) x (org true 4 c) (adds W c X X' false (inAfter c 1) x (org false 3 c) (adds W c X X' false (inBefore c 2) x (org true 3 c) o)))) -∗ Q ⟨⟩))
      ⊢ runs c (step3 out c) Q := by
  unfold step3
  simp only [runs_bind]
  iintro ⟨#HE, HD, Hi00, Hb10, Hb11, HaR, HaL, HcR, HcL, Hp2, Hk2, HtR, HsR, HrsR, Ha0, Hc0, Hdesk, Hk⟩
  iapply (runs_fetch qs c X X' (inBefore c 3) 0 0 _)
  isplitl [Hi00]; · iexact Hi00
  iintro Hb00
  iapply (runs_came W K true 1 1 6 3 rfl c (by decide) (by decide) owe3 (by decide) _)
  isplitr; · iexact HE
  isplitl [HD]; · iexact HD
  isplitl [HaR]; · iexact HaR
  isplitl [HcR]; · iexact HcR
  iintro ⟨HD, HaR, HrR, HR⟩
  iapply (runs_take W K 1 true 0 rfl rfl 5 (by decide) c owe3 (by decide) _)
  isplitr; · iexact HE
  isplitl [HD]; · iexact HD
  isplitl [Hp2]; · iexact Hp2
  isplitl [Hk2]; · iexact Hk2
  iintro ⟨HD, Hp2, HfR, HrfR⟩
  iapply (runs_fwds W K true 1 0 1 3 rfl rfl (by decide) c (by decide) _ _)
  isplitr; · iexact HE
  isplitl [HD]; · iexact HD
  isplitl [HR]; · iexact HR
  isplitl [HfR]; · iexact HfR
  isplitl [HtR]; · iexact HtR
  isplitl [HrsR]; · iexact HrsR
  isplitl [HrfR]; · iexact HrfR
  iintro ⟨HD, HcfR, HR⟩
  iapply (runs_came W K false 1 1 6 3 rfl c (by decide) (by decide) [] (by decide) _)
  isplitr; · iexact HE
  isplitl [HD]; · iexact HD
  isplitl [HaL]; · iexact HaL
  isplitl [HcL]; · iexact HcL
  iintro ⟨HD, HaL, HrL, HL⟩
  iapply (runs_work W K qs c X X' true 1 fullShare.right (org true 3 c) out (inBefore c 2) 0 x _ [] (by decide) _)
  isplitr; · iexact HE
  isplitl [HD]; · iexact HD
  isplitl [Hb10]; · iexact Hb10
  isplitl [Hdesk]; · iexact Hdesk
  isplitl [HR]; · iexact HR
  iintro ⟨HD, Hb10, Hdesk, HR⟩
  iapply (runs_work W K qs c X X' false 1 fullShare (org false 3 c) out (inAfter c 1) 1 x _ [] (by decide) _)
  isplitr; · iexact HE
  isplitl [HD]; · iexact HD
  isplitl [Hb11]; · iexact Hb11
  isplitl [Hdesk]; · iexact Hdesk
  isplitl [HL]; · iexact HL
  iintro ⟨HD, Hb11, Hdesk, HL⟩
  iapply (runs_gones W K true 1 0 1 3 rfl rfl (by decide) c (by decide) [] (by decide) _)
  isplitr; · iexact HE
  isplitl [HD]; · iexact HD
  isplitl [HsR]; · iexact HsR
  isplitl [HcfR]; · iexact HcfR
  isplitl [HR]; · iexact HR
  iintro ⟨HD, HsR, HrsR, HR⟩
  iapply (runs_came W K true 0 1 8 4 rfl c (by decide) (by decide) [] (by decide) _)
  isplitr; · iexact HE
  isplitl [HD]; · iexact HD
  isplitl [Ha0]; · iexact Ha0
  isplitl [Hc0]; · iexact Hc0
  iintro ⟨HD, Ha0, Hr0, H0⟩
  iapply (runs_work W K qs c X X' true 0 fullShare (org true 4 c) out (inBefore c 3) 0 x _ [] (by decide) _)
  isplitr; · iexact HE
  isplitl [HD]; · iexact HD
  isplitl [Hb00]; · iexact Hb00
  isplitl [Hdesk]; · iexact Hdesk
  isplitl [H0]; · iexact H0
  iintro ⟨HD, Hb00, Hdesk, H0⟩
  ihave HR := (held_free W c true 1 _) $$ HR
  ihave HL := (held_free W c false 1 _) $$ HL
  ihave H0 := (held_free W c true 0 _) $$ H0
  iapply Hk
  isplitl [HD]; · iexact HD
  isplitl [Hb00]; · iexact Hb00
  isplitl [Hb10]; · iexact Hb10
  isplitl [Hb11]; · iexact Hb11
  isplitl [HaR]; · iexact HaR
  isplitl [HaL]; · iexact HaL
  isplitl [HsR]; · iexact HsR
  isplitl [Ha0]; · iexact Ha0
  isplitl [Hp2]; · iexact Hp2
  isplitl [HR]; · iexact HR
  isplitl [HL]; · iexact HL
  isplitl [H0]; · iexact H0
  iexact Hdesk

end KVs

end Cert.Proof.Ring
-- ==== Proof.Whole.lean ====
/- The kernel's body on one device, from beginning to end. -/
module

public import proofs.«01_k».proof.Proof.Body

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

variable (W : Weights F) (K : Names) (qs : Fin 2 → Fin 2 → PosShare TreeShare)

/-- The own weights whole, and their three parts: lent to the right, lent to the left, kept. -/
theorem own_parts (c : Dev nD) :
    OwnHeld W c fullShare ⊣⊢ iprop(OwnHeld W c (lent true) ∗ OwnHeld W c (lent false) ∗ OwnHeld W c kept) := by
  constructor
  · iintro H
    ihave H := (own_halves W c fullShare).1 $$ H
    icases H with ⟨H1, H2⟩
    ihave H2 := (own_halves W c fullShare.right).1 $$ H2
    isplitl [H1]; · iexact H1
    iexact H2
  · iintro ⟨H1, H2⟩
    ihave H2 := (show iprop(OwnHeld W c (lent false) ∗ OwnHeld W c kept) ⊢ OwnHeld W c fullShare.right from (own_halves W c fullShare.right).2) $$ H2
    ihave H1 := (show OwnHeld W c (lent true) ⊢ OwnHeld W c fullShare.left from Entails.of_eq rfl) $$ H1
    iapply (own_halves W c fullShare).2
    isplitl [H1]; · iexact H1
    iexact H2

/-- The three blocks given to the kernel. -/
def Given (c : Dev nD) (mx : Memref sig .tc .vmem S2x512x768 .f32) (mq : Memref sig .tc .vmem S768x512 .f32) (mo : Memref sig .tc .vmem S512x768 .f32)
    (x : S2x512x768.Idx → F .f32) (q : S768x512.Idx → F .f32) (o : S512x768.Idx → F .f32) : sProp (World F) :=
  iprop(own (e := .f32) c mx fullShare x ∗ own (e := .f32) c mq fullShare q ∗ own (e := .f32) c mo fullShare o)

/-- The neighbours met, the inputs rounded. -/
theorem runs_opening (c : Dev nD) (mx : Memref sig .tc .vmem S2x512x768 .f32) (mq : Memref sig .tc .vmem S768x512 .f32) (mo : Memref sig .tc .vmem S512x768 .f32)
    (x : S2x512x768.Idx → F .f32) (q : S768x512.Idx → F .f32) (o : S512x768.Idx → F .f32) (hq : W.q c = rounded q) (ho : W.o c = rounded o)
    (Q : PUnit → sProp (World F)) :
    iprop(Env W K ∗ Due c dues
      ∗ dutyTok ER (cell (comes true c) (.inr 0)) 0 true
      ∗ dutyTok ER (cell (comes false c) (.inr 0)) 0 false
      ∗ slotsFree c true 0
      ∗ slotsFree c true 1
      ∗ slotsFree c false 0
      ∗ slotsFree c false 1
      ∗ atPos ER (cell c (.inr 0)) 0 ∅ 0
      ∗ cred (tallyAt (cell c (.inr 0)) 1 2)
      ∗ Given c mx mq mo x q o
      ∗ (∃ y : S768x512.Idx → F .bf16, own (e := .bf16) c wqOwn fullShare y)
      ∗ (∃ y : S512x768.Idx → F .bf16, own (e := .bf16) c woOwn fullShare y)
      ∗ (∃ y : S2x512x768.Idx → F .bf16, own (e := .bf16) c xBf fullShare y)
      ∗ ((Due c owe0
        ∗ atPos ER (cell c (.inr 0)) 1 ∅ 0
        ∗ slotsFree (goes true c) true 0
        ∗ slotsFree (goes true c) true 1
        ∗ slotsFree (goes false c) false 0
        ∗ slotsFree (goes false c) false 1
        ∗ Given c mx mq mo x q o
        ∗ OwnHeld W c (lent true)
        ∗ OwnHeld W c (lent false)
        ∗ OwnHeld W c kept
        ∗ own (e := .bf16) c xBf fullShare (rounded x)) -∗ Q ⟨⟩))
      ⊢ runs c (opening mx mq mo c) Q := by
  unfold opening Given
  simp only [runs_bind]
  iintro ⟨#HE, HD, Ht1, Ht0, Hs10, Hs11, Hs00, Hs01, Ha, Hc, ⟨Hmx, Hmq, Hmo⟩, Hq, Ho, Hx, Hk⟩
  iapply (runs_greet W K true c _ _)
  isplitr; · iexact HE
  isplitl [HD]; · iexact HD
  isplitl [Ht1]; · iexact Ht1
  isplitl [Hs10]; · iexact Hs10
  isplitl [Hs11]; · iexact Hs11
  iintro HD
  iapply (runs_greet W K false c _ _)
  isplitr; · iexact HE
  isplitl [HD]; · iexact HD
  isplitl [Ht0]; · iexact Ht0
  isplitl [Hs00]; · iexact Hs00
  isplitl [Hs01]; · iexact Hs01
  iintro HD
  iapply (runs_meet W K c owe0 (by decide) _)
  isplitr; · iexact HE
  isplitl [HD]; · iexact HD
  isplitl [Ha]; · iexact Ha
  isplitl [Hc]; · iexact Hc
  iintro ⟨HD, Ha, HL, HR⟩
  ihave HL := (Entails.of_eq (show kindPay W c (.inr 0) 0 false = iprop(slotsFree (goes false c) false 0 ∗ slotsFree (goes false c) false 1) from rfl)) $$ HL
  ihave HR := (Entails.of_eq (show kindPay W c (.inr 0) 0 true = iprop(slotsFree (goes true c) true 0 ∗ slotsFree (goes true c) true 1) from rfl)) $$ HR
  icases HL with ⟨HL0, HL1⟩
  icases HR with ⟨HR0, HR1⟩
  iapply (runs_roundW c mq fullShare q _)
  isplitl [Hmq]; · iexact Hmq
  isplitl [Hq]; · iexact Hq
  iintro ⟨Hmq, Hq⟩
  iapply (runs_roundO c mo fullShare o _)
  isplitl [Hmo]; · iexact Hmo
  isplitl [Ho]; · iexact Ho
  iintro ⟨Hmo, Ho⟩
  iapply (runs_roundX c mx fullShare x _)
  isplitl [Hmx]; · iexact Hmx
  isplitl [Hx]; · iexact Hx
  iintro ⟨Hmx, Hx⟩
  ihave HO := (show iprop(own (e := .bf16) c wqOwn fullShare (rounded q) ∗ own (e := .bf16) c woOwn fullShare (rounded o)) ⊢ OwnHeld W c fullShare from by
    unfold OwnHeld ownHeld
    rw [hq, ho]) $$ [Hq Ho]
  · isplitl [Hq]; · iexact Hq
    iexact Ho
  ihave HO := (own_parts W c).1 $$ HO
  icases HO with ⟨HO1, HO2, HO3⟩
  iapply Hk
  isplitl [HD]; · iexact HD
  isplitl [Ha]; · iexact Ha
  isplitl [HR0]; · iexact HR0
  isplitl [HR1]; · iexact HR1
  isplitl [HL0]; · iexact HL0
  isplitl [HL1]; · iexact HL1
  isplitl [Hmx Hmq Hmo]
  · isplitl [Hmx]; · iexact Hmx
    isplitl [Hmq]; · iexact Hmq
    iexact Hmo
  isplitl [HO1]; · iexact HO1
  isplitl [HO2]; · iexact HO2
  isplitl [HO3]; · iexact HO3
  iexact Hx

section Whole
variable (c : Dev nD) (X : Buf (Elt F) (kHbm.view.loc (c : Thread nD τ))) (X' : Buf (Elt F) (vHbm.view.loc (c : Thread nD τ)))

/-- The output: the own group's part, then the others' in the order they are worked on. -/
def total (x : S2x512x768.Idx → F .bf16) (o : S2x512x768.Idx → F .f32) : S2x512x768.Idx → F .f32 :=
  adds W c X X' false (inBefore c 3) x (org true 4 c)
    (adds W c X X' false (inAfter c 1) x (org false 3 c)
      (adds W c X X' false (inBefore c 2) x (org true 3 c)
        (adds W c X X' false (inAfter c 0) x (org false 2 c)
          (adds W c X X' false (inBefore c 1) x (org true 2 c)
            (adds W c X X' false (inNext c) x (org false 1 c)
              (adds W c X X' false (inBefore c 0) x (org true 1 c)
                (adds W c X X' true (inOwn c) x c o)))))))

theorem total_any (x : S2x512x768.Idx → F .bf16) (o o' : S2x512x768.Idx → F .f32) : total W c X X' x o = total W c X X' x o' := rfl

/-- A device's positions at its semaphores when it starts, and when it is done. -/
def Positions : sProp (World F) :=
  iprop(Turn c true true 0 0
    ∗ Turn c true true 1 0
    ∗ Turn c true false 0 0
    ∗ Turn c true false 1 0
    ∗ Turn c false true 0 0
    ∗ Turn c false true 1 0
    ∗ Turn c false false 0 0
    ∗ Turn c false false 1 0
    ∗ atPos ER (cell c (.inr 0)) 0 ∅ 0
    ∗ atPos ER (cell c (.inr (0 : Fin 3).succ)) 0 ∅ 0
    ∗ atPos ER (cell c (.inr (1 : Fin 3).succ)) 0 ∅ 0
    ∗ atPos ER (cell c (.inr (2 : Fin 3).succ)) 0 ∅ 0)
def Finals : sProp (World F) :=
  iprop(Turn c true true 0 2
    ∗ Turn c true true 1 2
    ∗ Turn c true false 0 1
    ∗ Turn c true false 1 2
    ∗ Turn c false true 0 2
    ∗ Turn c false true 1 2
    ∗ Turn c false false 0 1
    ∗ Turn c false false 1 2
    ∗ atPos ER (cell c (.inr 0)) 1 ∅ 0
    ∗ atPos ER (cell c (.inr (0 : Fin 3).succ)) 1 ∅ 0
    ∗ atPos ER (cell c (.inr (1 : Fin 3).succ)) 1 ∅ 0
    ∗ atPos ER (cell c (.inr (2 : Fin 3).succ)) 1 ∅ 0)

/-- What others owe it. -/
def Owed : sProp (World F) :=
  iprop(cred (tallyAt (cell c (.inr 0)) 1 2)
    ∗ Creds c true true 1 2
    ∗ Creds c true false 1 2
    ∗ Creds c true true 0 4
    ∗ Creds c true false 0 4
    ∗ Creds c true true 1 6
    ∗ Creds c true false 1 6
    ∗ Creds c true true 0 8
    ∗ cred (tallyAt (cell c (.inr (0 : Fin 3).succ)) 3 1)
    ∗ cred (tallyAt (cell c (.inr (1 : Fin 3).succ)) 5 1)
    ∗ cred (tallyAt (cell c (.inr (2 : Fin 3).succ)) 3 1))

/-- Its right to pay. -/
def Rights : sProp (World F) :=
  iprop(dutyTok ER (cell (comes true c) (.inr 0)) 0 true
    ∗ dutyTok ER (cell (comes false c) (.inr 0)) 0 false
    ∗ Toks c true 1 0
    ∗ Toks c false 1 0
    ∗ Toks c true 0 0
    ∗ Toks c false 0 0
    ∗ Toks c true 1 1
    ∗ Toks c false 1 1
    ∗ Toks c true 0 1
    ∗ dutyTok ER (cell (comes true c) (.inr (0 : Fin 3).succ)) 0 false
    ∗ dutyTok ER (cell (comes true c) (.inr (1 : Fin 3).succ)) 0 false
    ∗ dutyTok ER (cell (comes false c) (.inr (2 : Fin 3).succ)) 0 false)

/-- Its slots. -/
def Slots : sProp (World F) := iprop(slotsFree c true 0 ∗ slotsFree c true 1 ∗ slotsFree c false 0 ∗ slotsFree c false 1)
/-- The places of the keys and values. -/
def Places : sProp (World F) := iprop(Idle qs c X X' 0 0 ∗ Idle qs c X X' 0 1 ∗ Idle qs c X X' 1 0 ∗ Idle qs c X X' 1 1)
/-- The other scratch memory. -/
def Scratch : sProp (World F) :=
  iprop((∃ y : S768x512.Idx → F .bf16, own (e := .bf16) c wqOwn fullShare y) ∗ (∃ y : S512x768.Idx → F .bf16, own (e := .bf16) c woOwn fullShare y)
    ∗ (∃ y : S2x512x768.Idx → F .bf16, own (e := .bf16) c xBf fullShare y) ∗ (∃ q : Heads F, own c qScr fullShare q) ∗ (∃ a : Heads F, own c ctxScr fullShare a))

set_option maxHeartbeats 2000000 in
theorem runs_whole (mx : Memref sig .tc .vmem S2x512x768 .f32) (mq : Memref sig .tc .vmem S768x512 .f32) (mo : Memref sig .tc .vmem S512x768 .f32)
    (out : Memref sig .tc .vmem S2x512x768 .f32) (x : S2x512x768.Idx → F .f32) (q : S768x512.Idx → F .f32) (o : S512x768.Idx → F .f32)
    (hq : W.q c = rounded q) (ho : W.o c = rounded o) (z : S2x512x768.Idx → F .f32) (Q : PUnit → sProp (World F)) :
    iprop(Env W K ∗ Due c dues ∗ Rights c ∗ Positions c ∗ Owed c ∗ Slots c ∗ Places qs c X X' ∗ Scratch c ∗ Given c mx mq mo x q o
      ∗ own (e := .f32) c out fullShare z
      ∗ ((Due c [] ∗ Finals c ∗ Slots c ∗ Places qs c X X' ∗ Scratch c ∗ Given c mx mq mo x q o
        ∗ own (e := .f32) c out fullShare (total W c X X' (rounded x) z)) -∗ Q ⟨⟩))
      ⊢ runs c (pieces mx mq mo out) Q := by
  refine BIBase.Entails.trans ?_ (runs_pieces mx mq mo out c Q)
  unfold Rights Positions Finals Owed Slots Places Scratch
  iintro ⟨#HE, HD, ⟨T1, T0, Tr10, Tl10, Tr00, Tl00, Tr11, Tl11, Tr01, G0, G1, G2⟩, ⟨Att0, Att1, Atf0, Atf1, Aft0, Aft1, Aff0, Aff1, P0, P1, P2, P3⟩, ⟨C0, Cr10, Cl10, Cr00, Cl00, Cr11, Cl11, Cr01, F0, F1, F2⟩,
    ⟨S10, S11, S00, S01⟩, ⟨I00, I01, I10, I11⟩, ⟨Y0, Y1, Y2, Hq, Ha⟩, HG, Hz, Hk⟩
  iapply (runs_opening W K c mx mq mo x q o hq ho _)
  isplitr; · iexact HE
  isplitl [HD]; · iexact HD
  isplitl [T1]; · iexact T1
  isplitl [T0]; · iexact T0
  isplitl [S10]; · iexact S10
  isplitl [S11]; · iexact S11
  isplitl [S00]; · iexact S00
  isplitl [S01]; · iexact S01
  isplitl [P0]; · iexact P0
  isplitl [C0]; · iexact C0
  isplitl [HG]; · iexact HG
  isplitl [Y0]; · iexact Y0
  isplitl [Y1]; · iexact Y1
  isplitl [Y2]; · iexact Y2
  iintro ⟨HD, P0, R0, R1, L0, L1, HG, O1, O2, O3, Hx⟩
  ihave Hdesk := (show iprop(own (e := .bf16) c xBf fullShare (rounded x) ∗ (∃ q : Heads F, own c qScr fullShare q) ∗ (∃ a : Heads F, own c ctxScr fullShare a)
    ∗ own (e := .f32) c out fullShare z) ⊢ Desk c out (rounded x) z from Entails.of_eq rfl) $$ [Hx Hq Ha Hz]
  · isplitl [Hx]; · iexact Hx
    isplitl [Hq]; · iexact Hq
    isplitl [Ha]; · iexact Ha
    iexact Hz
  iapply (runs_step0 W K qs c X X' out (rounded x) _ _)
  isplitr; · iexact HE
  isplitl [HD]; · iexact HD
  isplitl [O1]; · iexact O1
  isplitl [O2]; · iexact O2
  isplitl [O3]; · iexact O3
  isplitl [R1]; · iexact R1
  isplitl [L1]; · iexact L1
  isplitl [Tr10]; · iexact Tr10
  isplitl [Tl10]; · iexact Tl10
  isplitl [Aft1]; · iexact Aft1
  isplitl [Aff1]; · iexact Aff1
  isplitl [I00]; · iexact I00
  isplitl [I10]; · iexact I10
  isplitl [I11]; · iexact I11
  isplitl [Hdesk]; · iexact Hdesk
  iintro ⟨HD, O1, O2, O3, Aft1, Aff1, E1, E2, I00, I10, I11, Hdesk⟩
  iapply (runs_step1 W K qs c X X' out (rounded x) _ _)
  isplitr; · iexact HE
  isplitl [HD]; · iexact HD
  isplitl [I00]; · iexact I00
  isplitl [I01]; · iexact I01
  isplitl [I10]; · iexact I10
  isplitl [I11]; · iexact I11
  isplitl [Att1]; · iexact Att1
  isplitl [Atf1]; · iexact Atf1
  isplitl [Cr10]; · iexact Cr10
  isplitl [Cl10]; · iexact Cl10
  isplitl [R0]; · iexact R0
  isplitl [L0]; · iexact L0
  isplitl [Tr00]; · iexact Tr00
  isplitl [Tl00]; · iexact Tl00
  isplitl [Aft0]; · iexact Aft0
  isplitl [Aff0]; · iexact Aff0
  isplitl [G0]; · iexact G0
  isplitl [G2]; · iexact G2
  isplitl [Hdesk]; · iexact Hdesk
  iintro ⟨HD, I10, I11, I00, I01, Att1, Atf1, Aft0, Aff0, E3, Hdesk⟩
  iapply (runs_step2 W K qs c X X' out (rounded x) _ _)
  isplitr; · iexact HE
  isplitl [HD]; · iexact HD
  isplitl [I10]; · iexact I10
  isplitl [I11]; · iexact I11
  isplitl [I00]; · iexact I00
  isplitl [I01]; · iexact I01
  isplitl [Att0]; · iexact Att0
  isplitl [Atf0]; · iexact Atf0
  isplitl [Cr00]; · iexact Cr00
  isplitl [Cl00]; · iexact Cl00
  isplitl [P1]; · iexact P1
  isplitl [P3]; · iexact P3
  isplitl [F0]; · iexact F0
  isplitl [F2]; · iexact F2
  isplitl [Tr11]; · iexact Tr11
  isplitl [Tl11]; · iexact Tl11
  isplitl [Aft1]; · iexact Aft1
  isplitl [Aff1]; · iexact Aff1
  isplitl [E1]; · iexact E1
  isplitl [E2]; · iexact E2
  isplitl [G1]; · iexact G1
  isplitl [Hdesk]; · iexact Hdesk
  iintro ⟨HD, I00, I01, I10, I11, Att0, Atf0, Aft1, Aff1, P1, P3, S00, Hdesk⟩
  iapply (runs_step3 W K qs c X X' out (rounded x) _ _)
  isplitr; · iexact HE
  isplitl [HD]; · iexact HD
  isplitl [I00]; · iexact I00
  isplitl [I10]; · iexact I10
  isplitl [I11]; · iexact I11
  isplitl [Att1]; · iexact Att1
  isplitl [Atf1]; · iexact Atf1
  isplitl [Cr11]; · iexact Cr11
  isplitl [Cl11]; · iexact Cl11
  isplitl [P2]; · iexact P2
  isplitl [F1]; · iexact F1
  isplitl [Tr01]; · iexact Tr01
  isplitl [Aft0]; · iexact Aft0
  isplitl [E3]; · iexact E3
  isplitl [Att0]; · iexact Att0
  isplitl [Cr01]; · iexact Cr01
  isplitl [Hdesk]; · iexact Hdesk
  iintro ⟨HD, I00, I10, I11, Att1, Atf1, Aft0, Att0, P2, S11, S01, S10, Hdesk⟩
  ihave HO := (own_parts W c).2 $$ [O1 O2 O3]
  · isplitl [O1]; · iexact O1
    isplitl [O2]; · iexact O2
    iexact O3
  unfold OwnHeld ownHeld Desk
  icases HO with ⟨Y0, Y1⟩
  icases Hdesk with ⟨Y2, Hq, Ha, Hz⟩
  iapply Hk
  isplitl [HD]; · iexact HD
  isplitl [Att0 Att1 Atf0 Atf1 Aft0 Aft1 Aff0 Aff1 P0 P1 P2 P3]
  · isplitl [Att0]; · iexact Att0
    isplitl [Att1]; · iexact Att1
    isplitl [Atf0]; · iexact Atf0
    isplitl [Atf1]; · iexact Atf1
    isplitl [Aft0]; · iexact Aft0
    isplitl [Aft1]; · iexact Aft1
    isplitl [Aff0]; · iexact Aff0
    isplitl [Aff1]; · iexact Aff1
    isplitl [P0]; · iexact P0
    isplitl [P1]; · iexact P1
    isplitl [P2]; · iexact P2
    iexact P3
  isplitl [S10 S11 S00 S01]
  · isplitl [S10]; · iexact S10
    isplitl [S11]; · iexact S11
    isplitl [S00]; · iexact S00
    iexact S01
  isplitl [I00 I01 I10 I11]
  · isplitl [I00]; · iexact I00
    isplitl [I01]; · iexact I01
    isplitl [I10]; · iexact I10
    iexact I11
  isplitl [Y0 Y1 Y2 Hq Ha]
  · isplitl [Y0]; · iexists _; iexact Y0
    isplitl [Y1]; · iexists _; iexact Y1
    isplitl [Y2]; · iexists _; iexact Y2
    isplitl [Hq]; · iexact Hq
    iexact Ha
  isplitl [HG]; · iexact HG
  iexact Hz

end Whole

end Cert.Proof.Ring
-- ==== Proof.Memory.lean ====
/- The scratch memory: whole at the beginning and at the end, in slots and places between. -/
module

public import proofs.«01_k».proof.Proof.Whole

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-- A set of cells with any contents. -/
def anyOn (ℓ : Loc nD τ sig) (S : Finset (Idx ℓ)) : sProp (World F) := iprop(∃ f : Buf (Elt F) ℓ, ℓ ↦[S]{fullShare} f)

/-- A buffer cut into parts, each with any contents. -/
theorem cut {I : Type} [Fintype I] [DecidableEq I] (ℓ : Loc nD τ sig) (T : I → Finset (Idx ℓ)) (key : Idx ℓ → I)
    (h : ∀ t i, i ∈ T t ↔ key i = t) : anyOn (F := F) ℓ Finset.univ ⊢ bigSep Finset.univ fun t => anyOn ℓ (T t) := by
  have hu : Finset.univ.biUnion T = Finset.univ := by
    ext i
    simp only [Finset.mem_biUnion, Finset.mem_univ, _root_.true_and, iff_true]
    exact ⟨key i, (h _ _).mpr rfl⟩
  have hd : ∀ t ∈ (Finset.univ : Finset I), ∀ t' ∈ (Finset.univ : Finset I), t ≠ t' → Disjoint (T t) (T t') := fun t _ t' _ ht =>
    Finset.disjoint_left.mpr fun i hi hi' => ht (((h _ _).mp hi).symm.trans ((h _ _).mp hi'))
  have one (f : Buf (Elt F) ℓ) (t : I) : (ℓ ↦[T t]{fullShare} f : sProp (World F)) ⊢ anyOn ℓ (T t) := by
    unfold anyOn
    iintro H
    iexists f
    iexact H
  unfold anyOn
  iintro ⟨%f, H⟩
  ihave H := (Entails.of_eq ((congrArg (fun S => (ℓ ↦[S]{fullShare} f : sProp (World F))) hu.symm).trans (pointsTo_biUnion Finset.univ T hd))) $$ H
  iapply (show (bigSep Finset.univ fun t => (ℓ ↦[T t]{fullShare} f : sProp (World F))) ⊢ bigSep Finset.univ fun t => iprop(∃ f : Buf (Elt F) ℓ, ℓ ↦[T t]{fullShare} f) from
    bigSep_mono fun t _ => one f t)
  iexact H

/-- The parts put together. -/
theorem paste {I : Type} [Fintype I] [DecidableEq I] [Nonempty I] (ℓ : Loc nD τ sig) (T : I → Finset (Idx ℓ)) (key : Idx ℓ → I)
    (h : ∀ t i, i ∈ T t ↔ key i = t) (f₀ : Buf (Elt F) ℓ) : (bigSep Finset.univ fun t => anyOn (F := F) ℓ (T t)) ⊢ anyOn (F := F) ℓ Finset.univ := by
  haveI : Nonempty (Buf (Elt F) ℓ) := ⟨f₀⟩
  have hu : Finset.univ.biUnion T = Finset.univ := by
    ext i
    simp only [Finset.mem_biUnion, Finset.mem_univ, _root_.true_and, iff_true]
    exact ⟨key i, (h _ _).mpr rfl⟩
  have hd : ∀ t ∈ (Finset.univ : Finset I), ∀ t' ∈ (Finset.univ : Finset I), t ≠ t' → Disjoint (T t) (T t') := fun t _ t' _ ht =>
    Finset.disjoint_left.mpr fun i hi hi' => ht (((h _ _).mp hi).symm.trans ((h _ _).mp hi'))
  unfold anyOn
  iintro H
  ihave H := (BI.bigSep_exists_pi Finset.univ fun (t : I) (f : Buf (Elt F) ℓ) => (ℓ ↦[T t]{fullShare} f : sProp (World F))) $$ H
  icases H with ⟨%fs, H⟩
  ihave H := (pointsTo_biUnion_join Finset.univ T fs f₀ hd) $$ H
  icases H with ⟨%g, -, H⟩
  iexists g
  iapply (Entails.of_eq (congrArg (fun S => (ℓ ↦[S]{fullShare} g : sProp (World F))) hu))
  iexact H

/-- A memref's cells with any contents. -/
theorem any_own {sp : Space} {s : Shape} {e : EltTy} (c : Dev nD) (m : Memref sig .tc sp s e) :
    iprop(∃ X : s.Idx → Elt F e, own c m fullShare X) ⊣⊢ anyOn (F := F) (m.view.loc (c : Thread nD τ)) m.view.set := by
  unfold anyOn own owns
  constructor
  · iintro ⟨%X, %f, -, H⟩
    iexists f
    iexact H
  · iintro ⟨%f, H⟩
    iexists _, f
    isplitr; · (ipureintro; rfl)
    iexact H

/-! ## The slots -/

theorem emb_wq (A : Memref sig .tc .vmem S2x768x512 .bf16) (k : Fin 2) (a : Fin 768) (b : Fin 512) :
    (slotWq A k).view.emb (ix2 a b) = A.view.emb (ix3 k a b) := by
  show A.view.emb ((Rect.unit (s := S2x768x512) ![k.val, 0, 0] S1x768x512.size (inb_wq k)).emb
    (Shape.reshapeEquiv (Facts₀.squeezes_S1x768x512_S768x512).numel_eq (ix2 a b))) = _
  refine congrArg A.view.emb ((congrArg _ (reshapeEquiv_ix2_1ab _ a b)).trans (funext fun x => Fin.ext ?_))
  fin_cases x
  · show k.val + 1 * 0 = k.val; omega
  · show 0 + 1 * a.val = a.val; omega
  · show 0 + 1 * b.val = b.val; omega

theorem emb_wo (A : Memref sig .tc .vmem S2x512x768 .bf16) (k : Fin 2) (a : Fin 512) (b : Fin 768) :
    (slotWo A k).view.emb (ix2 a b) = A.view.emb (ix3 k a b) := by
  show A.view.emb ((Rect.unit (s := S2x512x768) ![k.val, 0, 0] S1x512x768.size (inb_wo k)).emb
    (Shape.reshapeEquiv (Facts₀.squeezes_S1x512x768_S512x768).numel_eq (ix2 a b))) = _
  refine congrArg A.view.emb ((congrArg _ (reshapeEquiv_ix2_1ab _ a b)).trans (funext fun x => Fin.ext ?_))
  fin_cases x
  · show k.val + 1 * 0 = k.val; omega
  · show 0 + 1 * a.val = a.val; omega
  · show 0 + 1 * b.val = b.val; omega

theorem idx2 {a b : ℕ} (j : (⟨2, ![a, b]⟩ : Shape).Idx) : j = ix2 (j 0) (j 1) := by
  funext x; fin_cases x <;> rfl
theorem idx3 {a b c : ℕ} (j : (⟨3, ![a, b, c]⟩ : Shape).Idx) : j = ix3 (j 0) (j 1) (j 2) := by
  funext x; fin_cases x <;> rfl
theorem idx6 {a b c d e f : ℕ} (j : (⟨6, ![a, b, c, d, e, f]⟩ : Shape).Idx) : j = ix6 (j 0) (j 1) (j 2) (j 3) (j 4) (j 5) := by
  funext x; fin_cases x <;> rfl

theorem mem_wq (A : Memref sig .tc .vmem S2x768x512 .bf16) (i : S2x768x512.Idx) (k : Fin 2) :
    A.view.emb i ∈ (slotWq A k).view.set ↔ i 0 = k := by
  constructor
  · intro h
    obtain ⟨j, -, hj⟩ := Finset.mem_map.mp h
    rw [idx2 j] at hj
    have := A.view.emb.injective ((emb_wq A k (j 0) (j 1)).symm.trans hj)
    rw [← this]
  · rintro rfl
    rw [idx3 i]
    exact (emb_wq A (i 0) (i 1) (i 2)) ▸ View.emb_mem_set _ _

theorem mem_wo (A : Memref sig .tc .vmem S2x512x768 .bf16) (i : S2x512x768.Idx) (k : Fin 2) :
    A.view.emb i ∈ (slotWo A k).view.set ↔ i 0 = k := by
  constructor
  · intro h
    obtain ⟨j, -, hj⟩ := Finset.mem_map.mp h
    rw [idx2 j] at hj
    have := A.view.emb.injective ((emb_wo A k (j 0) (j 1)).symm.trans hj)
    rw [← this]
  · rintro rfl
    rw [idx3 i]
    exact (emb_wo A (i 0) (i 1) (i 2)) ▸ View.emb_mem_set _ _

theorem mem_kv (A : Memref sig .tc .vmem S2x2x2x8x512x64 .f32) (i : S2x2x2x8x512x64.Idx) (p d : Fin 2) (h : Fin 8) :
    A.view.emb i ∈ (kvDst A p d h).view.set ↔ (i 0, i 1, i 3) = (p, d, h) := by
  constructor
  · intro h'
    obtain ⟨j, -, hj⟩ := Finset.mem_map.mp h'
    rw [idx3 j] at hj
    have := A.view.emb.injective ((kv_emb p d h (j 0) (j 1) (j 2) A).symm.trans hj)
    rw [← this]
    rfl
  · intro e
    obtain rfl : i 0 = p := congrArg Prod.fst e
    obtain rfl : i 1 = d := congrArg (fun x => x.2.1) e
    obtain rfl : i 3 = h := congrArg (fun x => x.2.2) e
    rw [idx6 i]
    exact (kv_emb (i 0) (i 1) (i 3) (i 2) (i 4) (i 5) A) ▸ View.emb_mem_set _ _

/-- All of a buffer. -/
abbrev anyAll {sp : Space} {s : Shape} {e : EltTy} (c : Dev nD) (m : Memref sig .tc sp s e) : sProp (World F) :=
  anyOn (F := F) (m.view.loc (c : Thread nD τ)) Finset.univ

theorem bigSep_two (Φ : Fin 2 → sProp (World F)) : bigSep Finset.univ Φ = iprop(Φ 0 ∗ Φ 1) :=
  bigSep_univ_eq_bigSepL [0, 1] (by decide) (by decide) Φ
theorem bigSep_four (Φ : Fin 4 → sProp (World F)) : bigSep Finset.univ Φ = iprop(Φ 0 ∗ Φ 1 ∗ Φ 2 ∗ Φ 3) :=
  bigSep_univ_eq_bigSepL [0, 1, 2, 3] (by decide) (by decide) Φ

theorem any_eq {sp : Space} {s : Shape} {e : EltTy} (c : Dev nD) (m : Memref sig .tc sp s e) :
    iprop(∃ X : s.Idx → Elt F e, own c m fullShare X) = anyOn (F := F) (m.view.loc (c : Thread nD τ)) m.view.set :=
  BI.Entails.antisymm (any_own c m).1 (any_own c m).2

theorem slots_wq (c : Dev nD) (dir : Bool) : anyAll (F := F) c (wqA dir) ⊣⊢ iprop(slotFree c false dir 0 ∗ slotFree c false dir 1) := by
  have h : bigSep Finset.univ (fun k : Fin 2 => anyOn (F := F) ((wqA dir).view.loc (c : Thread nD τ)) (slotWq (wqA dir) k).view.set)
      = iprop(slotFree c false dir 0 ∗ slotFree c false dir 1) := by
    rw [bigSep_two]
    exact congrArg₂ _ (any_eq c (slotWq (wqA dir) 0)).symm (any_eq c (slotWq (wqA dir) 1)).symm
  rw [← h]
  cases dir
  · exact ⟨cut _ _ (fun i => i 0) fun k i => mem_wq wqL i k, paste _ _ (fun i => i 0) (fun k i => mem_wq wqL i k) fun _ => FloatOps.ofBits .bf16 0⟩
  · exact ⟨cut _ _ (fun i => i 0) fun k i => mem_wq wqR i k, paste _ _ (fun i => i 0) (fun k i => mem_wq wqR i k) fun _ => FloatOps.ofBits .bf16 0⟩

theorem slots_wo (c : Dev nD) (dir : Bool) : anyAll (F := F) c (woA dir) ⊣⊢ iprop(slotFree c true dir 0 ∗ slotFree c true dir 1) := by
  have h : bigSep Finset.univ (fun k : Fin 2 => anyOn (F := F) ((woA dir).view.loc (c : Thread nD τ)) (slotWo (woA dir) k).view.set)
      = iprop(slotFree c true dir 0 ∗ slotFree c true dir 1) := by
    rw [bigSep_two]
    exact congrArg₂ _ (any_eq c (slotWo (woA dir) 0)).symm (any_eq c (slotWo (woA dir) 1)).symm
  rw [← h]
  cases dir
  · exact ⟨cut _ _ (fun i => i 0) fun k i => mem_wo woL i k, paste _ _ (fun i => i 0) (fun k i => mem_wo woL i k) fun _ => FloatOps.ofBits .bf16 0⟩
  · exact ⟨cut _ _ (fun i => i 0) fun k i => mem_wo woR i k, paste _ _ (fun i => i 0) (fun k i => mem_wo woR i k) fun _ => FloatOps.ofBits .bf16 0⟩

/-- The four buffers of the weights under way. -/
theorem slots_all (c : Dev nD) :
    iprop(anyAll (F := F) c (wqA true) ∗ anyAll (F := F) c (woA true) ∗ anyAll (F := F) c (wqA false) ∗ anyAll (F := F) c (woA false)) ⊣⊢ Slots c := by
  unfold Slots slotsFree
  constructor
  · iintro ⟨H1, H2, H3, H4⟩
    ihave H1 := (slots_wq c true).1 $$ H1
    ihave H2 := (slots_wo c true).1 $$ H2
    ihave H3 := (slots_wq c false).1 $$ H3
    ihave H4 := (slots_wo c false).1 $$ H4
    icases H1 with ⟨H1, H1'⟩
    icases H2 with ⟨H2, H2'⟩
    icases H3 with ⟨H3, H3'⟩
    icases H4 with ⟨H4, H4'⟩
    isplitl [H1 H2]
    · isplitl [H1]; · iexact H1
      iexact H2
    isplitl [H1' H2']
    · isplitl [H1']; · iexact H1'
      iexact H2'
    isplitl [H3 H4]
    · isplitl [H3]; · iexact H3
      iexact H4
    isplitl [H3']; · iexact H3'
    iexact H4'
  · iintro ⟨⟨H1, H2⟩, ⟨H1', H2'⟩, ⟨H3, H4⟩, H3', H4'⟩
    isplitl [H1 H1']
    · iapply (slots_wq c true).2
      isplitl [H1]; · iexact H1
      iexact H1'
    isplitl [H2 H2']
    · iapply (slots_wo c true).2
      isplitl [H2]; · iexact H2
      iexact H2'
    isplitl [H3 H3']
    · iapply (slots_wq c false).2
      isplitl [H3]; · iexact H3
      iexact H3'
    iapply (slots_wo c false).2
    isplitl [H4]; · iexact H4
    iexact H4'

/-! ## The places of the keys and values -/

/-- A place with any contents. -/
def kvAny (c : Dev nD) (A : Memref sig .tc .vmem S2x2x2x8x512x64 .f32) (p d : Fin 2) : sProp (World F) := iprop(∃ Y, kvOwn (F := F) c A p d Y)

theorem kvAny_eq (c : Dev nD) (A : Memref sig .tc .vmem S2x2x2x8x512x64 .f32) (p d : Fin 2) :
    (bigSep Finset.univ fun h : Fin 8 => anyOn (F := F) (A.view.loc (c : Thread nD τ)) (kvDst A p d h).view.set) = kvAny c A p d := by
  haveI : Nonempty (S2x512x64.Idx → F .f32) := ⟨fun _ => FloatOps.ofBits .f32 0⟩
  unfold kvAny kvOwn
  rw [show (fun h : Fin 8 => anyOn (F := F) (A.view.loc (c : Thread nD τ)) (kvDst A p d h).view.set)
    = fun h : Fin 8 => iprop(∃ X : S2x512x64.Idx → F .f32, own (e := .f32) c (kvDst A p d h) fullShare X) from funext fun h => (any_eq (e := .f32) c (kvDst A p d h)).symm]
  refine BI.Entails.antisymm (BI.bigSep_exists_pi Finset.univ fun (h : Fin 8) (X : S2x512x64.Idx → F .f32) => own (e := .f32) c (kvDst A p d h) fullShare X) ?_
  have one (Y : KV F) (h : Fin 8) : own (e := .f32) c (kvDst A p d h) fullShare (Y h)
      ⊢ iprop(∃ X : S2x512x64.Idx → F .f32, own (e := .f32) c (kvDst A p d h) fullShare X) := by
    iintro H; iexists _; iexact H
  show iprop(∃ Y : KV F, bigSep Finset.univ fun h : Fin 8 => own (e := .f32) c (kvDst A p d h) fullShare (Y h))
    ⊢ bigSep Finset.univ fun h : Fin 8 => iprop(∃ X : S2x512x64.Idx → F .f32, own (e := .f32) c (kvDst A p d h) fullShare X)
  iintro ⟨%Y, H⟩
  iapply (show (bigSep Finset.univ fun h : Fin 8 => own (e := .f32) c (kvDst A p d h) fullShare (Y h))
    ⊢ bigSep Finset.univ fun h : Fin 8 => iprop(∃ X : S2x512x64.Idx → F .f32, own (e := .f32) c (kvDst A p d h) fullShare X) from bigSep_mono fun h _ => one Y h)
  iexact H

def fourPlaces (c : Dev nD) (A : Memref sig .tc .vmem S2x2x2x8x512x64 .f32) : sProp (World F) :=
  iprop((kvAny c A 0 0 ∗ kvAny c A 0 1) ∗ kvAny c A 1 0 ∗ kvAny c A 1 1)

theorem places_of (c : Dev nD) (A : Memref sig .tc .vmem S2x2x2x8x512x64 .f32) (key : Idx (A.view.loc (c : Thread nD τ)) → Fin 2 × Fin 2 × Fin 8)
    (hm : ∀ (t : Fin 2 × Fin 2 × Fin 8) (i : Idx (A.view.loc (c : Thread nD τ))),
      @Membership.mem (Idx (A.view.loc (c : Thread nD τ))) (Finset (Idx (A.view.loc (c : Thread nD τ)))) _ (kvDst A t.1 t.2.1 t.2.2).view.set i ↔ key i = t) (f₀ : Buf (Elt F) (A.view.loc (c : Thread nD τ))) :
    anyAll (F := F) c A ⊣⊢ fourPlaces c A := by
  have h : (bigSep Finset.univ fun t : Fin 2 × Fin 2 × Fin 8 => anyOn (F := F) (A.view.loc (c : Thread nD τ)) (kvDst A t.1 t.2.1 t.2.2).view.set) = fourPlaces c A := by
    unfold fourPlaces
    rw [bigSep_univ_prod]
    simp only [bigSep_univ_prod, kvAny_eq, bigSep_two]
  rw [← h]
  exact ⟨cut _ _ key hm, paste _ _ key hm f₀⟩

theorem places_k (c : Dev nD) : anyAll (F := F) c kScr ⊣⊢ fourPlaces c kScr :=
  places_of c kScr (fun i => (i 0, i 1, i 3)) (fun t i => mem_kv kScr i t.1 t.2.1 t.2.2) fun _ => FloatOps.ofBits .f32 0
theorem places_v (c : Dev nD) : anyAll (F := F) c vScr ⊣⊢ fourPlaces c vScr :=
  places_of c vScr (fun i => (i 0, i 1, i 3)) (fun t i => mem_kv vScr i t.1 t.2.1 t.2.2) fun _ => FloatOps.ofBits .f32 0

end Cert.Proof.Ring
-- ==== Proof.Deal.lean ====
/- What each device holds when the kernel starts, dealt out of the launch: positions, rights, credits, semaphores. -/
module

public import proofs.«01_k».proof.Proof.Memory
public import Idealize.ShloMosaic.Lib.Pipeline.BigSepL

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos cred_tallyL)
open Facts₀ Facts

variable {F : FTy → Type} [FloatOps F]

theorem list_sep {I : Type} (i : I) (l : List I) (Φ : I → sProp (World F)) : bigSepL (i :: l) Φ = iprop(Φ i ∗ bigSepL l Φ) := bigSepL_cons i l Φ

theorem list_one {I : Type} (i : I) (Φ : I → sProp (World F)) : bigSepL [i] Φ = Φ i := rfl

variable (c : Dev nD)

/-! ## Positions -/

/-- All the kinds. -/
def kinds : List Kind :=
  [.inl (true, false, true, 0),
   .inl (true, true, true, 0),
   .inl (true, false, true, 1),
   .inl (true, true, true, 1),
   .inl (true, false, false, 0),
   .inl (true, true, false, 0),
   .inl (true, false, false, 1),
   .inl (true, true, false, 1),
   .inl (false, false, true, 0),
   .inl (false, true, true, 0),
   .inl (false, false, true, 1),
   .inl (false, true, true, 1),
   .inl (false, false, false, 0),
   .inl (false, true, false, 0),
   .inl (false, false, false, 1),
   .inl (false, true, false, 1),
   .inr 0,
   .inr (0 : Fin 3).succ,
   .inr (1 : Fin 3).succ,
   .inr (2 : Fin 3).succ]

theorem kinds_all : Finset.univ = kinds.toFinset := by decide +kernel
theorem kinds_nodup : kinds.Nodup := by decide +kernel

/-- A device's places in the rounds of its semaphores. -/
def posAt (R : Kind → ℕ) : sProp (World F) := bigSep Finset.univ fun k : Kind => atPos ER (cell c k) (R k) ∅ 0

/-- The round a semaphore ends at. -/
def finalRound (k : Kind) : ℕ := match k with
  | .inl x => times x.2.2.1 x.2.2.2
  | .inr _ => 1

theorem positions_intro : posAt (F := F) c (fun _ => 0) ⊢ Positions c := by
  unfold posAt Positions
  rw [bigSep_univ_eq_bigSepL kinds kinds_all kinds_nodup]
  unfold kinds
  iterate 19 rw [list_sep]
  rw [list_one]
  iintro ⟨Qtt0, Ott0, Qtt1, Ott1, Qtf0, Otf0, Qtf1, Otf1, Qft0, Oft0, Qft1, Oft1, Qff0, Off0, Qff1, Off1, P0, P1, P2, P3⟩
  isplitl [Qtt0 Ott0]
  · isplitl [Qtt0]; · iexact Qtt0
    iexact Ott0
  isplitl [Qtt1 Ott1]
  · isplitl [Qtt1]; · iexact Qtt1
    iexact Ott1
  isplitl [Qtf0 Otf0]
  · isplitl [Qtf0]; · iexact Qtf0
    iexact Otf0
  isplitl [Qtf1 Otf1]
  · isplitl [Qtf1]; · iexact Qtf1
    iexact Otf1
  isplitl [Qft0 Oft0]
  · isplitl [Qft0]; · iexact Qft0
    iexact Oft0
  isplitl [Qft1 Oft1]
  · isplitl [Qft1]; · iexact Qft1
    iexact Oft1
  isplitl [Qff0 Off0]
  · isplitl [Qff0]; · iexact Qff0
    iexact Off0
  isplitl [Qff1 Off1]
  · isplitl [Qff1]; · iexact Qff1
    iexact Off1
  isplitl [P0]; · iexact P0
  isplitl [P1]; · iexact P1
  isplitl [P2]; · iexact P2
  iexact P3

theorem finals_elim : Finals (F := F) c ⊢ posAt c finalRound := by
  unfold posAt Finals
  rw [bigSep_univ_eq_bigSepL kinds kinds_all kinds_nodup]
  unfold kinds
  iterate 19 rw [list_sep]
  rw [list_one]
  iintro ⟨⟨Qtt0, Ott0⟩, ⟨Qtt1, Ott1⟩, ⟨Qtf0, Otf0⟩, ⟨Qtf1, Otf1⟩, ⟨Qft0, Oft0⟩, ⟨Qft1, Oft1⟩, ⟨Qff0, Off0⟩, ⟨Qff1, Off1⟩, P0, P1, P2, P3⟩
  isplitl [Qtt0]; · iexact Qtt0
  isplitl [Ott0]; · iexact Ott0
  isplitl [Qtt1]; · iexact Qtt1
  isplitl [Ott1]; · iexact Ott1
  isplitl [Qtf0]; · iexact Qtf0
  isplitl [Otf0]; · iexact Otf0
  isplitl [Qtf1]; · iexact Qtf1
  isplitl [Otf1]; · iexact Otf1
  isplitl [Qft0]; · iexact Qft0
  isplitl [Oft0]; · iexact Oft0
  isplitl [Qft1]; · iexact Qft1
  isplitl [Oft1]; · iexact Oft1
  isplitl [Qff0]; · iexact Qff0
  isplitl [Off0]; · iexact Off0
  isplitl [Qff1]; · iexact Qff1
  isplitl [Off1]; · iexact Off1
  isplitl [P0]; · iexact P0
  isplitl [P1]; · iexact P1
  isplitl [P2]; · iexact P2
  iexact P3

/-! ## Rights -/

/-- The payments a device makes. -/
def rightsL : List Tok :=
  [meets true,
   meets false,
   .inr (.inl ((false, false, true, 1), 0)),
   .inr (.inl ((false, true, true, 1), 0)),
   .inr (.inl ((true, false, true, 1), 0)),
   .inr (.inl ((true, true, true, 1), 0)),
   .inr (.inl ((false, false, false, 1), 0)),
   .inr (.inl ((false, true, false, 1), 0)),
   .inr (.inl ((true, false, false, 1), 0)),
   .inr (.inl ((true, true, false, 1), 0)),
   .inr (.inl ((false, false, true, 0), 0)),
   .inr (.inl ((false, true, true, 0), 0)),
   .inr (.inl ((true, false, true, 0), 0)),
   .inr (.inl ((true, true, true, 0), 0)),
   .inr (.inl ((false, false, false, 0), 0)),
   .inr (.inl ((false, true, false, 0), 0)),
   .inr (.inl ((true, false, false, 0), 0)),
   .inr (.inl ((true, true, false, 0), 0)),
   .inr (.inl ((false, false, true, 1), 1)),
   .inr (.inl ((false, true, true, 1), 1)),
   .inr (.inl ((true, false, true, 1), 1)),
   .inr (.inl ((true, true, true, 1), 1)),
   .inr (.inl ((false, false, false, 1), 1)),
   .inr (.inl ((false, true, false, 1), 1)),
   .inr (.inl ((true, false, false, 1), 1)),
   .inr (.inl ((true, true, false, 1), 1)),
   .inr (.inl ((false, false, true, 0), 1)),
   .inr (.inl ((false, true, true, 0), 1)),
   .inr (.inl ((true, false, true, 0), 1)),
   .inr (.inl ((true, true, true, 0), 1)),
   frees 0,
   frees 1,
   frees 2]

set_option synthInstance.maxSize 2000 in
theorem rightsL_nodup : rightsL.Nodup := by decide +kernel

set_option synthInstance.maxSize 2000 in
set_option synthInstance.maxHeartbeats 400000 in
theorem rights_intro : (bigSep Finset.univ fun t : Tok => (dutyTok ER (cell (tokDev c t) (tokKind t)) (tokRound t) (tokDuty t) : sProp (World F))) ⊢ Rights c := by
  refine BIBase.Entails.trans (BI.bigSep_subset (Finset.subset_univ rightsL.toFinset)) ?_
  rw [bigSep_eq_bigSepL_of_eq rightsL rfl rightsL_nodup]
  unfold rightsL Rights
  iterate 32 rw [list_sep]
  rw [list_one]
  iintro ⟨T1, T0, Ha110, Hb110, Hc110, Hd110, Ha010, Hb010, Hc010, Hd010, Ha100, Hb100, Hc100, Hd100, Ha000, Hb000, Hc000, Hd000, Ha111, Hb111, Hc111, Hd111, Ha011, Hb011, Hc011, Hd011, Ha101, Hb101, Hc101, Hd101, G0, G1, G2⟩
  isplitl [T1]; · iexact T1
  isplitl [T0]; · iexact T0
  isplitl [Ha110 Hb110 Hc110 Hd110]
  · isplitl [Ha110 Hb110]
    · isplitl [Ha110]; · iexact Ha110
      iexact Hb110
    isplitl [Hc110]; · iexact Hc110
    iexact Hd110
  isplitl [Ha010 Hb010 Hc010 Hd010]
  · isplitl [Ha010 Hb010]
    · isplitl [Ha010]; · iexact Ha010
      iexact Hb010
    isplitl [Hc010]; · iexact Hc010
    iexact Hd010
  isplitl [Ha100 Hb100 Hc100 Hd100]
  · isplitl [Ha100 Hb100]
    · isplitl [Ha100]; · iexact Ha100
      iexact Hb100
    isplitl [Hc100]; · iexact Hc100
    iexact Hd100
  isplitl [Ha000 Hb000 Hc000 Hd000]
  · isplitl [Ha000 Hb000]
    · isplitl [Ha000]; · iexact Ha000
      iexact Hb000
    isplitl [Hc000]; · iexact Hc000
    iexact Hd000
  isplitl [Ha111 Hb111 Hc111 Hd111]
  · isplitl [Ha111 Hb111]
    · isplitl [Ha111]; · iexact Ha111
      iexact Hb111
    isplitl [Hc111]; · iexact Hc111
    iexact Hd111
  isplitl [Ha011 Hb011 Hc011 Hd011]
  · isplitl [Ha011 Hb011]
    · isplitl [Ha011]; · iexact Ha011
      iexact Hb011
    isplitl [Hc011]; · iexact Hc011
    iexact Hd011
  isplitl [Ha101 Hb101 Hc101 Hd101]
  · isplitl [Ha101 Hb101]
    · isplitl [Ha101]; · iexact Ha101
      iexact Hb101
    isplitl [Hc101]; · iexact Hc101
    iexact Hd101
  isplitl [G0]; · iexact G0
  isplitl [G1]; · iexact G1
  iexact G2

/-! ## Credits -/

/-- A payment as its receiver sees it. -/
abbrev homeOf (c : Dev nD) (t : Tok) : Pay nD τ sig := (cell c (tokKind t), tokIx t, kindUnits (tokKind t))

theorem sum_home (l : List Tok) :
    (∑ d : Dev nD, tallyL (l.map (payOf d)) : CellTallies nD τ sig ℕ) = ∑ d : Dev nD, tallyL (l.map (homeOf d)) := by
  induction l with
  | nil => rfl
  | cons t l ih =>
    simp only [List.map_cons, tallyL, Finset.sum_add_distrib, ih]
    refine congrArg (· + _) ?_
    exact Function.Bijective.sum_comp (Finite.injective_iff_bijective.mp (tokDev_injective t))
      fun d : Dev nD => (tallyAt (cell d (tokKind t)) (tokIx t) (kindUnits (tokKind t)) : CellTallies nD τ sig ℕ)

theorem owed_launch : (Pipeline.launchCred (fun d => duesAt d dues) c : sProp (World F)) = bigSepL dues fun t => cred (tallyAt (cell c (tokKind t)) (tokIx t) (kindUnits (tokKind t))) := by
  rw [Pipeline.launchCred_of_sum (fun d => duesAt d dues) (fun d => tallyL (dues.map (homeOf d))) (sum_home dues) (fun d g h => ?_) c, cred_tallyL, bigSepL_map]
  obtain ⟨i, hi⟩ := Finsupp.ne_iff.mp h
  obtain ⟨x, hx, rfl, -⟩ := tallyL_pos (Nat.pos_of_ne_zero hi)
  obtain ⟨t, -, rfl⟩ := List.mem_map.mp hx
  rfl

theorem owed_intro : (Pipeline.launchCred (fun d => duesAt d dues) c : sProp (World F)) ⊢ Owed c := by
  rw [owed_launch]
  unfold dues Owed
  iterate 18 rw [list_sep]
  rw [list_one]
  iintro ⟨M1, M0, A0, A1, B0, B1, C0, C1, D0, D1, F0, F2, E0, E1, G0, G1, F1, I0, I1⟩
  isplitl [M1 M0]
  · iapply (Entails.of_eq (congrArg cred (tallyAt_add (cell c (.inr 0)) 1 1 1)))
    iapply (cred_add _ _).2
    isplitl [M1]; · iexact M1
    iexact M0
  isplitl [A0 A1]
  · isplitl [A0]; · iexact A0
    iexact A1
  isplitl [B0 B1]
  · isplitl [B0]; · iexact B0
    iexact B1
  isplitl [C0 C1]
  · isplitl [C0]; · iexact C0
    iexact C1
  isplitl [D0 D1]
  · isplitl [D0]; · iexact D0
    iexact D1
  isplitl [E0 E1]
  · isplitl [E0]; · iexact E0
    iexact E1
  isplitl [G0 G1]
  · isplitl [G0]; · iexact G0
    iexact G1
  isplitl [I0 I1]
  · isplitl [I0]; · iexact I0
    iexact I1
  isplitl [F0]; · iexact F0
  isplitl [F1]; · iexact F1
  iexact F2

/-! ## The semaphores at zero -/

/-- The kernel's own semaphores: the copies', those that free a slot, those of the keys' and values' copies, one not used. -/
abbrev OwnSem := Copy ⊕ (Fin 3 ⊕ ((Bool × Fin 2 × Fin 2) ⊕ Unit))
abbrev kvSems (w : Bool) : DmaSems sig S2x2 := match w with
  | false => cc0_scratch19
  | true => cc0_scratch20
abbrev osem : OwnSem → SemLoc sig := fun
  | .inl x => .dma (dsem x)
  | .inr (.inl j) => .reg (rsem j.succ)
  | .inr (.inr (.inl x)) => .dma (kvSem (kvSems x.1) x.2.1 x.2.2)
  | .inr (.inr (.inr _)) => .reg (freeSem cc0_scratch22 0)

def kvZero : sProp (World F) := bigSep Finset.univ fun x : Bool × Fin 2 × Fin 2 => semVal ((c : Thread nD τ), .dma (kvSem (kvSems x.1) x.2.1 x.2.2)) 0
def spare : sProp (World F) := semVal ((c : Thread nD τ), .reg (freeSem cc0_scratch22 0)) 0
def ringZero : sProp (World F) := bigSep Finset.univ fun k : Kind => semVal (cell c k) 0

theorem sum_sep {A B : Type} [Fintype A] [Fintype B] (Φ : A ⊕ B → sProp (World F)) :
    bigSep Finset.univ Φ = iprop(bigSep Finset.univ (fun a => Φ (.inl a)) ∗ bigSep Finset.univ (fun b => Φ (.inr b))) := BI.bigSep_univ_sum Φ

theorem zero_eq : iprop((Pipeline.ownSems0 (Ix := ℕ) (Name := ℕ) (U := UU) (Lvl := ℕ) (Val := Elt F) (τ := τ) osem c : sProp (World F)) ∗ unscopedSems0 c)
    ⊣⊢ iprop(ringZero c ∗ kvZero c ∗ spare c) := by
  have hu : (unscopedSems0 c : sProp (World F)) = semVal (cell c (.inr 0)) 0 := by
    unfold unscopedSems0; rw [bigSep_eq_bigSepL_of_eq [SemLoc.reg barSem] (by decide) (by decide)]; rfl
  have h3 (Φ : Fin 3 → sProp (World F)) : bigSep Finset.univ Φ = iprop(Φ 0 ∗ Φ 1 ∗ Φ 2) := bigSep_univ_eq_bigSepL [0, 1, 2] (by decide) (by decide) Φ
  have h1 (Φ : Unit → sProp (World F)) : bigSep Finset.univ Φ = Φ () := bigSep_univ_eq_bigSepL [()] (by decide) (by decide) Φ
  rw [hu]
  unfold Pipeline.ownSems0 ringZero kvZero spare
  rw [sum_sep, sum_sep, sum_sep, sum_sep, h3, h1, bigSep_four]
  constructor
  · iintro ⟨⟨H, ⟨H1, H2, H3⟩, Hk, Hs⟩, H0⟩
    isplitl [H H1 H2 H3 H0]
    · isplitl [H]; · iexact H
      isplitl [H0]; · iexact H0
      isplitl [H1]; · iexact H1
      isplitl [H2]; · iexact H2
      iexact H3
    isplitl [Hk]; · iexact Hk
    iexact Hs
  · iintro ⟨⟨H, H0, H1, H2, H3⟩, Hk, Hs⟩
    isplitr [H0]
    · isplitl [H]; · iexact H
      isplitl [H1 H2 H3]
      · isplitl [H1]; · iexact H1
        isplitl [H2]; · iexact H2
        iexact H3
      isplitl [Hk]; · iexact Hk
      iexact Hs
    iexact H0

set_option synthInstance.maxSize 4000 in
set_option synthInstance.maxHeartbeats 400000 in
theorem osem_injective : Function.Injective osem := by
  have h : ∀ x : OwnSem × OwnSem, osem x.1 = osem x.2 → x.1 = x.2 := by decide +kernel
  exact fun a b => h (a, b)

set_option synthInstance.maxSize 4000 in
theorem ownSemFacts : Pipeline.OwnSemFacts cfg0.spec osem := ⟨by decide +kernel, osem_injective, by decide +kernel⟩

end Cert.Proof.Ring
-- ==== Proof.Launch.lean ====
/- The launch: the memory, the semaphores and the rights each device starts from, and what it ends with. -/
module

public import proofs.«01_k».proof.Proof.Deal
public import proofs.«01_k».proof.Proof.Gen.KernelIdeal.Points

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The operands lent to the copies of keys and values -/

/-- The share of an operand lent to the copies into a place. -/
def qs (p d : Fin 2) : PosShare TreeShare := Transfers.shareTokN fullShare (2 * p.val + d.val)

theorem lent_four {ℓ : Loc nD τ sig} (f : Buf (Elt F) ℓ) :
    (ℓ ↦{fullShare} f : sProp (World F)) ⊣⊢ iprop((ℓ ↦{Transfers.shareDrop fullShare 4} f) ∗ (ℓ ↦{qs 0 0} f) ∗ (ℓ ↦{qs 0 1} f) ∗ (ℓ ↦{qs 1 0} f) ∗ (ℓ ↦{qs 1 1} f)) := by
  have h : (bigSep Finset.univ fun i : Fin 4 => (ℓ ↦{Transfers.shareTokN fullShare i.val} f : sProp (World F)))
      = iprop((ℓ ↦{qs 0 0} f) ∗ (ℓ ↦{qs 0 1} f) ∗ (ℓ ↦{qs 1 0} f) ∗ (ℓ ↦{qs 1 1} f)) := bigSep_four _
  rw [← h]
  exact ⟨Transfers.pointsTo_toks_split fullShare 4, Transfers.pointsTo_toks_join fullShare 4⟩

section Places
variable (c : Dev nD) (X : Buf (Elt F) (kHbm.view.loc (c : Thread nD τ))) (X' : Buf (Elt F) (vHbm.view.loc (c : Thread nD τ)))

theorem idle_eq (p d : Fin 2) :
    iprop((kHbm.view.loc (c : Thread nD τ) ↦{qs p d} X) ∗ (vHbm.view.loc (c : Thread nD τ) ↦{qs p d} X') ∗ kvAny c kScr p d ∗ kvAny c vScr p d
      ∗ semVal ((c : Thread nD τ), .dma (kvSem cc0_scratch19 p d)) 0 ∗ semVal ((c : Thread nD τ), .dma (kvSem cc0_scratch20 p d)) 0)
      ⊣⊢ Idle qs c X X' p d := by
  unfold Idle BothReady Ready kvAny
  constructor
  · iintro ⟨H1, H2, ⟨%Y, H3⟩, ⟨%Y', H4⟩, H5, H6⟩
    iexists Y; iexists Y'
    isplitl [H1 H3 H5]
    · isplitl [H1]; · iexact H1
      isplitl [H3]; · iexact H3
      iexact H5
    isplitl [H2]; · iexact H2
    isplitl [H4]; · iexact H4
    iexact H6
  · iintro ⟨%Y, %Y', ⟨H1, H3, H5⟩, H2, H4, H6⟩
    isplitl [H1]; · iexact H1
    isplitl [H2]; · iexact H2
    isplitl [H3]; · iexists Y; iexact H3
    isplitl [H4]; · iexists Y'; iexact H4
    isplitl [H5]; · iexact H5
    iexact H6

/-- What is kept of the operands meanwhile. -/
def Rest : sProp (World F) :=
  iprop((kHbm.view.loc (c : Thread nD τ) ↦{Transfers.shareDrop fullShare 4} X) ∗ (vHbm.view.loc (c : Thread nD τ) ↦{Transfers.shareDrop fullShare 4} X'))

theorem kvZero_eq : kvZero (F := F) c
    = iprop(((semVal ((c : Thread nD τ), .dma (kvSem cc0_scratch19 0 0)) 0 ∗ semVal ((c : Thread nD τ), .dma (kvSem cc0_scratch19 0 1)) 0)
        ∗ semVal ((c : Thread nD τ), .dma (kvSem cc0_scratch19 1 0)) 0 ∗ semVal ((c : Thread nD τ), .dma (kvSem cc0_scratch19 1 1)) 0)
      ∗ ((semVal ((c : Thread nD τ), .dma (kvSem cc0_scratch20 0 0)) 0 ∗ semVal ((c : Thread nD τ), .dma (kvSem cc0_scratch20 0 1)) 0)
        ∗ semVal ((c : Thread nD τ), .dma (kvSem cc0_scratch20 1 0)) 0 ∗ semVal ((c : Thread nD τ), .dma (kvSem cc0_scratch20 1 1)) 0)) := by
  have h2 (Φ : Bool → sProp (World F)) : bigSep Finset.univ Φ = iprop(Φ false ∗ Φ true) := bigSep_univ_eq_bigSepL [false, true] (by decide) (by decide) Φ
  unfold kvZero
  rw [bigSep_univ_prod, h2]
  simp only [bigSep_univ_prod, bigSep_two]

theorem places_eq :
    iprop((kHbm.view.loc (c : Thread nD τ) ↦{fullShare} X) ∗ (vHbm.view.loc (c : Thread nD τ) ↦{fullShare} X') ∗ fourPlaces c kScr ∗ fourPlaces c vScr ∗ kvZero c)
      ⊣⊢ iprop(Rest c X X' ∗ Places qs c X X') := by
  unfold Rest Places fourPlaces
  rw [kvZero_eq]
  constructor
  · iintro ⟨HK, HV, ⟨⟨K00, K01⟩, K10, K11⟩, ⟨⟨V00, V01⟩, V10, V11⟩, ⟨⟨S00, S01⟩, S10, S11⟩, ⟨T00, T01⟩, T10, T11⟩
    ihave HK := (lent_four X).1 $$ HK
    ihave HV := (lent_four X').1 $$ HV
    icases HK with ⟨HK, A00, A01, A10, A11⟩
    icases HV with ⟨HV, B00, B01, B10, B11⟩
    isplitl [HK HV]
    · isplitl [HK]; · iexact HK
      iexact HV
    isplitl [K00 V00 S00 T00 A00 B00]
    · iapply (idle_eq c X X' 0 0).1
      isplitl [A00]; · iexact A00
      isplitl [B00]; · iexact B00
      isplitl [K00]; · iexact K00
      isplitl [V00]; · iexact V00
      isplitl [S00]; · iexact S00
      iexact T00
    isplitl [K01 V01 S01 T01 A01 B01]
    · iapply (idle_eq c X X' 0 1).1
      isplitl [A01]; · iexact A01
      isplitl [B01]; · iexact B01
      isplitl [K01]; · iexact K01
      isplitl [V01]; · iexact V01
      isplitl [S01]; · iexact S01
      iexact T01
    isplitl [K10 V10 S10 T10 A10 B10]
    · iapply (idle_eq c X X' 1 0).1
      isplitl [A10]; · iexact A10
      isplitl [B10]; · iexact B10
      isplitl [K10]; · iexact K10
      isplitl [V10]; · iexact V10
      isplitl [S10]; · iexact S10
      iexact T10
    iapply (idle_eq c X X' 1 1).1
    isplitl [A11]; · iexact A11
    isplitl [B11]; · iexact B11
    isplitl [K11]; · iexact K11
    isplitl [V11]; · iexact V11
    isplitl [S11]; · iexact S11
    iexact T11
  · iintro ⟨⟨HK, HV⟩, I00, I01, I10, I11⟩
    ihave I00 := (idle_eq c X X' 0 0).2 $$ I00
    ihave I01 := (idle_eq c X X' 0 1).2 $$ I01
    ihave I10 := (idle_eq c X X' 1 0).2 $$ I10
    ihave I11 := (idle_eq c X X' 1 1).2 $$ I11
    icases I00 with ⟨A00, B00, K00, V00, S00, T00⟩
    icases I01 with ⟨A01, B01, K01, V01, S01, T01⟩
    icases I10 with ⟨A10, B10, K10, V10, S10, T10⟩
    icases I11 with ⟨A11, B11, K11, V11, S11, T11⟩
    isplitl [HK A00 A01 A10 A11]
    · iapply (lent_four X).2
      isplitl [HK]; · iexact HK
      isplitl [A00]; · iexact A00
      isplitl [A01]; · iexact A01
      isplitl [A10]; · iexact A10
      iexact A11
    isplitl [HV B00 B01 B10 B11]
    · iapply (lent_four X').2
      isplitl [HV]; · iexact HV
      isplitl [B00]; · iexact B00
      isplitl [B01]; · iexact B01
      isplitl [B10]; · iexact B10
      iexact B11
    isplitl [K00 K01 K10 K11]
    · isplitl [K00 K01]
      · isplitl [K00]; · iexact K00
        iexact K01
      isplitl [K10]; · iexact K10
      iexact K11
    isplitl [V00 V01 V10 V11]
    · isplitl [V00 V01]
      · isplitl [V00]; · iexact V00
        iexact V01
      isplitl [V10]; · iexact V10
      iexact V11
    isplitl [S00 S01 S10 S11]
    · isplitl [S00 S01]
      · isplitl [S00]; · iexact S00
        iexact S01
      isplitl [S10]; · iexact S10
      iexact S11
    isplitl [T00 T01]
    · isplitl [T00]; · iexact T00
      iexact T01
    isplitl [T10]; · iexact T10
    iexact T11

end Places

/-! ## The scratch memory -/

theorem whole_any (c : Dev nD) (b : Ref sig .tc) :
    iprop(∃ f : Buf (Elt F) ((c : Thread nD τ).loc b), ((c : Thread nD τ).loc b) ↦{fullShare} f)
      = (iprop(∃ y : b.ty.Contents (Elt F), own c (Memref.whole b) fullShare y) : sProp (World F)) := by
  refine congrArg BIBase.exists (funext fun f => ?_)
  exact (owns_whole (c : Thread nD τ) b fullShare f).symm

theorem scratch_eq (c : Dev nD) :
    (Pipeline.scopedRest (Ix := ℕ) (Name := ℕ) (U := UU) (Lvl := ℕ) (Val := Elt F) spec0 c : sProp (World F))
      ⊣⊢ iprop(Scratch c ∗ Slots c ∗ fourPlaces c kScr ∗ fourPlaces c vScr) := by
  rw [scopedRest0_eq, whole_any c cc0_scratch0, whole_any c cc0_scratch1, whole_any c cc0_scratch2, whole_any c cc0_scratch9, whole_any c cc0_scratch10]
  unfold Scratch
  constructor
  · iintro ⟨H0, H1, H2, H3, H4, H5, H6, H7, H8, H9, H10⟩
    isplitl [H0 H1 H2 H9 H10]
    · isplitl [H0]; · iexact H0
      isplitl [H1]; · iexact H1
      isplitl [H2]; · iexact H2
      isplitl [H9]; · iexact H9
      iexact H10
    isplitl [H3 H4 H5 H6]
    · iapply (slots_all c).1
      unfold anyAll anyOn
      isplitl [H3]; · iexact H3
      isplitl [H4]; · iexact H4
      isplitl [H5]; · iexact H5
      iexact H6
    isplitl [H7]
    · iapply (places_k c).1
      unfold anyAll anyOn
      iexact H7
    · iapply (places_v c).1
      unfold anyAll anyOn
      iexact H8
  · iintro ⟨⟨H0, H1, H2, H9, H10⟩, HS, H7, H8⟩
    ihave HS := (slots_all c).2 $$ HS
    ihave H7 := (places_k c).2 $$ H7
    ihave H8 := (places_v c).2 $$ H8
    unfold anyAll anyOn
    icases HS with ⟨H3, H4, H5, H6⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The semaphores closed -/

section Closing
variable (W : Weights F) (K : Names)

theorem duties_done (k : Kind) (r : ℕ) (h : finalRound k ≤ r) : kindDuties k r = ∅ := by
  rcases k with x | j
  · exact if_neg (not_lt.mpr h)
  · have hr : r ≠ 0 := by
      have h1 : 1 ≤ r := h
      omega
    unfold kindDuties
    split
    · rename_i e; cases e
    · exact if_neg hr
    · exact if_neg hr

theorem close_one (c : Dev nD) (k : Kind) :
    iprop(Env W K ∗ atPos ER (cell c k) (finalRound k) ∅ 0) ⊢ |={Set.univ}=> semVal (cell c k) 0 := by
  iintro ⟨#HE, H⟩
  iapply (Rounds.cell_close ER (ringRd W) (Set.mem_univ (K (c, k))) (fun h => h) (R := finalRound k) (fun r hr => (duties_cell W c k r).trans (duties_done k r hr)))
  isplitr; · iapply (env_inv W K c k); iexact HE
  iexact H

theorem spread {I : Type} [DecidableEq I] {S : Finset I} {R : sProp (World F)} [BI.Persistent R] {Φ Ψ : I → sProp (World F)}
    (h : ∀ i ∈ S, iprop(R ∗ Φ i) ⊢ Ψ i) : iprop(R ∗ bigSep S Φ) ⊢ bigSep S Ψ :=
  BIBase.Entails.trans (sep_mono_left (BI.bigSep_of_persistent S R)) (by rw [← family_sep]; exact bigSep_mono h)

theorem close_all (c : Dev nD) : iprop(Env W K ∗ posAt c finalRound) ⊢ |={Set.univ}=> ringZero c :=
  BIBase.Entails.trans (spread fun k _ => close_one W K c k) (bigSep_fupd _ _)

end Closing

/-! ## What the launch makes -/

def ringCells : Finset (GSem nD τ sig) := Finset.univ.map ⟨fun ck : Dev nD × Kind => cell ck.1 ck.2, fun a b h => by
  have h1 : a.1 = b.1 := congrArg (fun g : GSem nD τ sig => g.1.1) h
  have h2 : a.2 = b.2 := csem_injective (congrArg (fun g : GSem nD τ sig => g.2) h)
  exact Prod.ext h1 h2⟩
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

section Fund
variable (W : Weights F)

def toksOf (c : Dev nD) : sProp (World F) :=
  bigSep Finset.univ fun t : Tok => dutyTok ER (cell (tokDev c t) (tokKind t)) (tokRound t) (tokDuty t)
def reachedOf (c : Dev nD) : sProp (World F) := bigSep Finset.univ fun k : Kind => reached ER (cell c k) 0

/-- What is dealt to a device before the semaphores are shared, -/
def G (c : Dev nD) : sProp (World F) :=
  iprop((bigSep Finset.univ fun k : Kind => roundState ER (ringRd W) (cell c k) 0) ∗ posAt c (fun _ => 0) ∗ reachedOf c ∗ toksOf c)
/-- and after. -/
def G' (c : Dev nD) : sProp (World F) :=
  iprop((∃ K, records W K) ∗ posAt c (fun _ => 0) ∗ toksOf c ∗ kvZero c ∗ spare c)

theorem fund_ring : BI.own (ER (initOf ringCells ringToks)) ⊢ (|==> bigSep Finset.univ (G W) : sProp (World F)) := by
  have hX (Φ : GSem nD τ sig → sProp (World F)) : bigSep ringCells Φ = bigSep Finset.univ fun c : Dev nD => bigSep Finset.univ fun k : Kind => Φ (cell c k) := by
    unfold ringCells; rw [bigSep_map, bigSep_univ_prod]; rfl
  have hT : bigSep ringToks (fun x => (dutyTok ER x.1 x.2.1 x.2.2 : sProp (World F))) = bigSep Finset.univ fun c : Dev nD => toksOf c := by
    unfold ringToks; rw [bigSep_map, bigSep_univ_prod]; rfl
  iintro HX
  imod (Rounds.fund ER (ringRd W) ringCells ringToks) $$ HX with ⟨Hst, Hr, Hat, Htok⟩
  imodintro
  ihave Hst := (Entails.of_eq (hX fun g => roundState ER (ringRd W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAt reachedOf
  simp only [family_sep]
  isplitl [Hst]; · iexact Hst
  isplitl [Hat]; · iexact Hat
  isplitl [Hr]; · iexact Hr
  iexact Htok

abbrev ownZero (c : Dev nD) : sProp (World F) := Pipeline.ownSems0 (Ix := ℕ) (Name := ℕ) (U := UU) (Lvl := ℕ) (Val := Elt F) (τ := τ) osem c

def allocated (c : Dev nD) : sProp (World F) := bigSep Finset.univ fun k : Kind => iprop(∃ κ : ℕ, cellInv ER (ringRd W) κ (cell c k))

theorem core_alloc (c : Dev nD) :
    iprop(ownZero c ∗ unscopedSems0 c ∗ G W c) ⊢ |={Set.univ}=> iprop(allocated W c ∗ posAt c (fun _ => 0) ∗ reachedOf c ∗ toksOf c ∗ kvZero c ∗ spare c) := by
  have h : iprop(ringZero c ∗ bigSep Finset.univ fun k : Kind => roundState ER (ringRd W) (cell c k) 0) ⊢ |={Set.univ}=> allocated W c := by
    unfold ringZero allocated
    rw [← family_sep]
    exact BIBase.Entails.trans (bigSep_mono fun k _ => BIBase.Entails.trans (Rounds.body_intro ER (ringRd W) (cell c k)) inv_alloc) (bigSep_fupd _ _)
  unfold G
  iintro ⟨Hos, Hus, Hst, Hat, Hr, Htok⟩
  ihave Hv := (zero_eq c).1 $$ [Hos Hus]
  · isplitl [Hos]; · iexact Hos
    iexact Hus
  icases Hv with ⟨Hv, Hk, Hs⟩
  imod h $$ [Hv Hst] with Hinv
  · isplitl [Hv]; · iexact Hv
    iexact Hst
  imodintro
  isplitl [Hinv]; · iexact Hinv
  isplitl [Hat]; · iexact Hat
  isplitl [Hr]; · iexact Hr
  isplitl [Htok]; · iexact Htok
  isplitl [Hk]; · iexact Hk
  iexact Hs

theorem given_all (K : Names) (c : Dev nD) :
    iprop(records W K ∗ posAt c (fun _ => 0) ∗ toksOf c ∗ kvZero c ∗ spare c) ⊢ G' W c := by
  unfold G'
  iintro ⟨H, H2⟩
  isplitl [H]; · iexists K; iexact H
  iexact H2

theorem regroup :
    (bigSep Finset.univ fun c : Dev nD => iprop(allocated W c ∗ posAt c (fun _ => 0) ∗ reachedOf c ∗ toksOf c ∗ kvZero c ∗ spare c)) ⊢ bigSep Finset.univ (G' W) := by
  have hI : (bigSep Finset.univ fun c : Dev nD => allocated W c)
      = bigSep Finset.univ fun ck : Dev nD × Kind => iprop(∃ κ : ℕ, cellInv ER (ringRd W) κ (cell ck.1 ck.2)) := by
    rw [bigSep_univ_prod]; rfl
  have hR : (bigSep Finset.univ fun c : Dev nD => reachedOf (F := F) c) = bigSep Finset.univ fun ck : Dev nD × Kind => reached ER (cell ck.1 ck.2) 0 := by
    rw [bigSep_univ_prod]; rfl
  have hL : iprop((bigSep Finset.univ fun c : Dev nD => posAt (F := F) c (fun _ => 0)) ∗ (bigSep Finset.univ fun c : Dev nD => toksOf (F := F) c)
      ∗ (bigSep Finset.univ fun c : Dev nD => kvZero (F := F) c) ∗ bigSep Finset.univ fun c : Dev nD => spare (F := F) c)
      = bigSep Finset.univ fun c : Dev nD => iprop(posAt (F := F) c (fun _ => 0) ∗ toksOf c ∗ kvZero c ∗ spare c) := by
    simp only [family_sep]
  simp only [family_sep]
  rw [hI, hR]
  iintro ⟨HI, Hat, #HR, Htok, Hk, Hs⟩
  ihave HK := (BI.bigSep_exists_pi Finset.univ (fun (ck : Dev nD × Kind) (κ : ℕ) => (cellInv ER (ringRd W) κ (cell ck.1 ck.2) : sProp (World F)))) $$ HI
  icases HK with ⟨%K, #HI⟩
  iapply (spread (R := records W K) fun c _ => given_all W K c)
  isplitr
  · unfold records; isplitl; · iexact HI
    iexact HR
  · iapply (Entails.of_eq hL)
    isplitl [Hat]; · iexact Hat
    isplitl [Htok]; · iexact Htok
    isplitl [Hk]; · iexact Hk
    iexact Hs

theorem glob : (bigSep Finset.univ fun c : Dev nD => iprop(ownZero c ∗ unscopedSems0 c ∗ G W c)) ⊢ |={Set.univ}=> bigSep Finset.univ (G' W) :=
  BIBase.Entails.trans (BIBase.Entails.trans (bigSep_mono fun c _ => core_alloc W c) (bigSep_fupd _ _)) (BI.fupd_mono (regroup W))

theorem fund_all : (ownU u₀ : sProp (World F)) ⊢ |={Set.univ}=> iprop(BI.own (EP (initOf (Pipeline.cells cfgs cellOf_inj) (Pipeline.launchToks cfgs cellOf_inj))) ∗ bigSep Finset.univ (G W)) := by
  unfold u₀
  iintro Hu
  ihave H := (ownU_pair _ _) $$ Hu
  icases H with ⟨HP, HX⟩
  ihave HX := (own_pair_emb (embR : Emb (UB × Counters) (World F)) (initOf ringCells ringToks) (1 : Counters)) $$ HX
  icases HX with ⟨HX, -⟩
  imod (fund_ring W) $$ HX with HG
  imodintro
  isplitl [HP]; · iexact HP
  iexact HG

end Fund

end Cert.Proof.Ring
-- ==== Proof.TextEq.lean ====
/- The printed body of `KernelIdeal` is the pieces of `Text` in order. -/
module

public import proofs.«01_k».proof.Proof.Text

@[expose] public section

noncomputable section

namespace Cert.Proof.Ring

open Cert.KernelIdeal
open Idealize.ShloMosaic Idealize.ShloMosaic.TcCoe
open Idealize.SL Idealize.SL.Sem
open Facts₀ Facts

variable {F : FTy → Type} [FloatOps F]

/-! The printed body is cut in three and a tail; `parts` is the pieces cut at the same places. -/

/-- A batch row's eight heads, side by side. -/
def rowLoad (b : Fin 2) : Text F (FVec F S512x512 .bf16) := do
  let x0 ← ctxLoad b 0
  let x1 ← ctxLoad b 1
  let x2 ← ctxLoad b 2
  let x3 ← ctxLoad b 3
  let x4 ← ctxLoad b 4
  let x5 ← ctxLoad b 5
  let x6 ← ctxLoad b 6
  let x7 ← ctxLoad b 7
  pure (sideBySide ![x0, x1, x2, x3, x4, x5, x6, x7])

/-- The words of the device and its neighbours, carried between the parts. -/
def wordOf (c : Dev nD) : BitVec 32 := Scalar.remsi (Scalar.divsi (Dev.word c) 1#32) 8#32
def wrapWord (x : BitVec 32) : BitVec 32 :=
  Scalar.select (Scalar.andi (Scalar.xori (Scalar.cmpi .slt (Scalar.remsi x (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi x (Scalar.select (Scalar.cmpi .eq 8#32 0#32) 1#32 8#32)) 0#32))
    (Scalar.addi (Scalar.remsi x (Scalar.select (Scalar.cmpi .eq 8#32 0#32) 1#32 8#32)) (Scalar.select (Scalar.cmpi .eq 8#32 0#32) 1#32 8#32))
    (Scalar.remsi x (Scalar.select (Scalar.cmpi .eq 8#32 0#32) 1#32 8#32))

def partA (x : Memref sig .tc .vmem S2x512x768 .f32) (wq : Memref sig .tc .vmem S768x512 .f32)
    (wo : Memref sig .tc .vmem S512x768 .f32) (out : Memref sig .tc .vmem S2x512x768 .f32) :
    Text F (Σ' (_ : Dev nD) (_ : BitVec 32) (_ : BitVec 32), BitVec 32) := do
  let c ← Prog.lift .deviceId
  semSignalWord (prv c) barSem 1#32
  semSignalWord (nxt c) barSem 1#32
  semWaitWord barSem 2#32
  roundW wq
  roundO wo
  roundX x
  sendRight wqOwn wOwn woOwn wOwnO 1 c
  sendLeft wqOwn wOwn woOwn wOwnO 1 c
  kvStart (inOwn c) 0 0
  kvStart (inBefore c 0) 1 0
  kvStart (inNext c) 1 1
  kvWait (inOwn c) 0 0
  chunk ldOwnQ ldOwnO out 0 0 true
  leftRight wqOwn wOwn woOwn wOwnO 1
  leftLeft wqOwn wOwn woOwn wOwnO 1
  kvStart (inBefore c 1) 0 0
  kvStart (inAfter c 0) 0 1
  cameRight 1
  fwdRight 1 0 c
  cameLeft 1
  fwdLeft 1 0 c
  kvWait (inBefore c 0) 1 0
  chunkR out 1
  kvWait1 (inNext c) 1 1 0
  kvWait1 (inNext c) 1 1 1
  kvWait1 (inNext c) 1 1 2
  kvWait1 (inNext c) 1 1 3
  kvWait1 (inNext c) 1 1 4
  kWait1 (inNext c) 1 1 5
  pure ⟨c, wordOf c, wrapWord (Scalar.subi (Scalar.addi (wordOf c) 8#32) 1#32), wrapWord (Scalar.addi (wordOf c) 1#32)⟩

def partB (c : Dev nD) (out : Memref sig .tc .vmem S2x512x768 .f32) :
    Text F (Σ' (_ : FVec F S512x512 .f32), FVec F S512x64 .f32) := do
  vWait1 (inNext c) 1 1 5
  kvWait1 (inNext c) 1 1 6
  kvWait1 (inNext c) 1 1 7
  chunkL out 1
  goneRight 1 0
  goneLeft 1 0
  semSignalWord (prv c) (freeSem cc0_scratch21 1) 1#32
  semSignalWord (nxt c) (freeSem cc0_scratch22 1) 1#32
  kvStart (inBefore c 2) 1 0
  kvStart (inAfter c 1) 1 1
  cameRight 0
  semWaitWord (freeSem cc0_scratch21 1) 1#32
  fwdRight 0 1 c
  cameLeft 0
  semWaitWord (freeSem cc0_scratch22 1) 1#32
  fwdLeft 0 1 c
  kvWait (inBefore c 1) 0 0
  chunkR out 0
  kvWait (inAfter c 0) 0 1
  chunkL out 0
  goneRight 0 1
  goneLeft 0 1
  semSignalWord (prv c) (freeSem cc0_scratch21 0) 1#32
  kvStart (inBefore c 3) 0 0
  cameRight 1
  semWaitWord (freeSem cc0_scratch21 0) 1#32
  fwdRight 1 0 c
  cameLeft 1
  kvWait (inBefore c 2) 1 0
  queries1 (ldSlotQ wqR 1) 0
  let x ← Prog.lift (.load xBf (Rect.unit (s := S2x512x768) ![1, 0, 0] S1x512x768.size (inb_wo 1)).toLoadRect
    (View.loadsAt_vmem h_S1x512x768))
  let w ← ldSlotQ wqR 1
  qStore 1 0 (headCols (project x w) 0)
  qStore 1 1 (headCols (project x w) 1)
  qStore 1 2 (headCols (project x w) 2)
  qStore 1 3 (headCols (project x w) 3)
  qStore 1 4 (headCols (project x w) 4)
  qStore 1 5 (headCols (project x w) 5)
  pure ⟨project x w, headCols (project x w) 6⟩

def partC (c : Dev nD) (out : Memref sig .tc .vmem S2x512x768 .f32) (q : FVec F S512x512 .f32) (q6 : FVec F S512x64 .f32) :
    Text F (FVec F S512x512 .bf16) := do
  qStore 1 6 q6
  qStore 1 7 (headCols q 7)
  heads 1 0
  outRow (ldSlotO woR 1) out false 0
  outRow (ldSlotO woR 1) out false 1
  kvWait (inAfter c 1) 1 1
  chunkL out 1
  goneRight 1 0
  cameRight 0
  kvWait (inBefore c 3) 0 0
  queries1 (ldSlotQ wqR 0) 0
  queries1 (ldSlotQ wqR 0) 1
  heads 0 0
  outRow (ldSlotO woR 0) out false 0
  rowLoad 1

def parts (x : Memref sig .tc .vmem S2x512x768 .f32) (wq : Memref sig .tc .vmem S768x512 .f32)
    (wo : Memref sig .tc .vmem S512x768 .f32) (out : Memref sig .tc .vmem S2x512x768 .f32) : Text F PUnit := do
  let r ← partA x wq wo out
  let q ← partB r.1 out
  let y ← partC r.1 out q.1 q.2
  let w ← ldSlotO woR 0
  outStore out false 1 (outBlock y w)

set_option maxRecDepth 100000 in
set_option maxHeartbeats 4000000 in
theorem partA_eq (x : Memref sig .tc .vmem S2x512x768 .f32) (hx : x.IsWhole) (wq : Memref sig .tc .vmem S768x512 .f32) (hwq : wq.IsWhole)
    (wo : Memref sig .tc .vmem S512x768 .f32) (hwo : wo.IsWhole) (out : Memref sig .tc .vmem S2x512x768 .f32) (hout : out.IsWhole) :
    (k0_part176 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
       : Text F (Σ' (_ : Dev nD) (_ : BitVec 32) (_ : BitVec 32), BitVec 32)) = partA x wq wo out := by
  simp only [partA, k0_part176, k0_part33, k0_part34, k0_part35, k0_part36, k0_part37, k0_part38, k0_part39, k0_part40, k0_part41,
    k0_part42, k0_part43, k0_part44, k0_part45, k0_part46, k0_part47, k0_part48, k0_part49, k0_part50, k0_part51,
    k0_part52, k0_part53, k0_part54, k0_part55, k0_part56, k0_part57, k0_part58, k0_part59, k0_part60, k0_part61,
    k0_part62, k0_part63, k0_part64, k0_part65, k0_part66, k0_part67, k0_part68, k0_part69, k0_part70, k0_part71,
    k0_part72, k0_part73, k0_part74, k0_part75, k0_part76, k0_part77, k0_part78, k0_part79, k0_part80, k0_part81,
    k0_part82, k0_part83, k0_part84, k0_part85, k0_part86, k0_part87, k0_part88, k0_part89, k0_part90, k0_part91,
    k0_part92,
    chunk, chunkR, chunkL, roundW, roundO, roundX, sendRight, sendLeft, sendQ, sendO, leftRight, leftLeft, leftQ, leftO,
    cameRight, cameLeft, cameQ, cameO, fwdRight, fwdLeft, goneRight, goneLeft, kvStart, kvWait, eight, kvStart1, kvWait1,
    kWait1, vWait1, queries1, qStore, outRow, outStore, ctxLoad, rowLoad, ldOwnQ, ldOwnO, ldSlotQ, ldSlotO, bind_assoc, pure_bind]
  chain_rfl

set_option maxRecDepth 100000 in
set_option maxHeartbeats 4000000 in
theorem partB_eq (x : Memref sig .tc .vmem S2x512x768 .f32) (hx : x.IsWhole) (wq : Memref sig .tc .vmem S768x512 .f32) (hwq : wq.IsWhole)
    (wo : Memref sig .tc .vmem S512x768 .f32) (hwo : wo.IsWhole) (out : Memref sig .tc .vmem S2x512x768 .f32) (hout : out.IsWhole) (c : Dev nD)
    (v2 v14 v25 : BitVec 32) :
    (k0_part177 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      c v2 v14 v25 : Text F (Σ' (_ : FVec F S512x512 .f32), FVec F S512x64 .f32)) = partB c out := by
  simp only [partB, k0_part177, k0_part93, k0_part94, k0_part95, k0_part96, k0_part97, k0_part98, k0_part99, k0_part100, k0_part101,
    k0_part102, k0_part103, k0_part104, k0_part105, k0_part106, k0_part107, k0_part108, k0_part109, k0_part110, k0_part111,
    k0_part112, k0_part113, k0_part114, k0_part115, k0_part116, k0_part117, k0_part118, k0_part119, k0_part120, k0_part121,
    k0_part122, k0_part123, k0_part124, k0_part125, k0_part126, k0_part127, k0_part128, k0_part129, k0_part130, k0_part131,
    k0_part132, k0_part133, k0_part134, k0_part135, k0_part136, k0_part137, k0_part138, k0_part139, k0_part140, k0_part141,
    k0_part142, k0_part143, k0_part144, k0_part145, k0_part146, k0_part147, k0_part148, k0_part149, k0_part150, k0_part151,
    k0_part152,
    chunk, chunkR, chunkL, roundW, roundO, roundX, sendRight, sendLeft, sendQ, sendO, leftRight, leftLeft, leftQ, leftO,
    cameRight, cameLeft, cameQ, cameO, fwdRight, fwdLeft, goneRight, goneLeft, kvStart, kvWait, eight, kvStart1, kvWait1,
    kWait1, vWait1, queries1, qStore, outRow, outStore, ctxLoad, rowLoad, ldOwnQ, ldOwnO, ldSlotQ, ldSlotO, bind_assoc, pure_bind]
  chain_rfl

set_option maxRecDepth 100000 in
set_option maxHeartbeats 4000000 in
theorem partC_eq (x : Memref sig .tc .vmem S2x512x768 .f32) (hx : x.IsWhole) (wq : Memref sig .tc .vmem S768x512 .f32) (hwq : wq.IsWhole)
    (wo : Memref sig .tc .vmem S512x768 .f32) (hwo : wo.IsWhole) (out : Memref sig .tc .vmem S2x512x768 .f32) (hout : out.IsWhole) (c : Dev nD) (v14 : BitVec 32) (q : FVec F S512x512 .f32) (q6 : FVec F S512x64 .f32) :
    (k0_part178 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      c v14 q q6 : Text F (FVec F S512x512 .bf16)) = partC c out q q6 := by
  simp only [partC, k0_part178, k0_part153, k0_part154, k0_part155, k0_part156, k0_part157, k0_part158, k0_part159, k0_part160, k0_part161,
    k0_part162, k0_part163, k0_part164, k0_part165, k0_part166, k0_part167, k0_part168, k0_part169, k0_part170, k0_part171,
    k0_part172, k0_part173, k0_part174, k0_part175,
    chunk, chunkR, chunkL, roundW, roundO, roundX, sendRight, sendLeft, sendQ, sendO, leftRight, leftLeft, leftQ, leftO,
    cameRight, cameLeft, cameQ, cameO, fwdRight, fwdLeft, goneRight, goneLeft, kvStart, kvWait, eight, kvStart1, kvWait1,
    kWait1, vWait1, queries1, qStore, outRow, outStore, ctxLoad, rowLoad, ldOwnQ, ldOwnO, ldSlotQ, ldSlotO, bind_assoc, pure_bind]
  chain_rfl

/-- The printed body is the parts. -/
theorem body_parts (x : Memref sig .tc .vmem S2x512x768 .f32) (hx : x.IsWhole) (wq : Memref sig .tc .vmem S768x512 .f32) (hwq : wq.IsWhole)
    (wo : Memref sig .tc .vmem S512x768 .f32) (hwo : wo.IsWhole) (out : Memref sig .tc .vmem S2x512x768 .f32) (hout : out.IsWhole) :
    (cc0_body x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      : Text F PUnit) = parts x wq wo out := by
  show (k0_part176 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      >>= fun r => _) = _
  rw [partA_eq]
  refine congrArg (partA x wq wo out >>= ·) (funext fun r => ?_)
  show (k0_part177 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      r.1 r.2.1 r.2.2.1 r.2.2.2 >>= fun q => _) = _
  rw [partB_eq]
  refine congrArg (partB r.1 out >>= ·) (funext fun q => ?_)
  show (k0_part178 x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      r.1 r.2.2.1 q.1 q.2 >>= fun q => _) = _
  rw [partC_eq]
  rfl

set_option maxRecDepth 100000 in
set_option maxHeartbeats 4000000 in
/-- The parts are the pieces. -/
theorem parts_eq (x : Memref sig .tc .vmem S2x512x768 .f32) (wq : Memref sig .tc .vmem S768x512 .f32)
    (wo : Memref sig .tc .vmem S512x768 .f32) (out : Memref sig .tc .vmem S2x512x768 .f32) :
    (parts x wq wo out : Text F PUnit) = pieces x wq wo out := by
  simp only [parts, partA, partB, partC, pieces, chunk, chunkR, chunkL, kvWait, eight, kvWait1, queries1, outRow, rowLoad,
    bind_assoc, pure_bind]
  chain_rfl

/-- The printed body is the pieces. -/
theorem body_eq (x : Memref sig .tc .vmem S2x512x768 .f32) (hx : x.IsWhole) (wq : Memref sig .tc .vmem S768x512 .f32) (hwq : wq.IsWhole)
    (wo : Memref sig .tc .vmem S512x768 .f32) (hwo : wo.IsWhole) (out : Memref sig .tc .vmem S2x512x768 .f32) (hout : out.IsWhole) :
    (cc0_body x hx wq hwq (Memref.whole main_arg2) (Memref.isWhole_whole _) (Memref.whole main_arg3) (Memref.isWhole_whole _)
      wo hwo out hout (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) cc0_scratch11 cc0_scratch12 cc0_scratch13 cc0_scratch14
      cc0_scratch15 cc0_scratch16 cc0_scratch17 cc0_scratch18 cc0_scratch19 cc0_scratch20 cc0_scratch21 cc0_scratch22
      : Text F PUnit) = pieces x wq wo out :=
  (body_parts x hx wq hwq wo hwo out hout).trans (parts_eq x wq wo out)

end Cert.Proof.Ring
-- ==== Proof.Run.lean ====
/- The run of the kernel on all devices. -/
module

public import proofs.«01_k».proof.Proof.Launch
public import proofs.«01_k».proof.Proof.TextEq
public import Idealize.ShloMosaic.Lib.Pipeline.CollectiveSegs

@[expose] public section

noncomputable section

namespace Cert.Proof.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts

variable {F : FTy → Type} [FloatOps F]
variable (m : (ℓ : Loc nD τ sig) → Buf (Elt F) ℓ) (ρ : Dev nD → PrngReg)

/-- The weights of the groups, rounded: those each device is given. -/
def weights : Weights F where
  q g := rounded (show S768x512.Idx → F .f32 from m ((g : Thread nD τ).loc main_arg1))
  o g := rounded (show S512x768.Idx → F .f32 from m ((g : Thread nD τ).loc main_arg4))

abbrev xAt (c : Dev nD) : S2x512x768.Idx → F .f32 := m ((c : Thread nD τ).loc main_arg0)
abbrev qAt (c : Dev nD) : S768x512.Idx → F .f32 := m ((c : Thread nD τ).loc main_arg1)
abbrev oAt (c : Dev nD) : S512x768.Idx → F .f32 := m ((c : Thread nD τ).loc main_arg4)
abbrev keysAt (c : Dev nD) : Buf (Elt F) (kHbm.view.loc (c : Thread nD τ)) := m ((c : Thread nD τ).loc main_arg2)
abbrev valsAt (c : Dev nD) : Buf (Elt F) (vHbm.view.loc (c : Thread nD τ)) := m ((c : Thread nD τ).loc main_arg3)

/-- What device `c` computes. -/
def result (c : Dev nD) : S2x512x768.Idx → F .f32 :=
  total (weights m) c (keysAt m c) (valsAt m c) (rounded (xAt m c)) (xAt m c)

def operands (c : Dev nD) : sProp (World F) :=
  iprop((kHbm.view.loc (c : Thread nD τ) ↦{fullShare} keysAt m c) ∗ (vHbm.view.loc (c : Thread nD τ) ↦{fullShare} valsAt m c))

def start (c : Dev nD) : sProp (World F) :=
  iprop((∃ K, Env (weights m) K) ∗ posAt c (fun _ => 0) ∗ toksOf c ∗ Owed c ∗ kvZero c ∗ spare c ∗ operands m c)

def before0 (c : Dev nD) : sProp (World F) := iprop(start m c ∗ Pipeline.scopedRest spec0 c)
def after0 (c : Dev nD) : sProp (World F) := iprop((unscopedSems0 c ∗ operands m c) ∗ ownZero c ∗ Pipeline.scopedRest spec0 c)

def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => qAt m c
    | ⟨2, _⟩ => oAt m c
    | ⟨3, _⟩ => result m c
  Φ t := match t with
    | ⟨0, _⟩ => before0 m c
    | ⟨_ + 1, _⟩ => after0 m c
  q _ := fullShare
  owed t := match t with
    | ⟨0, _⟩ => duesAt c dues
    | ⟨_ + 1, _⟩ => 0

/-! ## The body -/

theorem start_intro (c : Dev nD) :
    iprop(Pipeline.unscopedRestP Pipeline.Prefetch.none cfg0.spec c (fun b => m ((c : Thread nD τ).loc b)) ∗ levAts (SiteBlocks.L 9) SiteBlocks.lv
        ∗ Pipeline.launchCred (fun d => duesAt d dues) c ∗ prngReg c (ρ c) ∗ G' (weights m) c)
      ⊢ |={Set.univ}=> iprop(start m c ∗ emp) := by
  rw [Pipeline.unscopedRestP_none, unscopedRest0_eq]
  unfold start G' operands
  iintro ⟨⟨HK, HV⟩, Hlev, Hcr, -, ⟨%K, HI⟩, Hat, Htok, Hk, Hs⟩
  ihave Hcr := (owed_intro c) $$ Hcr
  imodintro
  isplitl
  · isplitl [HI Hlev]
    · iexists K
      unfold Env
      isplitl [HI]; · iexact HI
      iexact Hlev
    isplitl [Hat]; · iexact Hat
    isplitl [Htok]; · iexact Htok
    isplitl [Hcr]; · iexact Hcr
    isplitl [Hk]; · iexact Hk
    isplitl [Hs]; · iexact Hs
    isplitl [HK]; · iexact HK
    iexact HV
  · iempintro

section Body
variable (c : Dev nD) (mx : Memref sig .tc .vmem S2x512x768 .f32) (mq : Memref sig .tc .vmem S768x512 .f32) (mo : Memref sig .tc .vmem S512x768 .f32)
    (out : Memref sig .tc .vmem S2x512x768 .f32) (z : S2x512x768.Idx → F .f32)

theorem runs_body :
    iprop(before0 m c ∗ (∃ ws, owes (c : Thread nD τ) (duesAt c dues) ws) ∗ own (e := .f32) c mx fullShare (xAt m c) ∗ own (e := .f32) c mq fullShare (qAt m c)
        ∗ own (e := .f32) c mo fullShare (oAt m c) ∗ own (e := .f32) c out fullShare z)
      ⊢ runs c (pieces mx mq mo out) fun _ => iprop(after0 m c ∗ (∃ ws, owes (c : Thread nD τ) (0 : CellTallies nD τ sig ℕ) ws) ∗ own (e := .f32) c mx fullShare (xAt m c)
        ∗ own (e := .f32) c mq fullShare (qAt m c) ∗ own (e := .f32) c mo fullShare (oAt m c) ∗ own (e := .f32) c out fullShare (result m c)) := by
  refine BIBase.Entails.trans ?_ (wp_fupd _ _ _ _ _)
  unfold before0 after0 start operands
  iintro ⟨⟨⟨⟨%K, #HE⟩, Hat, Htok, Howed, Hkv, Hs, HK, HV⟩, Hscr⟩, HO, Hx, Hq, Ho, Hz⟩
  ihave Hscr := (scratch_eq c).1 $$ Hscr
  icases Hscr with ⟨Hscr, Hslots, H7, H8⟩
  ihave Hpl := (places_eq c (keysAt m c) (valsAt m c)).1 $$ [HK HV H7 H8 Hkv]
  · isplitl [HK]; · iexact HK
    isplitl [HV]; · iexact HV
    isplitl [H7]; · iexact H7
    isplitl [H8]; · iexact H8
    iexact Hkv
  icases Hpl with ⟨Hrest, Hpl⟩
  ihave Hat := (positions_intro c) $$ Hat
  ihave Htok := (show toksOf c ⊢ Rights (F := F) c from rights_intro c) $$ Htok
  iapply (runs_whole (weights m) K qs c (keysAt m c) (valsAt m c) mx mq mo out (xAt m c) (qAt m c) (oAt m c) rfl rfl z _)
  isplitr; · iexact HE
  isplitl [HO]; · unfold Due; iexact HO
  isplitl [Htok]; · iexact Htok
  isplitl [Hat]; · iexact Hat
  isplitl [Howed]; · iexact Howed
  isplitl [Hslots]; · iexact Hslots
  isplitl [Hpl]; · iexact Hpl
  isplitl [Hscr]; · iexact Hscr
  isplitl [Hx Hq Ho]
  · unfold Given
    isplitl [Hx]; · iexact Hx
    isplitl [Hq]; · iexact Hq
    iexact Ho
  isplitl [Hz]; · iexact Hz
  iintro ⟨HO, Hat, Hslots, Hpl, Hscr, HG, Hz⟩
  ihave Hat := (finals_elim c) $$ Hat
  imod (close_all (weights m) K c) $$ [Hat] with Hzero
  · isplitr; · iexact HE
    iexact Hat
  ihave Hpl := (places_eq c (keysAt m c) (valsAt m c)).2 $$ [Hrest Hpl]
  · isplitl [Hrest]; · iexact Hrest
    iexact Hpl
  icases Hpl with ⟨HK, HV, H7, H8, Hkv⟩
  ihave Hsem := (zero_eq c).2 $$ [Hzero Hkv Hs]
  · isplitl [Hzero]; · iexact Hzero
    isplitl [Hkv]; · iexact Hkv
    iexact Hs
  icases Hsem with ⟨Hos, Hus⟩
  unfold Given
  icases HG with ⟨Hx, Hq, Ho⟩
  imodintro
  isplitl [Hos Hus HK HV H7 H8 Hslots Hscr]
  · isplitl [Hus HK HV]
    · isplitl [Hus]; · iexact Hus
      isplitl [HK]; · iexact HK
      iexact HV
    isplitl [Hos]; · iexact Hos
    iapply (scratch_eq c).2
    isplitl [Hscr]; · iexact Hscr
    isplitl [Hslots]; · iexact Hslots
    isplitl [H7]; · iexact H7
    iexact H8
  isplitl [HO]; · unfold Due; iexact HO
  isplitl [Hx]; · iexact Hx
  isplitl [Hq]; · iexact Hq
  isplitl [Ho]; · iexact Ho
  iexact Hz

end Body

/-! ## The windows -/

theorem at_zero (n : ℕ) : 0 + 1 * n = n := by omega

theorem read_x (t : Fin grid0.N) (f : S2x512x768.Idx → F .f32) : (win0_0.blk t).view.read (Elt F) f = f := by
  rw [fin_N0 t]
  funext i
  refine congrArg f (funext fun a => Fin.ext ?_)
  fin_cases a <;> exact at_zero _
theorem read_q (t : Fin grid0.N) (f : S768x512.Idx → F .f32) : (win0_1.blk t).view.read (Elt F) f = f := by
  rw [fin_N0 t]
  funext i
  refine congrArg f (funext fun a => Fin.ext ?_)
  fin_cases a <;> exact at_zero _
theorem read_o (t : Fin grid0.N) (f : S512x768.Idx → F .f32) : (win0_2.blk t).view.read (Elt F) f = f := by
  rw [fin_N0 t]
  funext i
  refine congrArg f (funext fun a => Fin.ext ?_)
  fin_cases a <;> exact at_zero _
theorem read_out (t : Fin grid0.N) (f : S2x512x768.Idx → F .f32) : (win0_3.blk t).view.read (Elt F) f = f := by
  rw [fin_N0 t]
  funext i
  refine congrArg f (funext fun a => Fin.ext ?_)
  fin_cases a <;> exact at_zero _

theorem found_x (c : Dev nD) (t : Fin cfg0.N) (d) : (dats m 0 c).before (0 : Fin 4) t d = xAt m c := by
  unfold Dat.before; rw [if_pos (fetch0_0 t)]; exact read_x t (xAt m c)
theorem found_q (c : Dev nD) (t : Fin cfg0.N) (d) : (dats m 0 c).before (1 : Fin 4) t d = qAt m c := by
  unfold Dat.before; rw [if_pos (fetch0_1 t)]; exact read_q t (qAt m c)
theorem found_o (c : Dev nD) (t : Fin cfg0.N) (d) : (dats m 0 c).before (2 : Fin 4) t d = oAt m c := by
  unfold Dat.before; rw [if_pos (fetch0_2 t)]; exact read_o t (oAt m c)

/-- What the output's array holds at the end. -/
theorem final_out (c : Dev nD) : (dats m 0 c).arrAt (3 : Fin 4) cfg0.N = result m c := by
  have h : (dats m 0 c).arrAt (3 : Fin 4) cfg0.N
      = (win0_3.blk t0_0).view.write (Elt F) (m ((c : Thread nD τ).loc main_v1)) (result m c) Finset.univ := by
    rw [show cfg0.N = 1 from N_0]
    rfl
  rw [h, ← read_out t0_0 ((win0_3.blk t0_0).view.write (Elt F) (m ((c : Thread nD τ).loc main_v1)) (result m c) Finset.univ)]
  exact View.read_write_univ _ _

abbrev bodyBefore (c : Dev nD) : sProp (World F) :=
  iprop(before0 m c ∗ (dats m 0 c).owesAt (0 : ℕ) (t0_0 : Fin cfg0.N).castSucc
    ∗ (∃ d, own (e := .f32) c (win0_0.stage (cfg0.slots t0_0 (0 : Fin 4))) fullShare ((dats m 0 c).before (0 : Fin 4) t0_0 d))
    ∗ (∃ d, own (e := .f32) c (win0_1.stage (cfg0.slots t0_0 (1 : Fin 4))) fullShare ((dats m 0 c).before (1 : Fin 4) t0_0 d))
    ∗ (∃ d, own (e := .f32) c (win0_2.stage (cfg0.slots t0_0 (2 : Fin 4))) fullShare ((dats m 0 c).before (2 : Fin 4) t0_0 d))
    ∗ (∃ d, own (e := .f32) c (win0_3.stage (cfg0.slots t0_0 (3 : Fin 4))) fullShare ((dats m 0 c).before (3 : Fin 4) t0_0 d)))
abbrev bodyAfter (c : Dev nD) : sProp (World F) :=
  iprop(after0 m c ∗ (dats m 0 c).owesAt (0 : ℕ) (t0_0 : Fin cfg0.N).succ
    ∗ own (e := .f32) c (win0_0.stage (cfg0.slots t0_0 (0 : Fin 4))) fullShare (xAt m c)
    ∗ own (e := .f32) c (win0_1.stage (cfg0.slots t0_0 (1 : Fin 4))) fullShare (qAt m c)
    ∗ own (e := .f32) c (win0_2.stage (cfg0.slots t0_0 (2 : Fin 4))) fullShare (oAt m c)
    ∗ own (e := .f32) c (win0_3.stage (cfg0.slots t0_0 (3 : Fin 4))) fullShare (result m c))

theorem body_runs (c : Dev nD) : bodyBefore m c ⊢ runs c (bodyAt0 t0_0) fun _ => bodyAfter m c := by
  have hw : (dats m 0 c).owesAt (0 : ℕ) (t0_0 : Fin cfg0.N).castSucc ⊢ (iprop(∃ ws, owes (c : Thread nD τ) (duesAt c dues) ws) : sProp (World F)) := by
    unfold Dat.owesAt Pipeline.owesWithin
    iintro ⟨%ws, -, H⟩
    iexists ws; iexact H
  have hq : ∀ _ : PUnit, iprop(after0 m c ∗ (∃ ws, owes (c : Thread nD τ) (0 : CellTallies nD τ sig ℕ) ws)
        ∗ own (e := .f32) c (win0_0.stage (cfg0.slots t0_0 (0 : Fin 4))) fullShare (xAt m c)
        ∗ own (e := .f32) c (win0_1.stage (cfg0.slots t0_0 (1 : Fin 4))) fullShare (qAt m c)
        ∗ own (e := .f32) c (win0_2.stage (cfg0.slots t0_0 (2 : Fin 4))) fullShare (oAt m c)
        ∗ own (e := .f32) c (win0_3.stage (cfg0.slots t0_0 (3 : Fin 4))) fullShare (result m c)) ⊢ bodyAfter m c := fun _ => by
    unfold bodyAfter Dat.owesAt Pipeline.owesWithin
    iintro ⟨Ha, ⟨%ws, HO⟩, H⟩
    isplitl [Ha]; · iexact Ha
    isplitl [HO]
    · iexists ws
      isplitr; · ipureintro; exact fun _ _ => Or.inl trivial
      iexact HO
    iexact H
  unfold bodyAt0
  rw [body_eq]
  refine BIBase.Entails.trans ?_ (wp_mono _ _ _ hq)
  unfold bodyBefore
  iintro ⟨Hb, HO, ⟨%d0, H0⟩, ⟨%d1, H1⟩, ⟨%d2, H2⟩, ⟨%d3, H3⟩⟩
  rw [found_x, found_q, found_o]
  iapply (runs_body m c _ _ _ _ ((dats m 0 c).before (3 : Fin 4) t0_0 d3))
  isplitl [Hb]; · iexact Hb
  isplitl [HO]; · iapply hw; iexact HO
  isplitl [H0]; · iexact H0
  isplitl [H1]; · iexact H1
  isplitl [H2]; · iexact H2
  iexact H3

set_option maxRecDepth 4000 in
theorem body_obligation (c : Dev nD) : BodyObligation (dats (F := F) m 0 c) (defs₀ (F := F)) 𝒱₀ (0 : ℕ) Set.univ := fun t => by
  rw [show t = (t0_0 : Fin cfg0.N) from fin_N0 t]
  rw [bigSep_W0, bigSep_W0]
  exact body_runs m c

/-! ## The run -/

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before0 m c
  unfold before0
  iintro ⟨Hs, -, Hr⟩
  isplitl [Hs]; · iexact Hs
  iexact Hr

theorem waits (c : Dev nD) : (levAts (SiteBlocks.L 9) SiteBlocks.lv : sProp (World F)) ⊢ Pipeline.cellsWaits cfgs (dats m) (0 : ℕ) 0 c :=
  Pipeline.cellsWaits_intro cfgs (dats m) (0 : ℕ) 0 c fun w s t => by
    rcases t with ⟨_ | _, ht⟩
    · exact lev_mayWait c _ 0 (by decide) dues (by decide)
    · exact lev_mayWait c _ 0 (by decide) [] (by decide)

theorem share_eq (c : Dev nD) (w : Fin cfg0.W) : (dats m 0 c).share w = fullShare := by unfold Dat.share; split <;> rfl

theorem read_operands (c : Dev nD) (s' : Phys nD τ sig (Elt F)) :
    iprop((unscopedSems0 c ∗ operands m c) ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') : sProp (World F)) := by
  unfold operands
  iintro ⟨⟨Hu, HK, HV⟩, -, HSI⟩
  ihave %hk := (SI_pointsTo_agree (st := s') (ℓ := kHbm.view.loc (c : Thread nD τ)) (I := Finset.univ) (q := fullShare) (f := keysAt m c)) $$ [HSI HK]
  · isplitl [HSI]; · iexact HSI
    iexact HK
  ihave %hv := (SI_pointsTo_agree (st := s') (ℓ := vHbm.view.loc (c : Thread nD τ)) (I := Finset.univ) (q := fullShare) (f := valsAt m c)) $$ [HSI HV]
  · isplitl [HSI]; · iexact HSI
    iexact HV
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, funext fun i => hk i (Finset.mem_univ i), funext fun i => hv i (Finset.mem_univ i)⟩
  iexact HSI

/-- What is so at the end of every run. -/
def AllDone : PUnit × MemSt nD τ sig (Elt F) → Prop := fun r =>
  (∀ c : Dev nD, r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

set_option maxRecDepth 8000 in
theorem run_main : θ_run defs (onTc (τ := τ) (main (F := F))) ⟨m, fun _ => 0, ρ⟩ (AllDone m) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => duesAt d dues) (howed₀ := fun _ => rfl) (howedN := fun _ => rfl)
    (L := SiteBlocks.L 9) (lv := SiteBlocks.lv) (hL := SiteBlocks.hL 9) (hwaits := waits m)
    (G := G (weights m)) (G' := G' (weights m)) (u₀ := u₀)
    (hu₀ := fund_all (weights m)) (hglob := glob (weights m))
    (hA := fun _ _ => rfl) (hpf := fun _ k => k.elim0)
    (X := start m) (Y := fun c => iprop(unscopedSems0 c ∗ operands m c)) (Z := fun _ => iprop(emp))
    (hX := start_intro m ρ) (hin := phi0_intro m) (hout := fun c => Entails.of_eq rfl)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := read_operands m)
    (hQ := fun s h hs => ⟨fun c => ⟨((h c).1 (3 : Fin 4)).trans (final_out m c),
      ((h c).1 (0 : Fin 4)).trans ((dats m 0 c).arrAt_in (0 : Fin 4) rfl _),
      ((h c).1 (1 : Fin 4)).trans ((dats m 0 c).arrAt_in (1 : Fin 4) rfl _),
      (h c).2.2.2.1, (h c).2.2.2.2,
      ((h c).1 (2 : Fin 4)).trans ((dats m 0 c).arrAt_in (2 : Fin 4) rfl _)⟩, sem_eq_zero hs fun c => (h c).2.2.1⟩)

end Cert.Proof.Ring
-- ==== Proof.Sum.lean ====
/- What a device computes over the extended reals: the sum over the groups of their parts. -/
module

public import proofs.«01_k».proof.Proof.Reads
public import proofs.«01_k».proof.Proof.Run

@[expose] public section

noncomputable section

namespace Cert.Proof.Ring

open Cert.KernelIdeal Cert.KernelIdeal.Gen
open Idealize.ShloMosaic Idealize.ShloMosaic.TcCoe Idealize.ShloMosaic.ValueIdx

/-! ## Where the groups' heads are -/

theorem offOwn_at (c : Dev nD) (h : Fin 8) : offOwn c h = ![0, 0, 8 * c.val + h.val, 0] := by revert c h; decide +kernel
theorem offBefore_at (c : Dev nD) (r : Fin 4) (h : Fin 8) : offBefore c r h = ![0, 0, 8 * (org true (r.val + 1) c).val + h.val, 0] := by
  revert c r h; decide +kernel
theorem offNext_at (c : Dev nD) (h : Fin 8) : offNext c h = ![0, 0, 8 * (org false 1 c).val + h.val, 0] := by revert c h; decide +kernel
theorem offAfter_at (c : Dev nD) (r : Fin 2) (h : Fin 8) : offAfter c r h = ![0, 0, 8 * (org false (r.val + 2) c).val + h.val, 0] := by
  revert c r h; decide +kernel

/-- Head `h` of group `g`. -/
def groupHead (g h : Fin 8) : Fin 64 := ⟨8 * g.val + h.val, by omega⟩

/-- The keys or the values of a group's heads. -/
def groupKV (A : S2x512x64x64.Idx → EReal) (g : Fin 8) : KV Ideal := fun h j => A (ix4 (j 0) (j 1) (groupHead g h) (j 2))

theorem slice_at (M : Memref sig .tc .hbm S2x512x64x64 .f32) (off : Fin 4 → ℕ)
    (inb : ∀ a, off a + S2x512x1x64.size a ≤ S2x512x64x64.size a) (X : M.view.ty.Contents (Elt Ideal)) (g h : Fin 8)
    (ho : off = ![0, 0, 8 * g.val + h.val, 0]) (j : S2x512x64.Idx) :
    (kvSrc M off inb).view.read (Elt Ideal) X j = M.view.read (Elt Ideal) X (ix4 (j 0) (j 1) (groupHead g h) (j 2)) := by
  subst ho
  refine (congrFun (Memref.read_squeeze_slice M _ _ _ (by decide : (⟨4, ![2, 512, 1, 64]⟩ : Shape).ShapeCasts ⟨3, ![2, 512, 64]⟩) X) j).trans ?_
  refine (shapeCast_apply _ _ j (ix4 (j 0) (j 1) (0 : Fin 1) (j 2) : (⟨4, ![2, 512, 1, 64]⟩ : Shape).Idx) ?_).trans ?_
  · rw [Shape.rowMajor_val_four, Shape.rowMajor_val_three]
    show (((j 0).val * 512 + (j 1).val) * 1 + 0) * 64 + (j 2).val = ((j 0).val * 512 + (j 1).val) * 64 + (j 2).val
    omega
  · refine congrArg (M.view.read (Elt Ideal) X) (funext fun a => Fin.ext ?_)
    revert a
    refine forall4.mpr ⟨?_, ?_, ?_, ?_⟩
    · show 0 + 1 * (j 0).val = (j 0).val; omega
    · show 0 + 1 * (j 1).val = (j 1).val; omega
    · show 8 * g.val + h.val + 1 * 0 = 8 * g.val + h.val; omega
    · show 0 + 1 * (j 2).val = (j 2).val; omega

theorem brought_keys (c : Dev nD) {off : Fin 8 → Fin 4 → ℕ} (H : InHeads off) (X : S2x512x64x64.Idx → EReal) (g : Fin 8)
    (ho : ∀ h, off h = ![0, 0, 8 * g.val + h.val, 0]) : brought (F := Ideal) c kHbm H X = groupKV X g :=
  funext fun h => funext fun j => slice_at kHbm _ (H h) X g h (ho h) j
theorem brought_vals (c : Dev nD) {off : Fin 8 → Fin 4 → ℕ} (H : InHeads off) (X : S2x512x64x64.Idx → EReal) (g : Fin 8)
    (ho : ∀ h, off h = ![0, 0, 8 * g.val + h.val, 0]) : brought (F := Ideal) c vHbm H X = groupKV X g :=
  funext fun h => funext fun j => slice_at vHbm _ (H h) X g h (ho h) j

/-! ## The sum -/

/-- Eight terms, one for each group, in the order a device works on them. -/
theorem ring_sum (c : Dev nD) (f : Fin 8 → EReal) :
    f c + f (org true 1 c) + f (org false 1 c) + f (org true 2 c) + f (org false 2 c) + f (org true 3 c) + f (org false 3 c)
      + f (org true 4 c) = ∑ g : Fin 8, f g := by
  have hp : ∀ c : Dev nD, List.Perm [c, org true 1 c, org false 1 c, org true 2 c, org false 2 c, org true 3 c, org false 3 c, org true 4 c]
      (List.finRange 8) := by decide +kernel
  refine Eq.trans ?_ (((hp c).map f).sum_eq.trans (Fin.sum_univ_def f).symm)
  simp only [List.map_cons, List.map_nil, List.sum_cons, List.sum_nil, add_zero, add_assoc]

section Whole
variable (W : Weights Ideal) (c : Dev nD) (X X' : S2x512x64x64.Idx → EReal) (x : S2x512x768.Idx → EReal)

/-- A group's part of an output. -/
def share (g : Fin 8) (b : Fin 2) (i : Fin 512) (e : Fin 768) : EReal :=
  partOf x (W.q g) (W.o g) (groupKV X g) (groupKV X' g) b (ix2 i e)

theorem adds_first {off : Fin 8 → Fin 4 → ℕ} (H : InHeads off) (g : Fin 8) (ho : ∀ h, off h = ![0, 0, 8 * g.val + h.val, 0])
    (o : S2x512x768.Idx → EReal) (b : Fin 2) (i : Fin 512) (e : Fin 768) :
    adds W c X X' true H x g o (ix3 b i e) = share W X X' x g b i e := by
  unfold adds share
  rw [brought_keys c H X g ho, brought_vals c H X' g ho]
  rfl

theorem adds_next {off : Fin 8 → Fin 4 → ℕ} (H : InHeads off) (g : Fin 8) (ho : ∀ h, off h = ![0, 0, 8 * g.val + h.val, 0])
    (o : S2x512x768.Idx → EReal) (b : Fin 2) (i : Fin 512) (e : Fin 768) :
    adds W c X X' false H x g o (ix3 b i e) = o (ix3 b i e) + share W X X' x g b i e := by
  unfold adds share
  rw [brought_keys c H X g ho, brought_vals c H X' g ho]
  rfl

theorem total_apply (o : S2x512x768.Idx → EReal) (b : Fin 2) (i : Fin 512) (e : Fin 768) :
    total W c X X' x o (ix3 b i e) = ∑ g : Fin 8, share W X X' x g b i e := by
  unfold total
  rw [adds_next W c X X' x (inBefore c 3) (org true 4 c) (offBefore_at c 3), adds_next W c X X' x (inAfter c 1) (org false 3 c) (offAfter_at c 1),
    adds_next W c X X' x (inBefore c 2) (org true 3 c) (offBefore_at c 2), adds_next W c X X' x (inAfter c 0) (org false 2 c) (offAfter_at c 0),
    adds_next W c X X' x (inBefore c 1) (org true 2 c) (offBefore_at c 1), adds_next W c X X' x (inNext c) (org false 1 c) (offNext_at c),
    adds_next W c X X' x (inBefore c 0) (org true 1 c) (offBefore_at c 0), adds_first W c X X' x (inOwn c) c (offOwn_at c)]
  exact ring_sum c fun g => share W X X' x g b i e

end Whole

end Cert.Proof.Ring
-- ==== Proof.Ref.lean ====
/- What the reference computes, read at an index: each row attended over all columns, the masked ones at minus infinity. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Reads

@[expose] public section

noncomputable section

namespace Cert.Proof.Ring

open Cert.ReferenceIdeal Cert.ReferenceIdeal.Gen Cert.ReferenceIdeal.Read
open Idealize.ShloMosaic Idealize.ShloMosaic.TcCoe Idealize.ShloMosaic.ValueIdx

/-! ## Indices by their coordinates -/

section At
variable {n₀ n₁ n₂ n₃ : ℕ}

theorem at1 (i : (⟨1, ![n₀]⟩ : Shape).Idx) (a : Fin n₀) (h0 : (i 0).val = a.val) : i = ix1 a :=
  funext fun k => Fin.ext (by fin_cases k; exact h0)
theorem at2 (i : (⟨2, ![n₀, n₁]⟩ : Shape).Idx) (a : Fin n₀) (b : Fin n₁) (h0 : (i 0).val = a.val) (h1 : (i 1).val = b.val) : i = ix2 a b :=
  funext fun k => Fin.ext (by fin_cases k; exacts [h0, h1])
theorem at3 (i : (⟨3, ![n₀, n₁, n₂]⟩ : Shape).Idx) (a : Fin n₀) (b : Fin n₁) (c : Fin n₂) (h0 : (i 0).val = a.val) (h1 : (i 1).val = b.val)
    (h2 : (i 2).val = c.val) : i = ix3 a b c :=
  funext fun k => Fin.ext (by fin_cases k; exacts [h0, h1, h2])
theorem at4 (i : (⟨4, ![n₀, n₁, n₂, n₃]⟩ : Shape).Idx) (a : Fin n₀) (b : Fin n₁) (c : Fin n₂) (d : Fin n₃) (h0 : (i 0).val = a.val)
    (h1 : (i 1).val = b.val) (h2 : (i 2).val = c.val) (h3 : (i 3).val = d.val) : i = ix4 a b c d :=
  funext fun k => Fin.ext (by fin_cases k; exacts [h0, h1, h2, h3])

end At

/-! ## The mask -/

theorem rowBlock_apply (i : Fin 512) : val_main_v3 (F := Ideal) (ix1 i) = BitVec.ofNat 32 (i.val / 64) := by
  revert i; decide +kernel
theorem colBlock_apply (i : Fin 512) : val_main_v6 (F := Ideal) (ix1 i) = BitVec.ofNat 32 (i.val / 64) := by
  revert i; decide +kernel
theorem colClass_apply (i : Fin 512) : val_main_v11 (F := Ideal) (ix2 (0 : Fin 1) i) = BitVec.ofNat 32 (cls i).val := by
  revert i; decide +kernel
theorem rowClass_apply (i : Fin 512) : val_main_v12 (F := Ideal) (ix2 i (0 : Fin 1)) = BitVec.ofNat 32 (cls i).val := by
  revert i; decide +kernel

theorem mask_blocks : ∀ a b : Fin 8, IntOp.ori (IntOp.cmpi .eq (BitVec.ofNat 32 a.val) (BitVec.ofNat 32 b.val))
    (IntOp.cmpi .eq (BitVec.ofNat 32 (b.val % 4)) (BitVec.ofNat 32 (a.val % 4))) = if b.val % 4 = a.val % 4 then 1#1 else 0#1 := by
  decide +kernel

/-- The mask keeps a column whose block is of the row's class. -/
theorem mask_apply (i j : Fin 512) : val_main_v16 (F := Ideal) (ix2 i j) = if cls j = cls i then 1#1 else 0#1 := by
  rw [val_main_v16_apply, val_main_v10_apply, val_main_v15_apply, val_main_v8_apply, val_main_v9_apply, val_main_v4_apply, val_main_v7_apply,
    val_main_v13_apply, val_main_v14_apply]
  rw [at1 (idx_main_v4 _) i rfl, at1 (idx_main_v7 _) j rfl, at2 (idx_main_v13 _) 0 j rfl rfl, at2 (idx_main_v14 _) i 0 rfl rfl,
    rowBlock_apply, colBlock_apply, colClass_apply, rowClass_apply]
  refine (mask_blocks ⟨i.val / 64, by omega⟩ ⟨j.val / 64, by omega⟩).trans ?_
  simp only [cls, Fin.mk.injEq]

theorem ori_one : ∀ b : BitVec 1, IntOp.ori 1#1 b = 1#1 := by decide

theorem fold_ori_one (f : Fin 512 → BitVec 1) (b : BitVec 1) (i : Fin 512) (h : f i = 1#1) : Finset.univ.fold IntOp.ori b f = 1#1 := by
  rw [← Finset.insert_erase (Finset.mem_univ i), Finset.fold_insert (Finset.notMem_erase i _), h]
  exact ori_one _

/-- No row is masked out. -/
theorem kept_apply (i : Fin 512) : val_main_v27 (F := Ideal) (ix1 i) = 1#1 := by
  unfold val_main_v27
  rw [Host.reduce_eq_fold_single IntOp.ori _ _ _ (by decide : S512x512.Reduces [1] S512) _ (ix1 i)]
  refine fold_ori_one _ _ i (Eq.trans ?_ ((mask_apply i i).trans (if_pos rfl)))
  exact congrArg (val_main_v16 (F := Ideal)) (at2 _ i i rfl rfl)

/-! ## A row -/

variable (x : S16x512x768.Idx → EReal) (wq : S768x4096.Idx → EReal) (K V : S16x512x64x64.Idx → EReal) (wo : S4096x768.Idx → EReal)

/-- Component `e` of head `h` of the queries. -/
def wide (h e : Fin 64) : Fin 4096 := ⟨64 * h.val + e.val, by omega⟩

/-- The score of a row and a column. -/
def fullScore (B : Fin 16) (h : Fin 64) (i j : Fin 512) : EReal :=
  (∑ e : Fin 64, (∑ k : Fin 768, x (ix3 B i k) * wq (ix2 k (wide h e))) * K (ix4 B j h e)) * eighth

/-- The same, minus infinity where it is masked. -/
def maskedScore (B : Fin 16) (h : Fin 64) (i j : Fin 512) : EReal := if cls j = cls i then fullScore x wq K B h i j else ⊥

theorem scores_apply (B : Fin 16) (h : Fin 64) (i j : Fin 512) : val_main_v21 (F := Ideal) x wq K (ix4 B h i j) = maskedScore x wq K B h i j := by
  rw [val_main_v21_apply, val_main_call4_v1_apply, val_main_v20_apply, at2 (idx_main_v20 _) i j rfl rfl, mask_apply]
  unfold maskedScore
  by_cases hc : cls j = cls i
  · rw [if_pos hc, if_pos hc]
    refine (show _ = val_main_v19 (F := Ideal) x wq K (ix4 B h i j) from rfl).trans ?_
    rw [val_main_v19_apply, val_main_v17_apply, val_main_v18_apply, val_main_cst_apply]
    refine congrArg (· * eighth) (Finset.sum_congr rfl fun e _ => ?_)
    rw [val_main_v1_apply, val_main_v0_apply, at4 (ridx_main_v17 _ _) B j h e rfl rfl rfl rfl]
    refine congrArg (· * _) (Finset.sum_congr rfl fun k _ => ?_)
    have hB := B.isLt; have hi := i.isLt; have hh := h.isLt; have he := e.isLt
    rw [at3 (lidx_main_v0 _ _) B i k ?_ ?_ rfl, at2 (ridx_main_v0 _ _) k (wide h e) rfl ?_]
    · show (((B.val * 512 + i.val) * 64 + h.val) * 64 + e.val) % 4096 = 64 * h.val + e.val
      omega
    · show (((B.val * 512 + i.val) * 64 + h.val) * 64 + e.val) / 2097152 = B.val
      omega
    · show (((B.val * 512 + i.val) * 64 + h.val) * 64 + e.val) / 4096 % 512 = i.val
      omega
  · rw [if_neg hc, if_neg hc]
    refine (show _ = val_main_call4_v2 (F := Ideal) (ix4 B h i j) from rfl).trans ?_
    rw [val_main_call4_v2_apply, val_main_call4_v0_apply, val_main_cst_3_apply]
    exact ofBits_low

theorem largest_apply (B : Fin 16) (h : Fin 64) (i : Fin 512) : val_main_v22 (F := Ideal) x wq K (ix3 B h i) = top (maskedScore x wq K B h i) := by
  unfold val_main_v22
  rw [Host.reduce_eq_fold_single FloatOps.maximumf _ _ _ (by decide : S16x64x512x512.Reduces [3] S16x64x512) _ (ix3 B h i)]
  have e : (val_main_v21 (F := Ideal) x wq K ∘ (by decide : S16x64x512x512.Reduces [3] S16x64x512).lift (ix3 B h i)) = maskedScore x wq K B h i :=
    funext fun j => (congrArg (val_main_v21 (F := Ideal) x wq K) (at4 _ B h i j rfl rfl rfl rfl)).trans (scores_apply x wq K B h i j)
  rw [e, val_main_cst_4_apply]
  exact congrArg (fun b => Finset.fold max b (maskedScore x wq K B h i) Finset.univ) ofBits_low

theorem grown_apply (B : Fin 16) (h : Fin 64) (i j : Fin 512) :
    val_main_v26 (F := Ideal) x wq K (ix4 B h i j) = grown (maskedScore x wq K B h i) j := by
  rw [val_main_v26_apply, val_main_v25_apply, val_main_v24_apply, val_main_v23_apply, at3 (idx_main_v23 _) B h i rfl rfl rfl, scores_apply, largest_apply]
  rfl

theorem rowSum_apply (B : Fin 16) (h : Fin 64) (i : Fin 512) :
    val_main_v29 (F := Ideal) x wq K (ix3 B h i) = ∑ j : Fin 512, grown (maskedScore x wq K B h i) j := by
  rw [val_main_v29_apply, val_main_cst_6_apply]
  have h0 : (FloatOps.ofBits (F := Ideal) .f32 0x00000000#32 : EReal) = 0 := by
    show Ideal.ofBits .f32 0x00000000#32 = 0
    simp [Ideal.ofBits, Ideal.ieee]
  refine (congrArg (· + _) h0).trans ((zero_add _).trans (Finset.sum_congr rfl fun j _ => ?_))
  rw [at4 (idx_main_v29 _ _) B h i j rfl rfl rfl rfl, grown_apply]

theorem weight_apply (B : Fin 16) (h : Fin 64) (i j : Fin 512) :
    val_main_v35 (F := Ideal) x wq K (ix4 B h i j)
      = Ideal.div (grown (maskedScore x wq K B h i) j) (∑ b, grown (maskedScore x wq K B h i) b) := by
  rw [val_main_v35_apply, val_main_call6_v1_apply, val_main_v34_apply, at1 (idx_main_v34 _) i rfl, kept_apply]
  refine (show _ = val_main_v33 (F := Ideal) x wq K (ix4 B h i j) from rfl).trans ?_
  rw [val_main_v33_apply, val_main_v32_apply, val_main_v31_apply, val_main_call5_v1_apply, val_main_v28_apply, at1 (idx_main_v28 _) i rfl, kept_apply,
    grown_apply]
  refine (show _ = Ideal.div _ (val_main_v30 (F := Ideal) x wq K (idx_main_v32 (ix4 B h i j))) from rfl).trans ?_
  rw [val_main_v30_apply, at3 (idx_main_v30 _) B h i rfl rfl rfl, rowSum_apply]

theorem context_apply (B : Fin 16) (h d : Fin 64) (i : Fin 512) :
    val_main_v36 (F := Ideal) x wq K V (ix4 B h d i) = attendRow (maskedScore x wq K B h i) fun j => V (ix4 B j h d) := by
  rw [val_main_v36_apply]
  refine Finset.sum_congr rfl fun j _ => ?_
  rw [at4 (lidx_main_v36 _ _) B j h d rfl rfl rfl rfl, at4 (ridx_main_v36 _ _) B h i j rfl rfl rfl rfl, weight_apply]
  exact mul_comm _ _

/-- The reference's result at an index. -/
theorem reference_apply (B : Fin 16) (i : Fin 512) (e : Fin 768) :
    val_main_v39 (F := Ideal) x wq K V wo (ix3 B i e)
      = ∑ k : Fin 4096, attendRow (maskedScore x wq K B ⟨k.val / 64, by omega⟩ i)
          (fun j => V (ix4 B j (⟨k.val / 64, by omega⟩ : Fin 64) (⟨k.val % 64, Nat.mod_lt _ (by decide)⟩ : Fin 64))) * wo (ix2 k e) := by
  rw [val_main_v39_apply]
  refine Finset.sum_congr rfl fun k _ => ?_
  rw [val_main_v38_apply, val_main_v37_apply, at2 (ridx_main_v39 _ _) k e rfl rfl]
  have hB := B.isLt; have hi := i.isLt; have hk := k.isLt
  refine congrArg (· * _) ((congrArg (val_main_v36 (F := Ideal) x wq K V) (at4 _ B ⟨k.val / 64, by omega⟩ ⟨k.val % 64, Nat.mod_lt _ (by decide)⟩ i
    ?_ ?_ ?_ ?_)).trans (context_apply x wq K V B _ _ i))
  · show ((B.val * 512 + i.val) * 4096 + k.val) / 2097152 = B.val
    omega
  · show ((B.val * 512 + i.val) * 4096 + k.val) / 64 % 64 = k.val / 64
    omega
  · show ((B.val * 512 + i.val) * 4096 + k.val) % 64 = k.val % 64
    omega
  · show ((B.val * 512 + i.val) * 4096 + k.val) / 4096 % 512 = i.val
    omega

end Cert.Proof.Ring
-- ==== Proof.Equation.lean ====
/- The equation: what a device computes is its block of what the reference computes. -/
module

public import proofs.«01_k».proof.Proof.Softmax
public import proofs.«01_k».proof.Proof.Sum
public import proofs.«01_k».proof.Proof.Ref

@[expose] public section

noncomputable section

namespace Cert.Proof.Ring

open Idealize.ShloMosaic Idealize.ShloMosaic.TcCoe Idealize.ShloMosaic.ValueIdx

/-! ## The columns that a row keeps -/

theorem cls_pairRow (g : Fin 4) (a : Fin 128) : cls (pairRow g a) = g := Fin.ext (by
  show (64 * (g.val + 4 * (a.val / 64)) + a.val % 64) / 64 % 4 = g.val
  omega)

theorem pairRow_injective (g : Fin 4) : Function.Injective (pairRow g) := fun a b h => Fin.ext (by
  have h' : 64 * (g.val + 4 * (a.val / 64)) + a.val % 64 = 64 * (g.val + 4 * (b.val / 64)) + b.val % 64 := congrArg Fin.val h
  omega)

theorem mem_pairRow (g : Fin 4) (j : Fin 512) (h : cls j = g) : j ∈ Set.range (pairRow g) :=
  ⟨⟨64 * (j.val / 256) + j.val % 64, by omega⟩, Fin.ext (by
    subst h
    show 64 * (j.val / 64 % 4 + 4 * ((64 * (j.val / 256) + j.val % 64) / 64)) + (64 * (j.val / 256) + j.val % 64) % 64 = j.val
    omega)⟩

theorem isReal_eighth : IsReal eighth := by
  refine ⟨1 / 8, ?_⟩
  unfold eighth
  simp [Ideal.ofBits, Ideal.ieee]
  norm_num
  rw [← EReal.coe_mul]
  norm_num

/-! ## One device -/

/-- Batch `b` of device `c` in the whole array; entry `k` of group `g`. -/
def batchOf (c : Fin 8) (b : Fin 2) : Fin 16 := ⟨2 * c.val + b.val, by omega⟩
def entryOf (g : Fin 8) (k : Fin 512) : Fin 4096 := ⟨512 * g.val + k.val, by omega⟩

section Device
variable (X : (⟨3, ![16, 512, 768]⟩ : Shape).Idx → EReal) (Wq : (⟨2, ![768, 4096]⟩ : Shape).Idx → EReal)
  (K V : (⟨4, ![16, 512, 64, 64]⟩ : Shape).Idx → EReal) (Wo : (⟨2, ![4096, 768]⟩ : Shape).Idx → EReal)
  (W : Weights Ideal) (c : Fin 8) (x : (⟨3, ![2, 512, 768]⟩ : Shape).Idx → EReal) (keys vals : (⟨4, ![2, 512, 64, 64]⟩ : Shape).Idx → EReal)
  (hx : ∀ b i k, x (ix3 b i k) = X (ix3 (batchOf c b) i k)) (hq : ∀ g k l, W.q g (ix2 k l) = Wq (ix2 k (entryOf g l)))
  (hk : ∀ b j h d, keys (ix4 b j h d) = K (ix4 (batchOf c b) j h d)) (hv : ∀ b j h d, vals (ix4 b j h d) = V (ix4 (batchOf c b) j h d))
  (ho : ∀ g k e, W.o g (ix2 k e) = Wo (ix2 (entryOf g k) e))
  (rx : ∀ b i k, IsReal (x (ix3 b i k))) (rq : ∀ g k l, IsReal (W.q g (ix2 k l))) (rk : ∀ b j h d, IsReal (keys (ix4 b j h d)))

include hx hq hk in
theorem score_eq (g h : Fin 8) (b : Fin 2) (i j : Fin 512) :
    (∑ e : Fin 64, queriesOf (F := Ideal) x (W.q g) (ix4 b h i e) * groupKV keys g h (ix3 b j e)) * eighth
      = fullScore X Wq K (batchOf c b) (groupHead g h) i j := by
  unfold fullScore
  refine congrArg (· * eighth) (Finset.sum_congr rfl fun e _ => ?_)
  rw [queriesOf_apply]
  have hw : ∀ k : Fin 768, W.q g (ix2 k (col h e)) = Wq (ix2 k (wide (groupHead g h) e)) := fun k => (hq g k (col h e)).trans
    (congrArg (fun l => Wq (ix2 k l)) (Fin.ext (by
      show 512 * g.val + (64 * h.val + e.val) = 64 * (8 * g.val + h.val) + e.val
      omega)))
  refine congrArg₂ (· * ·) (Finset.sum_congr rfl fun k _ => ?_) (hk b j (groupHead g h) e)
  rw [hx, hw]

include rx rq rk in
theorem score_real (g h : Fin 8) (b : Fin 2) (i j : Fin 512) :
    IsReal ((∑ e : Fin 64, queriesOf (F := Ideal) x (W.q g) (ix4 b h i e) * groupKV keys g h (ix3 b j e)) * eighth) := by
  refine (IsReal.sum _ _ fun e => ?_).mul isReal_eighth
  rw [queriesOf_apply]
  exact (IsReal.sum _ _ fun k => (rx b i k).mul (rq g k (col h e))).mul (rk b j (groupHead g h) e)

include hx hq hk hv rx rq rk in
/-- A head of a group, attended over the columns kept, is the head attended over all of them with the others masked. -/
theorem attended_eq (g h : Fin 8) (b : Fin 2) (i : Fin 512) (d : Fin 64) :
    attOf (queriesOf (F := Ideal) x (W.q g)) (groupKV keys g) (groupKV vals g) (ix4 b h i d)
      = attendRow (maskedScore X Wq K (batchOf c b) (groupHead g h) i) fun j => V (ix4 (batchOf c b) j (groupHead g h) d) := by
  rw [attOf_apply]
  refine Eq.trans ?_ (attendRow_sparse (pairRow (cls i)) (pairRow_injective (cls i)) _ _ (fun a => ?_) (fun j hj => ?_)
    (fun a => score_real W x keys rx rq rk g h b i (pairRow (cls i) a)) _).symm
  · exact congrArg (attendRow _) (funext fun a => hv b _ (groupHead g h) d)
  · exact (if_pos (cls_pairRow (cls i) a)).trans (score_eq X Wq K W c x keys hx hq hk g h b i (pairRow (cls i) a)).symm
  · exact if_neg fun hc => hj (mem_pairRow (cls i) j hc)

/-- A sum over all entries, group by group. -/
theorem sum_entries (f : Fin 4096 → EReal) : ∑ k : Fin 4096, f k = ∑ g : Fin 8, ∑ k : Fin 512, f (entryOf g k) := by
  rw [← Fintype.sum_prod_type']
  refine (Equiv.sum_comp (finProdFinEquiv : Fin 8 × Fin 512 ≃ Fin 4096) f).symm.trans (Finset.sum_congr rfl fun p _ => congrArg f (Fin.ext ?_))
  show p.2.val + 512 * p.1.val = 512 * p.1.val + p.2.val
  exact Nat.add_comm _ _

include hx hq hk hv ho rx rq rk in
theorem device_eq (b : Fin 2) (i : Fin 512) (e : Fin 768) :
    ∑ g : Fin 8, share W keys vals x g b i e
      = Cert.ReferenceIdeal.Read.val_main_v39 (F := Ideal) X Wq K V Wo (ix3 (batchOf c b) i e) := by
  rw [reference_apply, sum_entries]
  refine Finset.sum_congr rfl fun g _ => ?_
  unfold share
  rw [partOf_apply]
  refine Finset.sum_congr rfl fun k _ => ?_
  rw [attended_eq X Wq K V W c x keys vals hx hq hk hv rx rq rk, ho]
  have hg := g.isLt; have hk' := k.isLt
  have e1 : (⟨(entryOf g k).val / 64, by omega⟩ : Fin 64) = groupHead g ⟨k.val / 64, by omega⟩ := Fin.ext (by
    show (512 * g.val + k.val) / 64 = 8 * g.val + k.val / 64
    omega)
  have e2 : (⟨(entryOf g k).val % 64, Nat.mod_lt _ (by decide)⟩ : Fin 64) = ⟨k.val % 64, Nat.mod_lt _ (by decide)⟩ := Fin.ext (by
    show (512 * g.val + k.val) % 64 = k.val % 64
    omega)
  rw [e1, e2]

end Device

end Cert.Proof.Ring
-- ==== Proof.lean ====
/- The claims of this certificate, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation
public import proofs.«01_k».proof.Proof.Run

@[expose] public section

noncomputable section

namespace Cert.Proof

open Idealize.ShloMosaic Idealize.ShloMosaic.TcCoe Idealize.SL.Sem

/-- The two prints of the kernel have one text: their tables of bodies are equal, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))
theorem defs_eq : Cert.Kernel.defs (F := Bits) = Cert.KernelIdeal.defs (F := Bits) :=
  congrArg (Pipeline.defs (Cert.KernelIdeal.pcfgs (F := Bits))) defs₀_eq
/-- and so are their runs. -/
theorem run_eq : θ_run (Cert.Kernel.defs (F := Bits)) (onTc (Cert.Kernel.main (F := Bits)))
    = θ_run (Cert.KernelIdeal.defs (F := Bits)) (onTc (Cert.KernelIdeal.main (F := Bits))) :=
  congrArg (fun d => θ_run d (onTc (Cert.KernelIdeal.main (F := Bits)))) defs_eq

theorem frame_kernel : Cert.quiescent_Kernel := fun m ρ _ => by
  have h := (θ_run Cert.KernelIdeal.defs _ _).mono
    (fun _ (h : Ring.AllDone (F := Bits) m _) => (⟨fun c => (h.1 c).2, h.2⟩ : _ ∧ _)) (Ring.run_main (F := Bits) m ρ)
  rw [← run_eq] at h
  exact h

theorem frame_kernelIdeal : Cert.quiescent_KernelIdeal := fun m ρ _ =>
  (θ_run Cert.KernelIdeal.defs _ _).mono (fun _ h => ⟨fun c => (h.1 c).2, h.2⟩) (Ring.run_main (F := Ideal) m ρ)

theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run m ρ)

theorem frame_kernelIdeal_finite [Cert.Pre_finite_KernelIdeal.Facts] : Cert.quiescent_KernelIdeal_pre_finite_KernelIdeal := fun m ρ _ =>
  frame_kernelIdeal m ρ trivial
theorem frame_reference_finite [Cert.Pre_finite_ReferenceIdeal.Facts] : Cert.quiescent_ReferenceIdeal_pre_finite_ReferenceIdeal := fun m ρ _ =>
  frame_reference m ρ trivial

/-! ## The value -/

theorem ofBits_high : Ideal.ofBits .f32 0x7F800000#32 = ⊤ := by
  simp [Ideal.ofBits, Ideal.ieee]

/-- A value that compares below infinity in magnitude. -/
theorem isReal_of_cmp {y : EReal} (h : FloatOps.cmpf (F := Ideal) (φ := .f32) .olt (FloatOps.hostAbsf (F := Ideal) (φ := .f32) y)
    (Ideal.ofBits .f32 0x7F800000#32) = 1#1) : Ring.IsReal y := by
  refine Ring.isReal_of_abs_lt ?_
  rw [← ofBits_high]
  by_contra hn
  have : FloatOps.cmpf (F := Ideal) (φ := .f32) .olt (FloatOps.hostAbsf (F := Ideal) (φ := .f32) y) (Ideal.ofBits .f32 0x7F800000#32) = 0#1 := by
    show BitVec.ofBool (decide (max y (-y) < Ideal.ofBits .f32 0x7F800000#32)) = 0#1
    rw [decide_eq_false hn]
    rfl
  rw [this] at h
  exact absurd h (by decide)

/-- Where a block's coordinate lies on the axis that is cut. -/
theorem first_axis (n c b : ℕ) : c * n + b = n * c + b := by rw [Nat.mul_comm]

open Idealize.ShloMosaic.ValueIdx in
/-- Every device ends with its block of what the reference computes, the inputs of the scores being finite. -/
theorem algebraic [Cert.Pre_finite_KernelIdeal.Facts] : Cert.algebraic_KernelIdeal_ReferenceIdeal_pre_finite_KernelIdeal :=
    fun m g m' g' hp ha => by
  refine ⟨Cert.ReferenceIdeal.Value.res_main_v39 m' 0, ?_, ?_⟩
  · refine (θ_run Cert.KernelIdeal.defs _ _).mono (fun r h c => ⟨(h.1 c).1.trans ?_, (h.1 c).2⟩) (Ring.run_main (F := Ideal) m g)
    rw [Cert.ReferenceIdeal.Read.val_main_v39_eq]
    funext j
    obtain ⟨b, i, e, rfl⟩ : ∃ (b : Fin 2) (i : Fin 512) (e : Fin 768), j = ix3 b i e := ⟨j 0, j 1, j 2, Ring.at3 j _ _ _ rfl rfl rfl⟩
    refine (Ring.total_apply (Ring.weights m) c (Ring.keysAt m c) (Ring.valsAt m c) (Ring.xAt m c) (Ring.xAt m c) b i e).trans ?_
    refine (Ring.device_eq (m' ((0 : Dev Cert.ReferenceIdeal.nD).tc.loc Cert.ReferenceIdeal.main_arg0))
      (m' ((0 : Dev Cert.ReferenceIdeal.nD).tc.loc Cert.ReferenceIdeal.main_arg1)) (m' ((0 : Dev Cert.ReferenceIdeal.nD).tc.loc Cert.ReferenceIdeal.main_arg2))
      (m' ((0 : Dev Cert.ReferenceIdeal.nD).tc.loc Cert.ReferenceIdeal.main_arg3)) (m' ((0 : Dev Cert.ReferenceIdeal.nD).tc.loc Cert.ReferenceIdeal.main_arg4))
      (Ring.weights m) c (Ring.xAt m c) (Ring.keysAt m c) (Ring.valsAt m c) ?_ ?_ ?_ ?_ ?_ ?_ ?_ ?_ b i e).trans ?_
    · intro b i k
      exact (congrFun (ha c).1 (ix3 b i k)).trans (congrArg _ (Ring.at3 _ (Ring.batchOf c b) i k (first_axis 2 c.val b.val) rfl rfl))
    · intro g k l
      exact (congrFun (ha g).2.1 (ix2 k l)).trans (congrArg _ (Ring.at2 _ k (Ring.entryOf g l) rfl (first_axis 512 g.val l.val)))
    · intro b j h d
      exact (congrFun (ha c).2.2.1 (ix4 b j h d)).trans (congrArg _ (Ring.at4 _ (Ring.batchOf c b) j h d (first_axis 2 c.val b.val) rfl rfl rfl))
    · intro b j h d
      exact (congrFun (ha c).2.2.2.1 (ix4 b j h d)).trans (congrArg _ (Ring.at4 _ (Ring.batchOf c b) j h d (first_axis 2 c.val b.val) rfl rfl rfl))
    · intro g k e
      exact (congrFun (ha g).2.2.2.2 (ix2 k e)).trans (congrArg _ (Ring.at2 _ (Ring.entryOf g k) e (first_axis 512 g.val k.val) rfl))
    · intro b i k
      exact isReal_of_cmp (congrFun (hp c).1 (ix3 b i k))
    · intro g k l
      exact isReal_of_cmp (congrFun (hp g).2.1 (ix2 k l))
    · intro b j h d
      exact isReal_of_cmp (congrFun (hp c).2.2 (ix4 b j h d))
    · exact (congrArg _ (Ring.at3 _ (Ring.batchOf c b) i e (first_axis 2 c.val b.val) rfl rfl)).symm
  · exact (θ_run Cert.ReferenceIdeal.defs _ _).mono (fun r h => h 0) (Cert.ReferenceIdeal.Value.run m' g')

theorem facts_kernel : Cert.Pre_finite_KernelIdeal.Facts := ⟨by decide, by decide, by decide⟩
theorem facts_reference : Cert.Pre_finite_ReferenceIdeal.Facts := ⟨by decide, by decide, by decide⟩

theorem claim : Cert.Claim :=
  ⟨_, _, _, facts_kernel, facts_reference, frame_kernel, frame_kernelIdeal, @frame_kernelIdeal_finite facts_kernel, frame_reference,
    @frame_reference_finite facts_reference, trivial, @algebraic facts_kernel⟩

end Cert.Proof
